-- ==== Defs.lean ====
def Pre_Kernel [hPre_slots_suffice_Kernel : Cert.Pre_slots_suffice_Kernel.Facts] (m : (ℓ : Loc Cert.Kernel.nD Cert.Kernel.τ Cert.Kernel.sig) → Buf (Elt Bits) ℓ) : Prop :=
  ∀ c : Dev Cert.Kernel.nD,
    (Cert.Pre_slots_suffice_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_suffice_Kernel : Cert.Pre_slots_suffice_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_slots_suffice_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_suffice_ReferenceIdeal [hPre_slots_suffice_ReferenceIdeal : Cert.Pre_slots_suffice_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_suffice_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_slots_suffice_Kernel : Cert.Pre_slots_suffice_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_suffice_Kernel : Cert.Pre_slots_suffice_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_slots_suffice_ReferenceIdeal [hReferenceIdeal : Cert.ReferenceIdeal.Facts] [hPre_slots_suffice_ReferenceIdeal : Cert.Pre_slots_suffice_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_suffice_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_balanced [hKernelIdeal : Cert.KernelIdeal.Facts] [hReferenceIdeal : Cert.ReferenceIdeal.Facts] [hPre_slots_suffice_Kernel : Cert.Pre_slots_suffice_Kernel.Facts] [hOn_balanced : Cert.On_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![4096]⟩ ⟨1, ![16384]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Layout.block ⟨2, ![4096, 1024]⟩ ⟨2, ![16384, 1024]⟩ 0 4 c ((Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 1024]⟩ : Shape).Idx → _) i = 1#1 → r.2.mem ((c.tc : Thread Cert.KernelIdeal.nD Cert.KernelIdeal.τ).loc Cert.KernelIdeal.main_v26) i = (Layout.block ⟨2, ![4096, 1024]⟩ ⟨2, ![16384, 1024]⟩ 0 4 c v0 : (⟨2, ![4096, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![16384, 1024]⟩ : Shape).Idx, (Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v7) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_slots_suffice_Kernel : Cert.Pre_slots_suffice_Kernel.Facts) (hPre_slots_suffice_ReferenceIdeal : Cert.Pre_slots_suffice_ReferenceIdeal.Facts) (hOn_balanced : Cert.On_balanced.Facts),
    quiescent_Kernel (hKernel := hKernel) (hPre_slots_suffice_Kernel := hPre_slots_suffice_Kernel)
    ∧ quiescent_KernelIdeal (hKernelIdeal := hKernelIdeal) (hPre_slots_suffice_Kernel := hPre_slots_suffice_Kernel)
    ∧ quiescent_ReferenceIdeal (hReferenceIdeal := hReferenceIdeal)
    ∧ quiescent_ReferenceIdeal_pre_slots_suffice_ReferenceIdeal (hReferenceIdeal := hReferenceIdeal) (hPre_slots_suffice_ReferenceIdeal := hPre_slots_suffice_ReferenceIdeal)
    ∧ preserves_Kernel_KernelIdeal
    ∧ algebraic_KernelIdeal_ReferenceIdeal_on_balanced (hKernelIdeal := hKernelIdeal) (hReferenceIdeal := hReferenceIdeal) (hPre_slots_suffice_Kernel := hPre_slots_suffice_Kernel) (hOn_balanced := hOn_balanced)
-- ==== On_balanced.lean ====
abbrev S16384x1024 : Shape := ⟨2, ![16384, 1024]⟩
abbrev S16384 : Shape := ⟨1, ![16384]⟩
abbrev S4 : Shape := ⟨1, ![4]⟩
abbrev S16384x1 : Shape := ⟨2, ![16384, 1]⟩
abbrev S1x4 : Shape := ⟨2, ![1, 4]⟩
abbrev S16384x4 : Shape := ⟨2, ![16384, 4]⟩
abbrev S_ : Shape := ⟨0, ![]⟩

class Facts : Prop where
  bcast_S16384_S16384x1_0 : S16384.BroadcastsInDim S16384x1 (![0] : Fin 1 → Fin S16384x1.rank)
  bcast_S4_S1x4_1 : S4.BroadcastsInDim S1x4 (![1] : Fin 1 → Fin S1x4.rank)
  bcast_S16384x1_S16384x4_0_1 : S16384x1.BroadcastsInDim S16384x4 (![0, 1] : Fin 2 → Fin S16384x4.rank)
  bcast_S1x4_S16384x4_0_1 : S1x4.BroadcastsInDim S16384x4 (![0, 1] : Fin 2 → Fin S16384x4.rank)
  natLt_1_32 : 1 < 32
  reducesTo_S16384x4_S4_d0 : S16384x4.ReducesTo [0] S4
  h_S_ : 0 < S_.numel
  bcast_S_S4 : S_.BroadcastsInDim S4 (![] : Fin 0 → Fin S4.rank)
  reducesTo_S4_S_d0 : S4.ReducesTo [0] S_
  bcast_S_S16384x1024 : S_.BroadcastsInDim S16384x1024 (![] : Fin 0 → Fin S16384x1024.rank)

variable [Facts]

def fn {F : FTy → Type} [FloatOps F] (main_arg0 : FVec F S16384x1024 .f32) (main_arg1 : IVec S16384 32) : IVec S16384x1024 1 :=
  let main_v0 : IVec S4 32 := iotaInDim S4 32 0
  let main_v1 : IVec S16384x1 32 := broadcastInDim S16384x1 ![0] bcast_S16384_S16384x1_0 main_arg1
  let main_v2 : IVec S1x4 32 := broadcastInDim S1x4 ![1] bcast_S4_S1x4_1 main_v0
  let main_v3 : IVec S16384x4 32 := broadcastInDim S16384x4 ![0, 1] bcast_S16384x1_S16384x4_0_1 main_v1
  let main_v4 : IVec S16384x4 32 := broadcastInDim S16384x4 ![0, 1] bcast_S1x4_S16384x4_0_1 main_v2
  let main_v5 : IVec S16384x4 1 := cmpi .eq main_v3 main_v4
  let main_v6 : IVec S16384x4 32 := (extui 32 · natLt_1_32) main_v5
  let main_c : IVec S_ 32 := constantI S_ 32 0#32
  let main_v7 : IVec S4 32 := (fun x v => Host.reduce IntOp.addi x v reducesTo_S16384x4_S4_d0 h_S_) main_v6 main_c
  let main_c_0 : IVec S_ 32 := constantI S_ 32 4096#32
  let main_v8 : IVec S4 32 := broadcastInDim S4 ![] bcast_S_S4 main_c_0
  let main_v9 : IVec S4 1 := cmpi .eq main_v7 main_v8
  let main_c_1 : IVec S_ 1 := constantI S_ 1 1#1
  let main_v10 : IVec S_ 1 := (fun x v => Host.reduce IntOp.andi x v reducesTo_S4_S_d0 h_S_) main_v9 main_c_1
  let main_v11 : IVec S16384x1024 1 := broadcastInDim S16384x1024 ![] bcast_S_S16384x1024 main_v10
  main_v11
-- ==== Pre_slots_suffice_Kernel.lean ====
abbrev S4096x1024 : Shape := ⟨2, ![4096, 1024]⟩
abbrev S4096 : Shape := ⟨1, ![4096]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S_ : Shape := ⟨0, ![]⟩

class Facts : Prop where
  bcast_S4096_S4096x1_0 : S4096.BroadcastsInDim S4096x1 (![0] : Fin 1 → Fin S4096x1.rank)
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  natLt_1_32 : 1 < 32
  reducesTo_S4096x4_S4_d0 : S4096x4.ReducesTo [0] S4
  h_S_ : 0 < S_.numel
  bcast_S_S4096 : S_.BroadcastsInDim S4096 (![] : Fin 0 → Fin S4096.rank)
  reducesTo_S4096_S_d0 : S4096.ReducesTo [0] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4096x1024 .f32) (main_arg1 : IVec S4096 32) : IVec S_ 1 :=
  let main_v0 : IVec S4 32 := iotaInDim S4 32 0
  let main_v1 : IVec S4096x1 32 := broadcastInDim S4096x1 ![0] bcast_S4096_S4096x1_0 main_arg1
  let main_v2 : IVec S1x4 32 := broadcastInDim S1x4 ![1] bcast_S4_S1x4_1 main_v0
  let main_v3 : IVec S4096x4 32 := broadcastInDim S4096x4 ![0, 1] bcast_S4096x1_S4096x4_0_1 main_v1
  let main_v4 : IVec S4096x4 32 := broadcastInDim S4096x4 ![0, 1] bcast_S1x4_S4096x4_0_1 main_v2
  let main_v5 : IVec S4096x4 1 := cmpi .eq main_v3 main_v4
  let main_v6 : IVec S4096x4 32 := (extui 32 · natLt_1_32) main_v5
  let main_c : IVec S_ 32 := constantI S_ 32 0#32
  let main_v7 : IVec S4 32 := (fun x v => Host.reduce IntOp.addi x v reducesTo_S4096x4_S4_d0 h_S_) main_v6 main_c
  let main_c_0 : IVec S_ 32 := constantI S_ 32 0#32
  let main_v8 : IVec S4096 32 := broadcastInDim S4096 ![] bcast_S_S4096 main_c_0
  let main_v9 : IVec S4096 1 := cmpi .sge main_arg1 main_v8
  let main_c_1 : IVec S_ 32 := constantI S_ 32 4#32
  let main_v10 : IVec S4096 32 := broadcastInDim S4096 ![] bcast_S_S4096 main_c_1
  let main_v11 : IVec S4096 1 := cmpi .slt main_arg1 main_v10
  let main_v12 : IVec S4096 1 := andi main_v9 main_v11
  let main_c_2 : IVec S_ 1 := constantI S_ 1 1#1
  let main_v13 : IVec S_ 1 := (fun x v => Host.reduce IntOp.andi x v reducesTo_S4096_S_d0 h_S_) main_v12 main_c_2
  let main_c_3 : IVec S_ 32 := constantI S_ 32 1152#32
  let main_v14 : IVec S4 32 := broadcastInDim S4 ![] bcast_S_S4 main_c_3
  let main_v15 : IVec S4 1 := cmpi .sle main_v7 main_v14
  let main_c_4 : IVec S_ 1 := constantI S_ 1 1#1
  let main_v16 : IVec S_ 1 := (fun x v => Host.reduce IntOp.andi x v reducesTo_S4_S_d0 h_S_) main_v15 main_c_4
  let main_v17 : IVec S_ 1 := andi main_v13 main_v16
  main_v17
-- ==== Pre_slots_suffice_ReferenceIdeal.lean ====
abbrev S16384x1024 : Shape := ⟨2, ![16384, 1024]⟩
abbrev S16384 : Shape := ⟨1, ![16384]⟩
abbrev S4 : Shape := ⟨1, ![4]⟩
abbrev S16384x1 : Shape := ⟨2, ![16384, 1]⟩
abbrev S1x4 : Shape := ⟨2, ![1, 4]⟩
abbrev S16384x4 : Shape := ⟨2, ![16384, 4]⟩
abbrev S_ : Shape := ⟨0, ![]⟩

class Facts : Prop where
  bcast_S16384_S16384x1_0 : S16384.BroadcastsInDim S16384x1 (![0] : Fin 1 → Fin S16384x1.rank)
  bcast_S4_S1x4_1 : S4.BroadcastsInDim S1x4 (![1] : Fin 1 → Fin S1x4.rank)
  bcast_S16384x1_S16384x4_0_1 : S16384x1.BroadcastsInDim S16384x4 (![0, 1] : Fin 2 → Fin S16384x4.rank)
  bcast_S1x4_S16384x4_0_1 : S1x4.BroadcastsInDim S16384x4 (![0, 1] : Fin 2 → Fin S16384x4.rank)
  natLt_1_32 : 1 < 32
  reducesTo_S16384x4_S4_d0 : S16384x4.ReducesTo [0] S4
  h_S_ : 0 < S_.numel
  bcast_S_S16384 : S_.BroadcastsInDim S16384 (![] : Fin 0 → Fin S16384.rank)
  reducesTo_S16384_S_d0 : S16384.ReducesTo [0] S_
  bcast_S_S4 : S_.BroadcastsInDim S4 (![] : Fin 0 → Fin S4.rank)
  reducesTo_S4_S_d0 : S4.ReducesTo [0] S_

variable [Facts]

def fn {F : FTy → Type} [FloatOps F] (main_arg0 : FVec F S16384x1024 .f32) (main_arg1 : IVec S16384 32) : IVec S_ 1 :=
  let main_v0 : IVec S4 32 := iotaInDim S4 32 0
  let main_v1 : IVec S16384x1 32 := broadcastInDim S16384x1 ![0] bcast_S16384_S16384x1_0 main_arg1
  let main_v2 : IVec S1x4 32 := broadcastInDim S1x4 ![1] bcast_S4_S1x4_1 main_v0
  let main_v3 : IVec S16384x4 32 := broadcastInDim S16384x4 ![0, 1] bcast_S16384x1_S16384x4_0_1 main_v1
  let main_v4 : IVec S16384x4 32 := broadcastInDim S16384x4 ![0, 1] bcast_S1x4_S16384x4_0_1 main_v2
  let main_v5 : IVec S16384x4 1 := cmpi .eq main_v3 main_v4
  let main_v6 : IVec S16384x4 32 := (extui 32 · natLt_1_32) main_v5
  let main_c : IVec S_ 32 := constantI S_ 32 0#32
  let main_v7 : IVec S4 32 := (fun x v => Host.reduce IntOp.addi x v reducesTo_S16384x4_S4_d0 h_S_) main_v6 main_c
  let main_c_0 : IVec S_ 32 := constantI S_ 32 0#32
  let main_v8 : IVec S16384 32 := broadcastInDim S16384 ![] bcast_S_S16384 main_c_0
  let main_v9 : IVec S16384 1 := cmpi .sge main_arg1 main_v8
  let main_c_1 : IVec S_ 32 := constantI S_ 32 4#32
  let main_v10 : IVec S16384 32 := broadcastInDim S16384 ![] bcast_S_S16384 main_c_1
  let main_v11 : IVec S16384 1 := cmpi .slt main_arg1 main_v10
  let main_v12 : IVec S16384 1 := andi main_v9 main_v11
  let main_c_2 : IVec S_ 1 := constantI S_ 1 1#1
  let main_v13 : IVec S_ 1 := (fun x v => Host.reduce IntOp.andi x v reducesTo_S16384_S_d0 h_S_) main_v12 main_c_2
  let main_c_3 : IVec S_ 32 := constantI S_ 32 1152#32
  let main_v14 : IVec S4 32 := broadcastInDim S4 ![] bcast_S_S4 main_c_3
  let main_v15 : IVec S4 1 := cmpi .sle main_v7 main_v14
  let main_c_4 : IVec S_ 1 := constantI S_ 1 1#1
  let main_v16 : IVec S_ 1 := (fun x v => Host.reduce IntOp.andi x v reducesTo_S4_S_d0 h_S_) main_v15 main_c_4
  let main_v17 : IVec S_ 1 := andi main_v13 main_v16
  main_v17
-- ==== Kernel.lean ====
abbrev S4096x1024 : Shape := ⟨2, ![4096, 1024]⟩
abbrev S4096 : Shape := ⟨1, ![4096]⟩
abbrev S4096x1 : Shape := ⟨2, ![4096, 1]⟩
abbrev S4 : Shape := ⟨1, ![4]⟩
abbrev S1x4 : Shape := ⟨2, ![1, 4]⟩
abbrev S4096x4 : Shape := ⟨2, ![4096, 4]⟩
abbrev S_ : Shape := ⟨0, ![]⟩
abbrev S8x128 : Shape := ⟨2, ![8, 128]⟩
abbrev S1 : Shape := ⟨1, ![1]⟩
abbrev S2 : Shape := ⟨1, ![2]⟩
abbrev S4096x8x128 : Shape := ⟨3, ![4096, 8, 128]⟩
abbrev S5248x8x128 : Shape := ⟨3, ![5248, 8, 128]⟩
abbrev S4608x8x128 : Shape := ⟨3, ![4608, 8, 128]⟩
abbrev S3x1152x8x128 : Shape := ⟨4, ![3, 1152, 8, 128]⟩
abbrev S4x8x128 : Shape := ⟨3, ![4, 8, 128]⟩
abbrev S1x8x128 : Shape := ⟨3, ![1, 8, 128]⟩
abbrev S1x1152x8x128 : Shape := ⟨4, ![1, 1152, 8, 128]⟩
abbrev S1152x8x128 : Shape := ⟨3, ![1152, 8, 128]⟩
abbrev S1x1x1 : Shape := ⟨3, ![1, 1, 1]⟩

abbrev nBuf : Space → Nat
  | .hbm => 36
  | .vmem => 5
  | .smem => 3
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1, .i32⟩
  | .hbm, ⟨3, _⟩ => ⟨S4, .i32⟩
  | .hbm, ⟨4, _⟩ => ⟨S1x4, .i32⟩
  | .hbm, ⟨5, _⟩ => ⟨S4096x4, .i32⟩
  | .hbm, ⟨6, _⟩ => ⟨S4096x4, .i32⟩
  | .hbm, ⟨7, _⟩ => ⟨S4096x4, .i1⟩
  | .hbm, ⟨8, _⟩ => ⟨S4096x4, .i32⟩
  | .hbm, ⟨9, _⟩ => ⟨S_, .i32⟩
  | .hbm, ⟨10, _⟩ => ⟨S_, .i32⟩
  | .hbm, ⟨11, _⟩ => ⟨S4096x4, .i32⟩
  | .hbm, ⟨12, _⟩ => ⟨S4096x4, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S1x4, .i32⟩
  | .hbm, ⟨19, _⟩ => ⟨S4, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S8x128, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S8x128, .i32⟩
  | .hbm, ⟨32, _⟩ => ⟨S4096x8x128, .f32⟩
  | .hbm, ⟨33, _⟩ => ⟨S5248x8x128, .f32⟩
  | .hbm, ⟨34, _⟩ => ⟨S4096x8x128, .f32⟩
  | .hbm, ⟨35, _⟩ => ⟨S4096x1024, .f32⟩
  | .local _ .vmem, ⟨0, _⟩ => ⟨S4096x8x128, .f32⟩
  | .local _ .vmem, ⟨1, _⟩ => ⟨S8x128, .i32⟩
  | .local _ .vmem, ⟨2, _⟩ => ⟨S4608x8x128, .f32⟩
  | .local _ .vmem, ⟨3, _⟩ => ⟨S3x1152x8x128, .f32⟩
  | .local _ .vmem, ⟨4, _⟩ => ⟨S4x8x128, .i32⟩
  | .local _ .smem, ⟨0, _⟩ => ⟨S4096, .i32⟩
  | .local _ .smem, ⟨1, _⟩ => ⟨S4, .i32⟩
  | .local _ .smem, ⟨2, _⟩ => ⟨S4x8x128, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_call0_c : Ref sig .tc := ⟨.hbm, 9, rfl⟩
abbrev main_call0_call0_v0 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
@[reducible] def k0_t1_loop : Scf.Loop 32 :=
  let c0_i32_27 : BitVec 32 := 0#32
  let c4096_i32 : BitVec 32 := 4096#32
  let v43 : BitVec 32 := Scalar.addi c0_i32_27 c4096_i32
  let c1_i32_28 : BitVec 32 := 1#32
  ⟨c0_i32_27, v43, c1_i32_28⟩
def k0_off1 (k0_t1 : Fin k0_t1_loop.trips) : Fin 3 → Nat :=
  let c0_i32_27 : BitVec 32 := 0#32
  let c1_i32_28 : BitVec 32 := 1#32
  let arg14 : BitVec 32 := Scf.iv c0_i32_27 c1_i32_28 k0_t1
  let v286 : Index := Scalar.indexCast arg14
  let c0_254 : Index := 0#32
  let c0_255 : Index := 0#32
  ![v286.toNat, 0, 0]
def k0_off2 (k0_t1 : Fin k0_t1_loop.trips) : Fin 1 → Nat :=
  let c0_i32_27 : BitVec 32 := 0#32
  let c1_i32_28 : BitVec 32 := 1#32
  let arg14 : BitVec 32 := Scf.iv c0_i32_27 c1_i32_28 k0_t1
  let v289 : Index := Scalar.indexCast arg14
  ![v289.toNat]
def k0_off3 (v290 : BitVec 32) : Fin 3 → Nat :=
  let v291 : Index := Scalar.indexCast v290
  let c0_256 : Index := 0#32
  let c0_257 : Index := 0#32
  ![v291.toNat, 0, 0]

def k0_chk1 (v290 : BitVec 32) : Prop :=
  (∀ a, (k0_off3 v290) a + S1x8x128.size a ≤ S4608x8x128.size a)
theorem k0_off3_inb : ∀ (v290 : BitVec 32) (k0_hw1 : k0_chk1 v290), ∀ a, (k0_off3 v290) a + S1x8x128.size a ≤ S4608x8x128.size a := fun v290 k0_hw1 => k0_hw1

def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v44 : BitVec 32 := Scalar.addi v2 c1_i32_31
  let c4_i32_32 : BitVec 32 := 4#32
  let c0_i32_33 : BitVec 32 := 0#32
  let v45 : BitVec 1 := Scalar.cmpi .eq c4_i32_32 c0_i32_33
  let c1_i32_34 : BitVec 32 := 1#32
  let v46 : BitVec 32 := Scalar.select v45 c1_i32_34 c4_i32_32
  let v47 : BitVec 32 := Scalar.remsi v44 v46
  let c0_i32_36 : BitVec 32 := 0#32
  let v49 : BitVec 1 := Scalar.cmpi .slt v47 c0_i32_36
  let c0_i32_37 : BitVec 32 := 0#32
  let v50 : BitVec 1 := Scalar.cmpi .slt v46 c0_i32_37
  let v51 : BitVec 1 := Scalar.xori v49 v50
  let c0_i32_35 : BitVec 32 := 0#32
  let v48 : BitVec 1 := Scalar.cmpi .ne v47 c0_i32_35
  let v52 : BitVec 1 := Scalar.andi v51 v48
  let v53 : BitVec 32 := Scalar.addi v47 v46
  let v54 : BitVec 32 := Scalar.select v52 v53 v47
  let c1_i32_41 : BitVec 32 := 1#32
  let v56 : BitVec 32 := Scalar.muli v54 c1_i32_41
  let v57 : BitVec 32 := Scalar.addi c0_i32_42 v56
  v57.toNat
def k0_off4 (d0 : Dev nD) (c1_i32_31 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c1_i32_31
  let c4_i32_32 : BitVec 32 := 4#32
  let c0_i32_33 : BitVec 32 := 0#32
  let v45 : BitVec 1 := Scalar.cmpi .eq c4_i32_32 c0_i32_33
  let c1_i32_34 : BitVec 32 := 1#32
  let v46 : BitVec 32 := Scalar.select v45 c1_i32_34 c4_i32_32
  let v47 : BitVec 32 := Scalar.remsi v44 v46
  let c0_i32_36 : BitVec 32 := 0#32
  let v49 : BitVec 1 := Scalar.cmpi .slt v47 c0_i32_36
  let c0_i32_37 : BitVec 32 := 0#32
  let v50 : BitVec 1 := Scalar.cmpi .slt v46 c0_i32_37
  let v51 : BitVec 1 := Scalar.xori v49 v50
  let c0_i32_35 : BitVec 32 := 0#32
  let v48 : BitVec 1 := Scalar.cmpi .ne v47 c0_i32_35
  let v52 : BitVec 1 := Scalar.andi v51 v48
  let v53 : BitVec 32 := Scalar.addi v47 v46
  let v54 : BitVec 32 := Scalar.select v52 v53 v47
  let c1152_i32 : BitVec 32 := 1152#32
  let v55 : BitVec 32 := Scalar.muli v54 c1152_i32
  let c0_i32_53 : BitVec 32 := 0#32
  let c0_i32_54 : BitVec 32 := 0#32
  ![v55.toNat, 0, 0]
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v44 : BitVec 32 := Scalar.addi v2 c1_i32_31
  let c4_i32_32 : BitVec 32 := 4#32
  let c0_i32_33 : BitVec 32 := 0#32
  let v45 : BitVec 1 := Scalar.cmpi .eq c4_i32_32 c0_i32_33
  let c1_i32_34 : BitVec 32 := 1#32
  let v46 : BitVec 32 := Scalar.select v45 c1_i32_34 c4_i32_32
  let v47 : BitVec 32 := Scalar.remsi v44 v46
  let c0_i32_36 : BitVec 32 := 0#32
  let v49 : BitVec 1 := Scalar.cmpi .slt v47 c0_i32_36
  let c0_i32_37 : BitVec 32 := 0#32
  let v50 : BitVec 1 := Scalar.cmpi .slt v46 c0_i32_37
  let v51 : BitVec 1 := Scalar.xori v49 v50
  let c0_i32_35 : BitVec 32 := 0#32
  let v48 : BitVec 1 := Scalar.cmpi .ne v47 c0_i32_35
  let v52 : BitVec 1 := Scalar.andi v51 v48
  let v53 : BitVec 32 := Scalar.addi v47 v46
  let v54 : BitVec 32 := Scalar.select v52 v53 v47
  let c1_i32_48 : BitVec 32 := 1#32
  let v64 : BitVec 32 := Scalar.muli v54 c1_i32_48
  let v65 : BitVec 32 := Scalar.addi c0_i32_49 v64
  v65.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v73 : BitVec 32 := Scalar.addi v2 c2_i32_55
  let c4_i32_56 : BitVec 32 := 4#32
  let c0_i32_57 : BitVec 32 := 0#32
  let v74 : BitVec 1 := Scalar.cmpi .eq c4_i32_56 c0_i32_57
  let c1_i32_58 : BitVec 32 := 1#32
  let v75 : BitVec 32 := Scalar.select v74 c1_i32_58 c4_i32_56
  let v76 : BitVec 32 := Scalar.remsi v73 v75
  let c0_i32_60 : BitVec 32 := 0#32
  let v78 : BitVec 1 := Scalar.cmpi .slt v76 c0_i32_60
  let c0_i32_61 : BitVec 32 := 0#32
  let v79 : BitVec 1 := Scalar.cmpi .slt v75 c0_i32_61
  let v80 : BitVec 1 := Scalar.xori v78 v79
  let c0_i32_59 : BitVec 32 := 0#32
  let v77 : BitVec 1 := Scalar.cmpi .ne v76 c0_i32_59
  let v81 : BitVec 1 := Scalar.andi v80 v77
  let v82 : BitVec 32 := Scalar.addi v76 v75
  let v83 : BitVec 32 := Scalar.select v81 v82 v76
  let c1_i32_66 : BitVec 32 := 1#32
  let v85 : BitVec 32 := Scalar.muli v83 c1_i32_66
  let v86 : BitVec 32 := Scalar.addi c0_i32_67 v85
  v86.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v73 : BitVec 32 := Scalar.addi v2 c2_i32_55
  let c4_i32_56 : BitVec 32 := 4#32
  let c0_i32_57 : BitVec 32 := 0#32
  let v74 : BitVec 1 := Scalar.cmpi .eq c4_i32_56 c0_i32_57
  let c1_i32_58 : BitVec 32 := 1#32
  let v75 : BitVec 32 := Scalar.select v74 c1_i32_58 c4_i32_56
  let v76 : BitVec 32 := Scalar.remsi v73 v75
  let c0_i32_60 : BitVec 32 := 0#32
  let v78 : BitVec 1 := Scalar.cmpi .slt v76 c0_i32_60
  let c0_i32_61 : BitVec 32 := 0#32
  let v79 : BitVec 1 := Scalar.cmpi .slt v75 c0_i32_61
  let v80 : BitVec 1 := Scalar.xori v78 v79
  let c0_i32_59 : BitVec 32 := 0#32
  let v77 : BitVec 1 := Scalar.cmpi .ne v76 c0_i32_59
  let v81 : BitVec 1 := Scalar.andi v80 v77
  let v82 : BitVec 32 := Scalar.addi v76 v75
  let v83 : BitVec 32 := Scalar.select v81 v82 v76
  let c1_i32_73 : BitVec 32 := 1#32
  let v93 : BitVec 32 := Scalar.muli v83 c1_i32_73
  let v94 : BitVec 32 := Scalar.addi c0_i32_74 v93
  v94.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_80 : BitVec 32 := 3#32
  let v102 : BitVec 32 := Scalar.addi v2 c3_i32_80
  let c4_i32_81 : BitVec 32 := 4#32
  let c0_i32_82 : BitVec 32 := 0#32
  let v103 : BitVec 1 := Scalar.cmpi .eq c4_i32_81 c0_i32_82
  let c1_i32_83 : BitVec 32 := 1#32
  let v104 : BitVec 32 := Scalar.select v103 c1_i32_83 c4_i32_81
  let v105 : BitVec 32 := Scalar.remsi v102 v104
  let c0_i32_85 : BitVec 32 := 0#32
  let v107 : BitVec 1 := Scalar.cmpi .slt v105 c0_i32_85
  let c0_i32_86 : BitVec 32 := 0#32
  let v108 : BitVec 1 := Scalar.cmpi .slt v104 c0_i32_86
  let v109 : BitVec 1 := Scalar.xori v107 v108
  let c0_i32_84 : BitVec 32 := 0#32
  let v106 : BitVec 1 := Scalar.cmpi .ne v105 c0_i32_84
  let v110 : BitVec 1 := Scalar.andi v109 v106
  let v111 : BitVec 32 := Scalar.addi v105 v104
  let v112 : BitVec 32 := Scalar.select v110 v111 v105
  let c1_i32_91 : BitVec 32 := 1#32
  let v114 : BitVec 32 := Scalar.muli v112 c1_i32_91
  let v115 : BitVec 32 := Scalar.addi c0_i32_92 v114
  v115.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_80 : BitVec 32 := 3#32
  let v102 : BitVec 32 := Scalar.addi v2 c3_i32_80
  let c4_i32_81 : BitVec 32 := 4#32
  let c0_i32_82 : BitVec 32 := 0#32
  let v103 : BitVec 1 := Scalar.cmpi .eq c4_i32_81 c0_i32_82
  let c1_i32_83 : BitVec 32 := 1#32
  let v104 : BitVec 32 := Scalar.select v103 c1_i32_83 c4_i32_81
  let v105 : BitVec 32 := Scalar.remsi v102 v104
  let c0_i32_85 : BitVec 32 := 0#32
  let v107 : BitVec 1 := Scalar.cmpi .slt v105 c0_i32_85
  let c0_i32_86 : BitVec 32 := 0#32
  let v108 : BitVec 1 := Scalar.cmpi .slt v104 c0_i32_86
  let v109 : BitVec 1 := Scalar.xori v107 v108
  let c0_i32_84 : BitVec 32 := 0#32
  let v106 : BitVec 1 := Scalar.cmpi .ne v105 c0_i32_84
  let v110 : BitVec 1 := Scalar.andi v109 v106
  let v111 : BitVec 32 := Scalar.addi v105 v104
  let v112 : BitVec 32 := Scalar.select v110 v111 v105
  let c1_i32_98 : BitVec 32 := 1#32
  let v122 : BitVec 32 := Scalar.muli v112 c1_i32_98
  let v123 : BitVec 32 := Scalar.addi c0_i32_99 v122
  v123.toNat
def k0_off5 (d0 : Dev nD) (c0_i32_156 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let v183 : Index := Scalar.indexCast v180
  let c0_164 : Index := 0#32
  let v184 : Index := Scalar.indexCast v2
  ![v183.toNat, 0, v184.toNat]
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_168 : BitVec 32 := 0#32
  let v190 : BitVec 1 := Scalar.cmpi .ne v180 c0_i32_168
  let v191 : BitVec 32 := Scalar.extui v190
  let c0_i32_170 : BitVec 32 := 0#32
  let v192 : BitVec 1 := Scalar.cmpi .ne v191 c0_i32_170
  v192

def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c1_i32_254 : BitVec 32 := 1#32
  let v286 : BitVec 32 := Scalar.subi v180 c1_i32_254
  let c0_i32_257 : BitVec 32 := 0#32
  let c0_i32_258 : BitVec 32 := 0#32
  let c0_i32_259 : BitVec 32 := 0#32
  ![v286.toNat, 0, 0, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c0_i32_181 : BitVec 32 := 0#32
  let v211 : BitVec 1 := Scalar.cmpi .eq v204 c0_i32_181
  let v212 : BitVec 32 := Scalar.extui v211
  let c0_i32_182 : BitVec 32 := 0#32
  let v213 : BitVec 1 := Scalar.cmpi .ne v212 c0_i32_182
  v213

def k0_off7 (d0 : Dev nD) (v182 : BitVec 32) (v185 : BitVec 32) : Fin 3 → Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_163 : BitVec 32 := 0#32
  let v181 : BitVec 1 := Scalar.cmpi .eq v180 c0_i32_163
  let v186 : BitVec 32 := Scalar.select v181 v182 v185
  let v193 : BitVec 32 := Scalar.addi c0_i32_171 v186
  let c0_i32_254 : BitVec 32 := 0#32
  let c0_i32_255 : BitVec 32 := 0#32
  ![v193.toNat, 0, 0]

def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c0_i32_183 : BitVec 32 := 0#32
  let v214 : BitVec 1 := Scalar.cmpi .ne v204 c0_i32_183
  let v215 : BitVec 32 := Scalar.extui v214
  let c0_i32_184 : BitVec 32 := 0#32
  let v216 : BitVec 1 := Scalar.cmpi .ne v215 c0_i32_184
  v216

def k0_off8 (d0 : Dev nD) (v182 : BitVec 32) (v185 : BitVec 32) : Fin 3 → Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_163 : BitVec 32 := 0#32
  let v181 : BitVec 1 := Scalar.cmpi .eq v180 c0_i32_163
  let v186 : BitVec 32 := Scalar.select v181 v182 v185
  let v193 : BitVec 32 := Scalar.addi c0_i32_171 v186
  let c0_i32_255 : BitVec 32 := 0#32
  let c0_i32_256 : BitVec 32 := 0#32
  ![v193.toNat, 0, 0]

def k0_chk2 (d0 : Dev nD) (v182 : BitVec 32) (v185 : BitVec 32) : Prop :=
  (∀ (k0_h3 : k0_cond3 d0 = 1#1), ∀ a, (k0_off7 d0 v182 v185) a + S1152x8x128.size a ≤ S5248x8x128.size a) ∧
  (∀ (k0_h4 : k0_cond4 d0 = 1#1), ∀ a, (k0_off8 d0 v182 v185) a + S1152x8x128.size a ≤ S5248x8x128.size a)
theorem k0_off7_inb : ∀ (d0 : Dev nD) (v182 : BitVec 32) (v185 : BitVec 32) (k0_hw2 : k0_chk2 d0 v182 v185), ∀ (k0_h3 : k0_cond3 d0 = 1#1), ∀ a, (k0_off7 d0 v182 v185) a + S1152x8x128.size a ≤ S5248x8x128.size a := fun d0 v182 v185 k0_hw2 k0_h3 => k0_hw2.1 k0_h3
theorem k0_off8_inb : ∀ (d0 : Dev nD) (v182 : BitVec 32) (v185 : BitVec 32) (k0_hw2 : k0_chk2 d0 v182 v185), ∀ (k0_h4 : k0_cond4 d0 = 1#1), ∀ a, (k0_off8 d0 v182 v185) a + S1152x8x128.size a ≤ S5248x8x128.size a := fun d0 v182 v185 k0_hw2 k0_h4 => k0_hw2.2 k0_h4

def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c1_i32_254 : BitVec 32 := 1#32
  let v286 : BitVec 32 := Scalar.subi v204 c1_i32_254
  let c0_i32_257 : BitVec 32 := 0#32
  let c0_i32_258 : BitVec 32 := 0#32
  let c0_i32_259 : BitVec 32 := 0#32
  ![v286.toNat, 0, 0, 0]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_185 : BitVec 32 := 2#32
  let v218 : BitVec 32 := Scalar.subi v2 c2_i32_185
  let c4_i32_186 : BitVec 32 := 4#32
  let c0_i32_187 : BitVec 32 := 0#32
  let v219 : BitVec 1 := Scalar.cmpi .eq c4_i32_186 c0_i32_187
  let c1_i32_188 : BitVec 32 := 1#32
  let v220 : BitVec 32 := Scalar.select v219 c1_i32_188 c4_i32_186
  let v221 : BitVec 32 := Scalar.remsi v218 v220
  let c0_i32_190 : BitVec 32 := 0#32
  let v223 : BitVec 1 := Scalar.cmpi .slt v221 c0_i32_190
  let c0_i32_191 : BitVec 32 := 0#32
  let v224 : BitVec 1 := Scalar.cmpi .slt v220 c0_i32_191
  let v225 : BitVec 1 := Scalar.xori v223 v224
  let c0_i32_189 : BitVec 32 := 0#32
  let v222 : BitVec 1 := Scalar.cmpi .ne v221 c0_i32_189
  let v226 : BitVec 1 := Scalar.andi v225 v222
  let v227 : BitVec 32 := Scalar.addi v221 v220
  let v228 : BitVec 32 := Scalar.select v226 v227 v221
  let v231 : Index := Scalar.indexCast v228
  let c0_193 : Index := 0#32
  let v232 : Index := Scalar.indexCast v2
  ![v231.toNat, 0, v232.toNat]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_185 : BitVec 32 := 2#32
  let v218 : BitVec 32 := Scalar.subi v2 c2_i32_185
  let c4_i32_186 : BitVec 32 := 4#32
  let c0_i32_187 : BitVec 32 := 0#32
  let v219 : BitVec 1 := Scalar.cmpi .eq c4_i32_186 c0_i32_187
  let c1_i32_188 : BitVec 32 := 1#32
  let v220 : BitVec 32 := Scalar.select v219 c1_i32_188 c4_i32_186
  let v221 : BitVec 32 := Scalar.remsi v218 v220
  let c0_i32_190 : BitVec 32 := 0#32
  let v223 : BitVec 1 := Scalar.cmpi .slt v221 c0_i32_190
  let c0_i32_191 : BitVec 32 := 0#32
  let v224 : BitVec 1 := Scalar.cmpi .slt v220 c0_i32_191
  let v225 : BitVec 1 := Scalar.xori v223 v224
  let c0_i32_189 : BitVec 32 := 0#32
  let v222 : BitVec 1 := Scalar.cmpi .ne v221 c0_i32_189
  let v226 : BitVec 1 := Scalar.andi v225 v222
  let v227 : BitVec 32 := Scalar.addi v221 v220
  let v228 : BitVec 32 := Scalar.select v226 v227 v221
  let c0_i32_194 : BitVec 32 := 0#32
  let v235 : BitVec 1 := Scalar.cmpi .eq v228 c0_i32_194
  let v236 : BitVec 32 := Scalar.extui v235
  let c0_i32_195 : BitVec 32 := 0#32
  let v237 : BitVec 1 := Scalar.cmpi .ne v236 c0_i32_195
  v237

def k0_off11 (d0 : Dev nD) (v182 : BitVec 32) (v185 : BitVec 32) (v206 : BitVec 32) (v209 : BitVec 32) : Fin 3 → Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_163 : BitVec 32 := 0#32
  let v181 : BitVec 1 := Scalar.cmpi .eq v180 c0_i32_163
  let v186 : BitVec 32 := Scalar.select v181 v182 v185
  let v193 : BitVec 32 := Scalar.addi c0_i32_171 v186
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c0_i32_179 : BitVec 32 := 0#32
  let v205 : BitVec 1 := Scalar.cmpi .eq v204 c0_i32_179
  let v210 : BitVec 32 := Scalar.select v205 v206 v209
  let v217 : BitVec 32 := Scalar.addi v193 v210
  let c0_i32_254 : BitVec 32 := 0#32
  let c0_i32_255 : BitVec 32 := 0#32
  ![v217.toNat, 0, 0]

def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_185 : BitVec 32 := 2#32
  let v218 : BitVec 32 := Scalar.subi v2 c2_i32_185
  let c4_i32_186 : BitVec 32 := 4#32
  let c0_i32_187 : BitVec 32 := 0#32
  let v219 : BitVec 1 := Scalar.cmpi .eq c4_i32_186 c0_i32_187
  let c1_i32_188 : BitVec 32 := 1#32
  let v220 : BitVec 32 := Scalar.select v219 c1_i32_188 c4_i32_186
  let v221 : BitVec 32 := Scalar.remsi v218 v220
  let c0_i32_190 : BitVec 32 := 0#32
  let v223 : BitVec 1 := Scalar.cmpi .slt v221 c0_i32_190
  let c0_i32_191 : BitVec 32 := 0#32
  let v224 : BitVec 1 := Scalar.cmpi .slt v220 c0_i32_191
  let v225 : BitVec 1 := Scalar.xori v223 v224
  let c0_i32_189 : BitVec 32 := 0#32
  let v222 : BitVec 1 := Scalar.cmpi .ne v221 c0_i32_189
  let v226 : BitVec 1 := Scalar.andi v225 v222
  let v227 : BitVec 32 := Scalar.addi v221 v220
  let v228 : BitVec 32 := Scalar.select v226 v227 v221
  let c0_i32_196 : BitVec 32 := 0#32
  let v238 : BitVec 1 := Scalar.cmpi .ne v228 c0_i32_196
  let v239 : BitVec 32 := Scalar.extui v238
  let c0_i32_197 : BitVec 32 := 0#32
  let v240 : BitVec 1 := Scalar.cmpi .ne v239 c0_i32_197
  v240

def k0_off12 (d0 : Dev nD) (v182 : BitVec 32) (v185 : BitVec 32) (v206 : BitVec 32) (v209 : BitVec 32) : Fin 3 → Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_163 : BitVec 32 := 0#32
  let v181 : BitVec 1 := Scalar.cmpi .eq v180 c0_i32_163
  let v186 : BitVec 32 := Scalar.select v181 v182 v185
  let v193 : BitVec 32 := Scalar.addi c0_i32_171 v186
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c0_i32_179 : BitVec 32 := 0#32
  let v205 : BitVec 1 := Scalar.cmpi .eq v204 c0_i32_179
  let v210 : BitVec 32 := Scalar.select v205 v206 v209
  let v217 : BitVec 32 := Scalar.addi v193 v210
  let c0_i32_255 : BitVec 32 := 0#32
  let c0_i32_256 : BitVec 32 := 0#32
  ![v217.toNat, 0, 0]

def k0_chk3 (d0 : Dev nD) (v182 : BitVec 32) (v185 : BitVec 32) (v206 : BitVec 32) (v209 : BitVec 32) : Prop :=
  (∀ (k0_h5 : k0_cond5 d0 = 1#1), ∀ a, (k0_off11 d0 v182 v185 v206 v209) a + S1152x8x128.size a ≤ S5248x8x128.size a) ∧
  (∀ (k0_h6 : k0_cond6 d0 = 1#1), ∀ a, (k0_off12 d0 v182 v185 v206 v209) a + S1152x8x128.size a ≤ S5248x8x128.size a)
theorem k0_off11_inb : ∀ (d0 : Dev nD) (v182 : BitVec 32) (v185 : BitVec 32) (v206 : BitVec 32) (v209 : BitVec 32) (k0_hw3 : k0_chk3 d0 v182 v185 v206 v209), ∀ (k0_h5 : k0_cond5 d0 = 1#1), ∀ a, (k0_off11 d0 v182 v185 v206 v209) a + S1152x8x128.size a ≤ S5248x8x128.size a := fun d0 v182 v185 v206 v209 k0_hw3 k0_h5 => k0_hw3.1 k0_h5
theorem k0_off12_inb : ∀ (d0 : Dev nD) (v182 : BitVec 32) (v185 : BitVec 32) (v206 : BitVec 32) (v209 : BitVec 32) (k0_hw3 : k0_chk3 d0 v182 v185 v206 v209), ∀ (k0_h6 : k0_cond6 d0 = 1#1), ∀ a, (k0_off12 d0 v182 v185 v206 v209) a + S1152x8x128.size a ≤ S5248x8x128.size a := fun d0 v182 v185 v206 v209 k0_hw3 k0_h6 => k0_hw3.2 k0_h6

def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_185 : BitVec 32 := 2#32
  let v218 : BitVec 32 := Scalar.subi v2 c2_i32_185
  let c4_i32_186 : BitVec 32 := 4#32
  let c0_i32_187 : BitVec 32 := 0#32
  let v219 : BitVec 1 := Scalar.cmpi .eq c4_i32_186 c0_i32_187
  let c1_i32_188 : BitVec 32 := 1#32
  let v220 : BitVec 32 := Scalar.select v219 c1_i32_188 c4_i32_186
  let v221 : BitVec 32 := Scalar.remsi v218 v220
  let c0_i32_190 : BitVec 32 := 0#32
  let v223 : BitVec 1 := Scalar.cmpi .slt v221 c0_i32_190
  let c0_i32_191 : BitVec 32 := 0#32
  let v224 : BitVec 1 := Scalar.cmpi .slt v220 c0_i32_191
  let v225 : BitVec 1 := Scalar.xori v223 v224
  let c0_i32_189 : BitVec 32 := 0#32
  let v222 : BitVec 1 := Scalar.cmpi .ne v221 c0_i32_189
  let v226 : BitVec 1 := Scalar.andi v225 v222
  let v227 : BitVec 32 := Scalar.addi v221 v220
  let v228 : BitVec 32 := Scalar.select v226 v227 v221
  let c1_i32_254 : BitVec 32 := 1#32
  let v286 : BitVec 32 := Scalar.subi v228 c1_i32_254
  let c0_i32_257 : BitVec 32 := 0#32
  let c0_i32_258 : BitVec 32 := 0#32
  let c0_i32_259 : BitVec 32 := 0#32
  ![v286.toNat, 0, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_198 : BitVec 32 := 3#32
  let v242 : BitVec 32 := Scalar.subi v2 c3_i32_198
  let c4_i32_199 : BitVec 32 := 4#32
  let c0_i32_200 : BitVec 32 := 0#32
  let v243 : BitVec 1 := Scalar.cmpi .eq c4_i32_199 c0_i32_200
  let c1_i32_201 : BitVec 32 := 1#32
  let v244 : BitVec 32 := Scalar.select v243 c1_i32_201 c4_i32_199
  let v245 : BitVec 32 := Scalar.remsi v242 v244
  let c0_i32_203 : BitVec 32 := 0#32
  let v247 : BitVec 1 := Scalar.cmpi .slt v245 c0_i32_203
  let c0_i32_204 : BitVec 32 := 0#32
  let v248 : BitVec 1 := Scalar.cmpi .slt v244 c0_i32_204
  let v249 : BitVec 1 := Scalar.xori v247 v248
  let c0_i32_202 : BitVec 32 := 0#32
  let v246 : BitVec 1 := Scalar.cmpi .ne v245 c0_i32_202
  let v250 : BitVec 1 := Scalar.andi v249 v246
  let v251 : BitVec 32 := Scalar.addi v245 v244
  let v252 : BitVec 32 := Scalar.select v250 v251 v245
  let c0_i32_205 : BitVec 32 := 0#32
  let v253 : BitVec 1 := Scalar.cmpi .eq v252 c0_i32_205
  let v254 : BitVec 32 := Scalar.extui v253
  let c0_i32_206 : BitVec 32 := 0#32
  let v255 : BitVec 1 := Scalar.cmpi .ne v254 c0_i32_206
  v255

def k0_off14 (d0 : Dev nD) (v182 : BitVec 32) (v185 : BitVec 32) (v206 : BitVec 32) (v209 : BitVec 32) (v230 : BitVec 32) (v233 : BitVec 32) : Fin 3 → Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_163 : BitVec 32 := 0#32
  let v181 : BitVec 1 := Scalar.cmpi .eq v180 c0_i32_163
  let v186 : BitVec 32 := Scalar.select v181 v182 v185
  let v193 : BitVec 32 := Scalar.addi c0_i32_171 v186
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c0_i32_179 : BitVec 32 := 0#32
  let v205 : BitVec 1 := Scalar.cmpi .eq v204 c0_i32_179
  let v210 : BitVec 32 := Scalar.select v205 v206 v209
  let v217 : BitVec 32 := Scalar.addi v193 v210
  let c2_i32_185 : BitVec 32 := 2#32
  let v218 : BitVec 32 := Scalar.subi v2 c2_i32_185
  let c4_i32_186 : BitVec 32 := 4#32
  let c0_i32_187 : BitVec 32 := 0#32
  let v219 : BitVec 1 := Scalar.cmpi .eq c4_i32_186 c0_i32_187
  let c1_i32_188 : BitVec 32 := 1#32
  let v220 : BitVec 32 := Scalar.select v219 c1_i32_188 c4_i32_186
  let v221 : BitVec 32 := Scalar.remsi v218 v220
  let c0_i32_190 : BitVec 32 := 0#32
  let v223 : BitVec 1 := Scalar.cmpi .slt v221 c0_i32_190
  let c0_i32_191 : BitVec 32 := 0#32
  let v224 : BitVec 1 := Scalar.cmpi .slt v220 c0_i32_191
  let v225 : BitVec 1 := Scalar.xori v223 v224
  let c0_i32_189 : BitVec 32 := 0#32
  let v222 : BitVec 1 := Scalar.cmpi .ne v221 c0_i32_189
  let v226 : BitVec 1 := Scalar.andi v225 v222
  let v227 : BitVec 32 := Scalar.addi v221 v220
  let v228 : BitVec 32 := Scalar.select v226 v227 v221
  let c0_i32_192 : BitVec 32 := 0#32
  let v229 : BitVec 1 := Scalar.cmpi .eq v228 c0_i32_192
  let v234 : BitVec 32 := Scalar.select v229 v230 v233
  let v241 : BitVec 32 := Scalar.addi v217 v234
  let c0_i32_254 : BitVec 32 := 0#32
  let c0_i32_255 : BitVec 32 := 0#32
  ![v241.toNat, 0, 0]

def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_198 : BitVec 32 := 3#32
  let v242 : BitVec 32 := Scalar.subi v2 c3_i32_198
  let c4_i32_199 : BitVec 32 := 4#32
  let c0_i32_200 : BitVec 32 := 0#32
  let v243 : BitVec 1 := Scalar.cmpi .eq c4_i32_199 c0_i32_200
  let c1_i32_201 : BitVec 32 := 1#32
  let v244 : BitVec 32 := Scalar.select v243 c1_i32_201 c4_i32_199
  let v245 : BitVec 32 := Scalar.remsi v242 v244
  let c0_i32_203 : BitVec 32 := 0#32
  let v247 : BitVec 1 := Scalar.cmpi .slt v245 c0_i32_203
  let c0_i32_204 : BitVec 32 := 0#32
  let v248 : BitVec 1 := Scalar.cmpi .slt v244 c0_i32_204
  let v249 : BitVec 1 := Scalar.xori v247 v248
  let c0_i32_202 : BitVec 32 := 0#32
  let v246 : BitVec 1 := Scalar.cmpi .ne v245 c0_i32_202
  let v250 : BitVec 1 := Scalar.andi v249 v246
  let v251 : BitVec 32 := Scalar.addi v245 v244
  let v252 : BitVec 32 := Scalar.select v250 v251 v245
  let c0_i32_207 : BitVec 32 := 0#32
  let v256 : BitVec 1 := Scalar.cmpi .ne v252 c0_i32_207
  let v257 : BitVec 32 := Scalar.extui v256
  let c0_i32_208 : BitVec 32 := 0#32
  let v258 : BitVec 1 := Scalar.cmpi .ne v257 c0_i32_208
  v258

def k0_off15 (d0 : Dev nD) (v182 : BitVec 32) (v185 : BitVec 32) (v206 : BitVec 32) (v209 : BitVec 32) (v230 : BitVec 32) (v233 : BitVec 32) : Fin 3 → Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_156 : BitVec 32 := 0#32
  let v170 : BitVec 32 := Scalar.subi v2 c0_i32_156
  let c4_i32_157 : BitVec 32 := 4#32
  let c0_i32_158 : BitVec 32 := 0#32
  let v171 : BitVec 1 := Scalar.cmpi .eq c4_i32_157 c0_i32_158
  let c1_i32_159 : BitVec 32 := 1#32
  let v172 : BitVec 32 := Scalar.select v171 c1_i32_159 c4_i32_157
  let v173 : BitVec 32 := Scalar.remsi v170 v172
  let c0_i32_161 : BitVec 32 := 0#32
  let v175 : BitVec 1 := Scalar.cmpi .slt v173 c0_i32_161
  let c0_i32_162 : BitVec 32 := 0#32
  let v176 : BitVec 1 := Scalar.cmpi .slt v172 c0_i32_162
  let v177 : BitVec 1 := Scalar.xori v175 v176
  let c0_i32_160 : BitVec 32 := 0#32
  let v174 : BitVec 1 := Scalar.cmpi .ne v173 c0_i32_160
  let v178 : BitVec 1 := Scalar.andi v177 v174
  let v179 : BitVec 32 := Scalar.addi v173 v172
  let v180 : BitVec 32 := Scalar.select v178 v179 v173
  let c0_i32_163 : BitVec 32 := 0#32
  let v181 : BitVec 1 := Scalar.cmpi .eq v180 c0_i32_163
  let v186 : BitVec 32 := Scalar.select v181 v182 v185
  let v193 : BitVec 32 := Scalar.addi c0_i32_171 v186
  let c1_i32_172 : BitVec 32 := 1#32
  let v194 : BitVec 32 := Scalar.subi v2 c1_i32_172
  let c4_i32_173 : BitVec 32 := 4#32
  let c0_i32_174 : BitVec 32 := 0#32
  let v195 : BitVec 1 := Scalar.cmpi .eq c4_i32_173 c0_i32_174
  let c1_i32_175 : BitVec 32 := 1#32
  let v196 : BitVec 32 := Scalar.select v195 c1_i32_175 c4_i32_173
  let v197 : BitVec 32 := Scalar.remsi v194 v196
  let c0_i32_177 : BitVec 32 := 0#32
  let v199 : BitVec 1 := Scalar.cmpi .slt v197 c0_i32_177
  let c0_i32_178 : BitVec 32 := 0#32
  let v200 : BitVec 1 := Scalar.cmpi .slt v196 c0_i32_178
  let v201 : BitVec 1 := Scalar.xori v199 v200
  let c0_i32_176 : BitVec 32 := 0#32
  let v198 : BitVec 1 := Scalar.cmpi .ne v197 c0_i32_176
  let v202 : BitVec 1 := Scalar.andi v201 v198
  let v203 : BitVec 32 := Scalar.addi v197 v196
  let v204 : BitVec 32 := Scalar.select v202 v203 v197
  let c0_i32_179 : BitVec 32 := 0#32
  let v205 : BitVec 1 := Scalar.cmpi .eq v204 c0_i32_179
  let v210 : BitVec 32 := Scalar.select v205 v206 v209
  let v217 : BitVec 32 := Scalar.addi v193 v210
  let c2_i32_185 : BitVec 32 := 2#32
  let v218 : BitVec 32 := Scalar.subi v2 c2_i32_185
  let c4_i32_186 : BitVec 32 := 4#32
  let c0_i32_187 : BitVec 32 := 0#32
  let v219 : BitVec 1 := Scalar.cmpi .eq c4_i32_186 c0_i32_187
  let c1_i32_188 : BitVec 32 := 1#32
  let v220 : BitVec 32 := Scalar.select v219 c1_i32_188 c4_i32_186
  let v221 : BitVec 32 := Scalar.remsi v218 v220
  let c0_i32_190 : BitVec 32 := 0#32
  let v223 : BitVec 1 := Scalar.cmpi .slt v221 c0_i32_190
  let c0_i32_191 : BitVec 32 := 0#32
  let v224 : BitVec 1 := Scalar.cmpi .slt v220 c0_i32_191
  let v225 : BitVec 1 := Scalar.xori v223 v224
  let c0_i32_189 : BitVec 32 := 0#32
  let v222 : BitVec 1 := Scalar.cmpi .ne v221 c0_i32_189
  let v226 : BitVec 1 := Scalar.andi v225 v222
  let v227 : BitVec 32 := Scalar.addi v221 v220
  let v228 : BitVec 32 := Scalar.select v226 v227 v221
  let c0_i32_192 : BitVec 32 := 0#32
  let v229 : BitVec 1 := Scalar.cmpi .eq v228 c0_i32_192
  let v234 : BitVec 32 := Scalar.select v229 v230 v233
  let v241 : BitVec 32 := Scalar.addi v217 v234
  let c0_i32_255 : BitVec 32 := 0#32
  let c0_i32_256 : BitVec 32 := 0#32
  ![v241.toNat, 0, 0]

def k0_chk4 (d0 : Dev nD) (v182 : BitVec 32) (v185 : BitVec 32) (v206 : BitVec 32) (v209 : BitVec 32) (v230 : BitVec 32) (v233 : BitVec 32) : Prop :=
  (∀ (k0_h7 : k0_cond7 d0 = 1#1), ∀ a, (k0_off14 d0 v182 v185 v206 v209 v230 v233) a + S1152x8x128.size a ≤ S5248x8x128.size a) ∧
  (∀ (k0_h8 : k0_cond8 d0 = 1#1), ∀ a, (k0_off15 d0 v182 v185 v206 v209 v230 v233) a + S1152x8x128.size a ≤ S5248x8x128.size a)
theorem k0_off14_inb : ∀ (d0 : Dev nD) (v182 : BitVec 32) (v185 : BitVec 32) (v206 : BitVec 32) (v209 : BitVec 32) (v230 : BitVec 32) (v233 : BitVec 32) (k0_hw4 : k0_chk4 d0 v182 v185 v206 v209 v230 v233), ∀ (k0_h7 : k0_cond7 d0 = 1#1), ∀ a, (k0_off14 d0 v182 v185 v206 v209 v230 v233) a + S1152x8x128.size a ≤ S5248x8x128.size a := fun d0 v182 v185 v206 v209 v230 v233 k0_hw4 k0_h7 => k0_hw4.1 k0_h7
theorem k0_off15_inb : ∀ (d0 : Dev nD) (v182 : BitVec 32) (v185 : BitVec 32) (v206 : BitVec 32) (v209 : BitVec 32) (v230 : BitVec 32) (v233 : BitVec 32) (k0_hw4 : k0_chk4 d0 v182 v185 v206 v209 v230 v233), ∀ (k0_h8 : k0_cond8 d0 = 1#1), ∀ a, (k0_off15 d0 v182 v185 v206 v209 v230 v233) a + S1152x8x128.size a ≤ S5248x8x128.size a := fun d0 v182 v185 v206 v209 v230 v233 k0_hw4 k0_h8 => k0_hw4.2 k0_h8

def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_198 : BitVec 32 := 3#32
  let v242 : BitVec 32 := Scalar.subi v2 c3_i32_198
  let c4_i32_199 : BitVec 32 := 4#32
  let c0_i32_200 : BitVec 32 := 0#32
  let v243 : BitVec 1 := Scalar.cmpi .eq c4_i32_199 c0_i32_200
  let c1_i32_201 : BitVec 32 := 1#32
  let v244 : BitVec 32 := Scalar.select v243 c1_i32_201 c4_i32_199
  let v245 : BitVec 32 := Scalar.remsi v242 v244
  let c0_i32_203 : BitVec 32 := 0#32
  let v247 : BitVec 1 := Scalar.cmpi .slt v245 c0_i32_203
  let c0_i32_204 : BitVec 32 := 0#32
  let v248 : BitVec 1 := Scalar.cmpi .slt v244 c0_i32_204
  let v249 : BitVec 1 := Scalar.xori v247 v248
  let c0_i32_202 : BitVec 32 := 0#32
  let v246 : BitVec 1 := Scalar.cmpi .ne v245 c0_i32_202
  let v250 : BitVec 1 := Scalar.andi v249 v246
  let v251 : BitVec 32 := Scalar.addi v245 v244
  let v252 : BitVec 32 := Scalar.select v250 v251 v245
  let c1_i32_254 : BitVec 32 := 1#32
  let v286 : BitVec 32 := Scalar.subi v252 c1_i32_254
  let c0_i32_257 : BitVec 32 := 0#32
  let c0_i32_258 : BitVec 32 := 0#32
  let c0_i32_259 : BitVec 32 := 0#32
  ![v286.toNat, 0, 0, 0]
def k0_off17 (d0 : Dev nD) (c1_i32_31 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c1_i32_31
  let c4_i32_32 : BitVec 32 := 4#32
  let c0_i32_33 : BitVec 32 := 0#32
  let v45 : BitVec 1 := Scalar.cmpi .eq c4_i32_32 c0_i32_33
  let c1_i32_34 : BitVec 32 := 1#32
  let v46 : BitVec 32 := Scalar.select v45 c1_i32_34 c4_i32_32
  let v47 : BitVec 32 := Scalar.remsi v44 v46
  let c0_i32_36 : BitVec 32 := 0#32
  let v49 : BitVec 1 := Scalar.cmpi .slt v47 c0_i32_36
  let c0_i32_37 : BitVec 32 := 0#32
  let v50 : BitVec 1 := Scalar.cmpi .slt v46 c0_i32_37
  let v51 : BitVec 1 := Scalar.xori v49 v50
  let c0_i32_35 : BitVec 32 := 0#32
  let v48 : BitVec 1 := Scalar.cmpi .ne v47 c0_i32_35
  let v52 : BitVec 1 := Scalar.andi v51 v48
  let v53 : BitVec 32 := Scalar.addi v47 v46
  let v54 : BitVec 32 := Scalar.select v52 v53 v47
  let c1152_i32 : BitVec 32 := 1152#32
  let v55 : BitVec 32 := Scalar.muli v54 c1152_i32
  let c0_i32_213 : BitVec 32 := 0#32
  let c0_i32_214 : BitVec 32 := 0#32
  ![v55.toNat, 0, 0]
abbrev stage0_0 : Fin 1 → Memref sig .tc .vmem S4096x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x1024 : Shape := ⟨2, ![16384, 1024]⟩
abbrev S16384 : Shape := ⟨1, ![16384]⟩
abbrev S_ : Shape := ⟨0, ![]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Count.lean ====
module

public import Idealize.ShloMosaic.Lib.Routing.Ops
public import Idealize.ShloMosaic.Lib.Routing.OpsOne
public import Idealize.ShloMosaic.Lib.Routing.OpsPair
public import Idealize.ShloMosaic.Lib.Routing.OpsSet
public import Idealize.ShloMosaic.Lib.Routing.Count
public import Idealize.ShloMosaic.Lib.StableHlo.Predicate
public import Idealize.ShloMosaic.Lib.ReduceAll
public import Idealize.ShloMosaic.Lib.WordCmp

@[expose] public section

noncomputable section

/-! # Counting ranks: what the host's one-hot, running sum and sums say of the destinations -/

namespace Cert.Cnt

open Idealize.ShloMosaic Idealize.ShloMosaic.ValueIdx Idealize.ShloMosaic.Routing

/-- The destinations as naturals; past the end, a value that no rank has. -/
def dn {N : ℕ} (d : IVec (shape1 N) 32) (i : ℕ) : ℕ := if h : i < N then (d (ix1 ⟨i, h⟩)).toNat else 2 ^ 32

theorem dn_fin {N : ℕ} (d : IVec (shape1 N) 32) (i : Fin N) : dn d i.val = (d (ix1 i)).toNat := dif_pos i.isLt

/-- How many of the first `n` entries are `k`. -/
def rk (f : ℕ → ℕ) (k n : ℕ) : ℕ := Nat.count (fun i => f i = k) n

theorem rk_le (f : ℕ → ℕ) (k n : ℕ) : rk f k n ≤ n := Nat.count_le _

theorem rk_succ_self (f : ℕ → ℕ) (n : ℕ) : rk f (f n) (n + 1) = rk f (f n) n + 1 := by
  unfold rk; rw [Nat.count_succ, if_pos rfl]

theorem rk_mono (f : ℕ → ℕ) (k : ℕ) {a b : ℕ} (h : a ≤ b) : rk f k a ≤ rk f k b := Nat.count_monotone _ h

/-- An entry equal to `k` before `n` is counted after fewer than `rk f k n` others. -/
theorem rk_lt (f : ℕ → ℕ) {i n : ℕ} (h : i < n) : rk f (f i) i < rk f (f i) n :=
  lt_of_lt_of_le (by rw [rk_succ_self]; exact Nat.lt_succ_self _) (rk_mono f (f i) (show i + 1 ≤ n from h))

/-- Two entries equal to `k` with equally many before them are the same entry. -/
theorem rk_inj (f : ℕ → ℕ) {i j : ℕ} (e : f i = f j) (h : rk f (f i) i = rk f (f i) j) : i = j := by
  rcases lt_trichotomy i j with l | l | l
  · exact absurd h (ne_of_lt (rk_lt f l))
  · exact l
  · have := rk_lt f l
    rw [← e] at this
    omega

section Words
variable {N : ℕ} (d : IVec (shape1 N) 32)
  (h1 : (shape1 N).BroadcastsInDim (shape2 N 1) (![0] : Fin 1 → Fin (shape2 N 1).rank))
  (h2 : (shape2 N 1).BroadcastsInDim (shape2 N 4) (![0, 1] : Fin 2 → Fin (shape2 N 4).rank))
  (h3 : (shape1 4).BroadcastsInDim (shape2 1 4) (![1] : Fin 1 → Fin (shape2 1 4).rank))
  (h4 : (shape2 1 4).BroadcastsInDim (shape2 N 4) (![0, 1] : Fin 2 → Fin (shape2 N 4).rank))
  (hw : 1 < 32)

/-- The mask of equal destinations: entry `(i, k)` is set where destination `i` is `k`. -/
def hot : IVec (shape2 N 4) 1 :=
  cmpi .eq (broadcastInDim (shape2 N 4) ![0, 1] h2 (broadcastInDim (shape2 N 1) ![0] h1 d))
    (broadcastInDim (shape2 N 4) ![0, 1] h4 (broadcastInDim (shape2 1 4) ![1] h3 (iotaInDim (shape1 4) 32 0)))

theorem hot_apply (i : Fin N) (k : Fin 4) : hot d h1 h2 h3 h4 (ix2 i k) = 1#1 ↔ dn d i.val = k.val := by
  show IntOp.cmpi .eq (broadcastInDim (shape2 N 4) ![0, 1] h2 (broadcastInDim (shape2 N 1) ![0] h1 d) (ix2 i k))
    (broadcastInDim (shape2 N 4) ![0, 1] h4 (broadcastInDim (shape2 1 4) ![1] h3 (iotaInDim (shape1 4) 32 0)) (ix2 i k)) = 1#1 ↔ _
  rw [bcRows, bcCols, dn_fin, WordCmp.cmpi_eq_eq_toNat, WordCmp.ofBool_decide_eq_one_iff]
  show (d (ix1 i)).toNat = (BitVec.ofNat 32 k.val).toNat ↔ _
  rw [WordCmp.toNat_ofNat_of_lt (by have := k.isLt; omega)]

theorem hotW_apply (i : Fin N) (k : Fin 4) :
    extui 32 (hot d h1 h2 h3 h4) hw (ix2 i k) = BitVec.ofNat 32 (if dn d i.val = k.val then 1 else 0) := by
  apply BitVec.eq_of_toNat_eq
  have e : (extui 32 (hot d h1 h2 h3 h4) hw (ix2 i k)).toNat = if hot d h1 h2 h3 h4 (ix2 i k) = 1#1 then 1 else 0 :=
    StableHlo.Predicate.toNat_setWidth_bit _
  rw [e]
  by_cases q : dn d i.val = k.val
  · rw [if_pos q, if_pos ((hot_apply d h1 h2 h3 h4 i k).2 q)]; rfl
  · rw [if_neg q, if_neg (fun h => q ((hot_apply d h1 h2 h3 h4 i k).1 h))]; rfl

/-- The running sum at `(j, k)` holds how many destinations up to and including `j` are `k`. -/
theorem cumul_apply {Nm1 : ℕ} (hN : Nm1 + 1 = N) (init : IVec shape0 32) (hinit : init ix0 = 0#32)
    (h : (shape2 N 4).ReduceWindows (![N, 1] : Fin 2 → Nat) ![1, 1] ![Nm1, 0] ![0, 0] (shape2 N 4)) (hu : 0 < shape0.numel) (j : Fin N) (k : Fin 4) :
    Host.reduceWindow IntOp.addi ![N, 1] ![1, 1] ![Nm1, 0] ![0, 0] (extui 32 (hot d h1 h2 h3 h4) hw) init h hu (ix2 j k)
      = BitVec.ofNat 32 (rk (dn d) k.val (j.val + 1)) := by
  rw [cumsum_rows hN _ (fun i c => if dn d i = c then 1 else 0) (fun i c => hotW_apply d h1 h2 h3 h4 hw i c) init hinit h hu j k]
  exact congrArg (BitVec.ofNat 32) (sum_map_ite _ _)

/-- The sum over the rows holds how many destinations are `k`. -/
theorem total_apply (hN : N < 2 ^ 32) (h : (shape2 N 4).ReducesTo [0] (shape1 4)) (hu : 0 < shape0.numel) (k : Fin 4) :
    (Host.reduce IntOp.addi (extui 32 (hot d h1 h2 h3 h4) hw) (constantI shape0 32 0#32) h hu (ix1 k)).toNat = rk (dn d) k.val N := by
  rw [StableHlo.Predicate.toNat_reduce_count_rows hN]
  unfold rk
  rw [← card_filter_fin N]
  refine congrArg Finset.card (Finset.filter_congr fun p _ => ?_)
  rw [ij_eq_ix2]
  exact hot_apply d h1 h2 h3 h4 p k

end Words

/-- A sum along a row of which all entries but one are zero is that entry. -/
theorem reduce_row_single {n : ℕ} (x : IVec (shape2 n 4) 32) (h : (shape2 n 4).ReducesTo [1] (shape1 n)) (hu : 0 < shape0.numel)
    (j : Fin n) (k : Fin 4) (hz : ∀ k', k' ≠ k → x (ix2 j k') = 0#32) :
    Host.reduce IntOp.addi x (constantI shape0 32 0#32) h hu (ix1 j) = x (ix2 j k) := by
  rw [Host.reduce_eq_fold]
  have e : (Finset.univ.filter fun i => h.drop i = ix1 j).fold IntOp.addi (constantI shape0 32 0#32 (Shape.Idx.first hu)) x
      = ∑ i ∈ Finset.univ.filter (fun i => h.drop i = ix1 j), x i := by
    rw [Finset.sum_eq_fold]; rfl
  rw [e]
  have hd : ∀ i : (shape2 n 4).Idx, h.drop i = ix1 j ↔ i 0 = j := by
    intro i
    have hv : (h.drop i 0 : ℕ) = i 0 := Shape.ReducesTo.drop_apply_val h i 0
    constructor
    · intro q
      rw [q] at hv
      exact Fin.ext hv.symm
    · intro q
      rw [eq_ix1 (h.drop i)]
      exact congrArg ix1 (Fin.ext (hv.trans (congrArg Fin.val q)))
  refine (Finset.sum_eq_single (ix2 j k) (fun i hi hne => ?_) (fun hn => ?_))
  · rw [Finset.mem_filter, hd] at hi
    have : i = ix2 j (i 1) := by rw [← hi.2]; exact eq_ix2 i
    rw [this]
    refine hz _ fun e => hne ?_
    rw [this, e]
    rfl
  · exact absurd (Finset.mem_filter.2 ⟨Finset.mem_univ (ix2 j k), (hd (ix2 j k)).2 rfl⟩) hn

/-- Update `k` of `x.at[i, j : j + U].set(v)`, its pair of index words read signed, lands at row `i`, column `j + k`. -/
theorem lands_row {R C U w : ℕ} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hk : d.sKept = [1] := by
    show (shape2 R C).kept d.insertedWindowDims = _
    rw [hiw]
    rfl
  have hw0 : d.window (ix1 k) 0 = 0 := by
    unfold ScatterDims.window
    rw [dif_neg fun h => (of_decide_eq_true (List.mem_filter.1 h).2) (by rw [hiw]; simp)]
  have hw1 : d.window (ix1 k) 1 = k.val := by
    unfold ScatterDims.window
    rw [dif_pos (by rw [hk]; simp)]
    exact congrArg (fun t => ((ix1 k : (shape1 U).Idx) t).val) (Subsingleton.elim (α := Fin 1) _ 0)
  rw [resultIdx?_ix2, start_pair d hsd hivd, start_pair d hsd hivd, hw0, hw1]
  omega

/-- `zeros.at[0, :4].set(v)`: in the first row, entry `k` is `v`'s entry `k`. -/
theorem scatter_row {R C U w : ℕ} (d : ScatterDims (shape2 R C) (shape1 2) (shape1 U)) (hiw : d.insertedWindowDims = [0]) (hsd : d.scatterDimsToOperandDims = [0, 1])
    (hivd : d.indexVectorDim = 0) (idx : IVec (shape1 2) w) (h0 : (idx (ix1 (0 : Fin 2))).toInt = 0) (h1 : (idx (ix1 (1 : Fin 2))).toInt = 0)
    {α : Type} (x : (shape2 R C).Idx → α) (v : (shape1 U).Idx → α) (r : Fin R) (hr : r.val = 0) (c : Fin C) (k : Fin U) (hc : c.val = k.val) :
    Host.scatter d (fun _ b => b) x idx v (ix2 r c) = v (ix1 k) := by
  refine scatter_set_hit d x idx v _ _ (fun k' hk' => ?_) (ix1 k) ((lands_row d hiw hsd hivd idx k r c).2 ⟨by rw [h0, hr]; rfl, by rw [h1, hc]; omega⟩)
  rw [eq_ix1 k'] at hk' ⊢
  have := ((lands_row d hiw hsd hivd idx (k' 0) r c).1 hk').2
  rw [h1] at this
  exact congrArg v (congrArg ix1 (Fin.ext (by omega)))

/-- Every destination a rank, and no rank addressed more often than a slot has rows. -/
def Fit (f : ℕ → ℕ) : Prop := (∀ j < 4096, f j < 4) ∧ ∀ k < 4, rk f k 4096 ≤ 1152

end Cert.Cnt
-- ==== Proof.Pre.lean ====
module

public import proofs.«01_k».proof.Defs
public import proofs.«01_k».proof.Proof.Gen.Pre_slots_suffice_Kernel
public import proofs.«01_k».proof.Proof.Gen.On_balanced
public import proofs.«01_k».proof.Proof.Count

@[expose] public section

noncomputable section

/-! # What the precondition and the mask say of the destinations -/

namespace Cert.Cnt

open Idealize.ShloMosaic Idealize.ShloMosaic.ValueIdx Idealize.ShloMosaic.Routing

instance : Subsingleton (shape0.Idx) := ⟨fun a b => funext fun i => i.elim0⟩

/-- Where the precondition holds of a device's blocks its destinations fit. -/
theorem fit_of_pre {F : FTy → Type} [FloatOps F] (x : FVec F (shape2 4096 1024) .f32) (d : IVec (shape1 4096) 32)
    (h : @Cert.Pre_slots_suffice_Kernel.fn Cert.Pre_slots_suffice_Kernel.Gen.facts F _ x d = fun _ => 1#1) : Fit (dn d) := by
  have h0 := congrFun h ix0
  unfold Cert.Pre_slots_suffice_Kernel.fn at h0
  replace h0 := (IntOp.andi_eq_one).1 h0
  obtain ⟨ha, hb⟩ := h0
  refine ⟨fun j hj => ?_, fun k hk => ?_⟩
  · have := Host.reduce_andi_all _ _ _ _ _ ha (ix1 ⟨j, hj⟩)
    obtain ⟨h1, h2⟩ := (IntOp.andi_eq_one).1 this
    rw [show dn d j = (d (ix1 ⟨j, hj⟩)).toNat from dn_fin d ⟨j, hj⟩]
    have e1 : IntOp.cmpi .sge (d (ix1 ⟨j, hj⟩)) 0#32 = 1#1 := h1
    have e2 : IntOp.cmpi .slt (d (ix1 ⟨j, hj⟩)) 4#32 = 1#1 := h2
    rw [WordCmp.cmpi_sge_eq, WordCmp.ofBool_decide_eq_one_iff] at e1
    rw [WordCmp.cmpi_slt_eq, WordCmp.ofBool_decide_eq_one_iff] at e2
    have e3 : (0#32 : BitVec 32).toInt = 0 := rfl
    have e4 : (4#32 : BitVec 32).toInt = 4 := rfl
    rw [e3] at e1; rw [e4] at e2
    rw [BitVec.toInt_eq_toNat_cond] at e1 e2
    have := (d (ix1 ⟨j, hj⟩)).isLt
    split at e1 <;> omega
  · have h1 := Host.reduce_andi_all _ _ _ _ _ hb (ix1 ⟨k, hk⟩)
    have ht := total_apply d Cert.Pre_slots_suffice_Kernel.Gen.bcast_S4096_S4096x1_0 Cert.Pre_slots_suffice_Kernel.Gen.bcast_S4096x1_S4096x4_0_1
      Cert.Pre_slots_suffice_Kernel.Gen.bcast_S4_S1x4_1 Cert.Pre_slots_suffice_Kernel.Gen.bcast_S1x4_S4096x4_0_1 Cert.Pre_slots_suffice_Kernel.Gen.natLt_1_32
      (by decide) Cert.Pre_slots_suffice_Kernel.Gen.reducesTo_S4096x4_S4_d0 Cert.Pre_slots_suffice_Kernel.Gen.h_S_ ⟨k, hk⟩
    have e1 : IntOp.cmpi .sle (Host.reduce IntOp.addi (extui 32 (hot d Cert.Pre_slots_suffice_Kernel.Gen.bcast_S4096_S4096x1_0 Cert.Pre_slots_suffice_Kernel.Gen.bcast_S4096x1_S4096x4_0_1
      Cert.Pre_slots_suffice_Kernel.Gen.bcast_S4_S1x4_1 Cert.Pre_slots_suffice_Kernel.Gen.bcast_S1x4_S4096x4_0_1) Cert.Pre_slots_suffice_Kernel.Gen.natLt_1_32) (constantI shape0 32 0#32)
      Cert.Pre_slots_suffice_Kernel.Gen.reducesTo_S4096x4_S4_d0 Cert.Pre_slots_suffice_Kernel.Gen.h_S_ (ix1 ⟨k, hk⟩)) 1152#32 = 1#1 := h1
    have hl := rk_le (dn d) k 4096
    change _ = rk (dn d) k 4096 at ht
    rw [WordCmp.cmpi_sle_eq, WordCmp.ofBool_decide_eq_one_iff, WordCmp.toInt_eq_toNat_of_lt_half (by rw [ht]; omega), ht] at e1
    have e4 : (1152#32 : BitVec 32).toInt = 1152 := rfl
    rw [e4] at e1
    omega

/-- Where the mask is set every rank is addressed exactly 4096 times. -/
theorem bal_of_mask {F : FTy → Type} [FloatOps F] (x : FVec F (shape2 16384 1024) .f32) (d : IVec (shape1 16384) 32) (i : (shape2 16384 1024).Idx)
    (h : @Cert.On_balanced.fn Cert.On_balanced.Gen.facts F _ x d i = 1#1) : ∀ k < 4, rk (dn d) k 16384 = 4096 := by
  intro k hk
  unfold Cert.On_balanced.fn at h
  have h1 := Host.reduce_andi_all _ _ _ _ _ h (ix1 ⟨k, hk⟩)
  have ht := total_apply d Cert.On_balanced.Gen.bcast_S16384_S16384x1_0 Cert.On_balanced.Gen.bcast_S16384x1_S16384x4_0_1
    Cert.On_balanced.Gen.bcast_S4_S1x4_1 Cert.On_balanced.Gen.bcast_S1x4_S16384x4_0_1 Cert.On_balanced.Gen.natLt_1_32
    (by decide) Cert.On_balanced.Gen.reducesTo_S16384x4_S4_d0 Cert.On_balanced.Gen.h_S_ ⟨k, hk⟩
  have e1 : IntOp.cmpi .eq (Host.reduce IntOp.addi (extui 32 (hot d Cert.On_balanced.Gen.bcast_S16384_S16384x1_0 Cert.On_balanced.Gen.bcast_S16384x1_S16384x4_0_1
    Cert.On_balanced.Gen.bcast_S4_S1x4_1 Cert.On_balanced.Gen.bcast_S1x4_S16384x4_0_1) Cert.On_balanced.Gen.natLt_1_32) (constantI shape0 32 0#32)
    Cert.On_balanced.Gen.reducesTo_S16384x4_S4_d0 Cert.On_balanced.Gen.h_S_ (ix1 ⟨k, hk⟩)) 4096#32 = 1#1 := h1
  rw [WordCmp.cmpi_eq_eq_toNat, WordCmp.ofBool_decide_eq_one_iff, ht] at e1
  exact e1

end Cert.Cnt
-- ==== Proof.Ref.lean ====
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.StableHlo.RunRead

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The stable order of the destinations, as the words that the sort carries along. -/
def order (d : IVec S16384 32) : IVec S16384 32 := (Host.sort2 S16384 0 comparator_i32_i32_d0 d (iotaInDim S16384 32 0)).2

/-- The reference's result from its arguments. -/
def refOut (x : FVec F S16384x1024 .f32) (d : IVec S16384 32) : FVec F S16384x1024 .f32 :=
  Host.gather gather_S16384x1024_S16384x1_S16384x1024_1_0_n_n_0_1_11024 x
    (broadcastInDim S16384x1 ![0] bcast_S16384_S16384x1_0
      (select (cmpi .slt (order d) (broadcastInDim S16384 ![] bcast_S_S16384 (constantI S_ 32 0#32)))
        (addi (order d) (broadcastInDim S16384 ![] bcast_S_S16384 (constantI S_ 32 16384#32))) (order d)))

/-- @main's operations, in order. -/
abbrev ops : List (HloOp τ sig (Elt F)) :=
  [ StableHlo.TRef.nullary (.of main_call0_v0 : StableHlo.TRef sig ⟨S16384, .i32⟩) (iotaInDim S16384 32 0),
    StableHlo.TRef.binary (.of main_arg1 : StableHlo.TRef sig ⟨S16384, .i32⟩) (.of main_call0_v0 : StableHlo.TRef sig ⟨S16384, .i32⟩) (.of main_call0_v1_0 : StableHlo.TRef sig ⟨S16384, .i32⟩)
      (fun x y => (Host.sort2 S16384 0 comparator_i32_i32_d0 x y).1),
    StableHlo.TRef.binary (.of main_arg1 : StableHlo.TRef sig ⟨S16384, .i32⟩) (.of main_call0_v0 : StableHlo.TRef sig ⟨S16384, .i32⟩) (.of main_v0 : StableHlo.TRef sig ⟨S16384, .i32⟩)
      (fun x y => (Host.sort2 S16384 0 comparator_i32_i32_d0 x y).2),
    nullary main_c (constantI S_ 32 0#32),
    unary main_c main_v1 (broadcastInDim S16384 ![] bcast_S_S16384 : (⟨S_, .i32⟩ : BufTy).Contents (Elt F) → (⟨S16384, .i32⟩ : BufTy).Contents (Elt F)),
    binary main_v0 main_v1 main_v2 (cmpi .slt : (⟨S16384, .i32⟩ : BufTy).Contents (Elt F) → (⟨S16384, .i32⟩ : BufTy).Contents (Elt F) → (⟨S16384, .i1⟩ : BufTy).Contents (Elt F)),
    nullary main_c_0 (constantI S_ 32 16384#32),
    unary main_c_0 main_v3 (broadcastInDim S16384 ![] bcast_S_S16384 : (⟨S_, .i32⟩ : BufTy).Contents (Elt F) → (⟨S16384, .i32⟩ : BufTy).Contents (Elt F)),
    binary main_v0 main_v3 main_v4 (addi : (⟨S16384, .i32⟩ : BufTy).Contents (Elt F) → (⟨S16384, .i32⟩ : BufTy).Contents (Elt F) → (⟨S16384, .i32⟩ : BufTy).Contents (Elt F)),
    ternary main_v2 main_v4 main_v0 main_v5 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v5 main_v6 (broadcastInDim S16384x1 ![0] bcast_S16384_S16384x1_0 : (⟨S16384, .i32⟩ : BufTy).Contents (Elt F) → (⟨S16384x1, .i32⟩ : BufTy).Contents (Elt F)),
    binary main_arg0 main_v6 main_v7 ((fun x i => Host.gather gather_S16384x1024_S16384x1_S16384x1024_1_0_n_n_0_1_11024 x i) : (⟨S16384x1024, .f32⟩ : BufTy).Contents (Elt F) → (⟨S16384x1, .i32⟩ : BufTy).Contents (Elt F) → (⟨S16384x1024, .f32⟩ : BufTy).Contents (Elt F)) ]

/-- @main is that straight line. -/
theorem main_eq (c : Dev nD) : main (F := F) c = seq ops := rfl

/-- The result's buffer at the end. -/
theorem out_eq (V : Valuation τ sig (Elt F)) : after ops V (main_v7 : DevRef τ sig) = refOut (V (main_arg0 : DevRef τ sig)) (V (main_arg1 : DevRef τ sig)) := by
  unfold ops
  after_reads_simp
  simp -implicitDefEqProofs only [StableHlo.TRef.toBuf, StableHlo.TRef.ofBuf, cast_cast, cast_eq]
  unfold refOut order
  rfl

/-- No operation writes an argument. -/
theorem arg0_eq (V : Valuation τ sig (Elt F)) : after ops V (main_arg0 : DevRef τ sig) = V (main_arg0 : DevRef τ sig) := by
  unfold ops
  after_reads_simp

theorem arg1_eq (V : Valuation τ sig (Elt F)) : after ops V (main_arg1 : DevRef τ sig) = V (main_arg1 : DevRef τ sig) := by
  unfold ops
  after_reads_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub ..,
    binary_bufs_sub .., ternary_bufs_sub .., unary_bufs_sub .., binary_bufs_sub ..⟩

/-- The reference ends with its result's buffer at `refOut` of its arguments, the arguments as they were and every counter at zero. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v7) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run (defs (F := F)) _ _).mono (fun r h => ⟨fun c => ⟨(h c main_v7).trans (out_eq _), (h c main_arg0).trans (arg0_eq _), (h c main_arg1).trans (arg1_eq _)⟩,
      Idealize.ShloMosaic.sem_eq_zero_of_no_sems (by decide) r.2⟩)
    (run_seq scopedRefs_eq scopedSems_eq defs main (fun _ => ops) main_eq (fun _ => ops_sub) m ρ)

end Cert.ReferenceIdeal.Hand
-- ==== Proof.Geo.lean ====
module

public import proofs.«01_k».proof.Proof.Gen.KernelIdeal.Frame

@[expose] public section

set_option maxRecDepth 16384

noncomputable section

namespace Cert.KernelIdeal.Hand

open Idealize.ShloMosaic Idealize.ShloMosaic.TcCoe
open Idealize.SL.Sem
open Cert.KernelIdeal.Gen

variable {F : FTy → Type} [FloatOps F]

/-! ## The ring of four devices -/

/-- The device `k + 1` places after `c`. -/
def fwd (k : Fin 3) (c : Dev nD) : Dev nD := ⟨(c.val + k.val + 1) % 4, Nat.mod_lt _ (by decide)⟩
/-- The device `k + 1` places before `c`. -/
def bwd (k : Fin 3) (c : Dev nD) : Dev nD := ⟨(c.val + 3 - k.val) % 4, Nat.mod_lt _ (by decide)⟩
/-- The distance back seen from the other end: `k` and `rev k` sum to the whole ring. -/
def rev (k : Fin 3) : Fin 3 := ⟨2 - k.val, by omega⟩

theorem bwd_fwd : ∀ (k : Fin 3) (c : Dev nD), bwd k (fwd k c) = c := by decide
theorem fwd_bwd : ∀ (k : Fin 3) (c : Dev nD), fwd k (bwd k c) = c := by decide
theorem fwd_rev : ∀ (k : Fin 3) (c : Dev nD), fwd (rev k) (fwd k c) = c := by decide
theorem fwd_rev' : ∀ (k : Fin 3) (c : Dev nD), fwd k (fwd (rev k) c) = c := by decide
theorem fwd_eq_bwd : ∀ (k : Fin 3) (c : Dev nD), fwd (rev k) c = bwd k c := by decide
theorem fwd_ne : ∀ (k : Fin 3) (c : Dev nD), fwd k c ≠ c := by decide
theorem rev_rev : ∀ k : Fin 3, rev (rev k) = k := by decide
theorem fwd_inj_left : ∀ (k k' : Fin 3) (c : Dev nD), fwd k c = fwd k' c → k = k' := by decide

/-- Every device other than `c` is some number of places before it. -/
theorem exists_bwd : ∀ s c : Dev nD, s ≠ c → ∃ k, s = bwd k c := by decide

/-! ## The devices named by the program -/

theorem dev1 : ∀ c : Dev nD, (⟨k0_dev1 c, k0_dev1_lt c⟩ : Dev nD) = fwd 0 c := by decide
theorem dev2 : ∀ c : Dev nD, (⟨k0_dev2 c, k0_dev2_lt c⟩ : Dev nD) = fwd 1 c := by decide
theorem dev3 : ∀ c : Dev nD, (⟨k0_dev3 c, k0_dev3_lt c⟩ : Dev nD) = fwd 2 c := by decide
theorem dev4 : ∀ c : Dev nD, (⟨k0_dev4 c, k0_dev4_lt c⟩ : Dev nD) = fwd 0 c := by decide
theorem dev5 : ∀ c : Dev nD, (⟨k0_dev5 c, k0_dev5_lt c⟩ : Dev nD) = fwd 0 c := by decide
theorem dev6 : ∀ c : Dev nD, (⟨k0_dev6 c, k0_dev6_lt c⟩ : Dev nD) = fwd 1 c := by decide
theorem dev7 : ∀ c : Dev nD, (⟨k0_dev7 c, k0_dev7_lt c⟩ : Dev nD) = fwd 1 c := by decide
theorem dev8 : ∀ c : Dev nD, (⟨k0_dev8 c, k0_dev8_lt c⟩ : Dev nD) = fwd 2 c := by decide
theorem dev9 : ∀ c : Dev nD, (⟨k0_dev9 c, k0_dev9_lt c⟩ : Dev nD) = fwd 2 c := by decide

/-! ## The offsets and the branches -/

theorem off4_1 : ∀ c : Dev nD, k0_off4 c 1#32 = ![1152 * (fwd 0 c).val, 0, 0] := by decide
theorem off4_2 : ∀ c : Dev nD, k0_off4 c 2#32 = ![1152 * (fwd 1 c).val, 0, 0] := by decide
theorem off4_3 : ∀ c : Dev nD, k0_off4 c 3#32 = ![1152 * (fwd 2 c).val, 0, 0] := by decide

/-- Where device `c` keeps the counts of sender `s`: place `0` for its own, `k + 1` for the sender `k + 1` places back. -/
def place (s c : Dev nD) : Fin 4 := ⟨(c.val + 4 - s.val) % 4, Nat.mod_lt _ (by decide)⟩

theorem place_bwd : ∀ (k : Fin 3) (c : Dev nD), (place (bwd k c) c).val = k.val + 1 := by decide

theorem off5_0 : ∀ c : Dev nD, k0_off5 c 0#32 = ![(place 0 c).val, 0, c.val] := by decide
theorem off5_1 : ∀ c : Dev nD, k0_off5 c 1#32 = ![(place 1 c).val, 0, c.val] := by decide
theorem off10 : ∀ c : Dev nD, k0_off10 c = ![(place 2 c).val, 0, c.val] := by decide

theorem cond2 : ∀ c : Dev nD, k0_cond2 c = 1#1 ↔ c ≠ 0 := by decide
theorem cond3 : ∀ c : Dev nD, k0_cond3 c = 1#1 ↔ c = 1 := by decide
theorem cond4 : ∀ c : Dev nD, k0_cond4 c = 1#1 ↔ c ≠ 1 := by decide
theorem cond5 : ∀ c : Dev nD, k0_cond5 c = 1#1 ↔ c = 2 := by decide
theorem cond6 : ∀ c : Dev nD, k0_cond6 c = 1#1 ↔ c ≠ 2 := by decide
theorem cond7 : ∀ c : Dev nD, k0_cond7 c = 1#1 ↔ c = 3 := by decide
theorem cond8 : ∀ c : Dev nD, k0_cond8 c = 1#1 ↔ c ≠ 3 := by decide

theorem off6 : ∀ c : Dev nD, c ≠ 0 → k0_off6 c = ![(place 0 c).val - 1, 0, 0, 0] := by decide
theorem off9 : ∀ c : Dev nD, c ≠ 1 → k0_off9 c = ![(place 1 c).val - 1, 0, 0, 0] := by decide
theorem off13 : ∀ c : Dev nD, c ≠ 2 → k0_off13 c = ![(place 2 c).val - 1, 0, 0, 0] := by decide
theorem off16 : ∀ c : Dev nD, c ≠ 3 → k0_off16 c = ![(place 3 c).val - 1, 0, 0, 0] := by decide

/-- The number of rows device `s` has for device `c`: its own word when they are the same device, the received word otherwise. -/
def pick (s c : Dev nD) (own got : BitVec 32) : BitVec 32 := if c = s then own else got

theorem off7 (c : Dev nD) (a b : BitVec 32) : k0_off7 c a b = ![(0#32 + pick 0 c a b).toNat, 0, 0] := by
  revert c; intro c; fin_cases c <;> rfl
theorem off8 (c : Dev nD) (a b : BitVec 32) : k0_off8 c a b = ![(0#32 + pick 0 c a b).toNat, 0, 0] := by
  fin_cases c <;> rfl
theorem off11 (c : Dev nD) (a b a' b' : BitVec 32) :
    k0_off11 c a b a' b' = ![(0#32 + pick 0 c a b + pick 1 c a' b').toNat, 0, 0] := by
  fin_cases c <;> rfl
theorem off12 (c : Dev nD) (a b a' b' : BitVec 32) :
    k0_off12 c a b a' b' = ![(0#32 + pick 0 c a b + pick 1 c a' b').toNat, 0, 0] := by
  fin_cases c <;> rfl
theorem off14 (c : Dev nD) (a b a' b' a'' b'' : BitVec 32) :
    k0_off14 c a b a' b' a'' b'' = ![(0#32 + pick 0 c a b + pick 1 c a' b' + pick 2 c a'' b'').toNat, 0, 0] := by
  fin_cases c <;> rfl
theorem off15 (c : Dev nD) (a b a' b' a'' b'' : BitVec 32) :
    k0_off15 c a b a' b' a'' b'' = ![(0#32 + pick 0 c a b + pick 1 c a' b' + pick 2 c a'' b'').toNat, 0, 0] := by
  fin_cases c <;> rfl

end Cert.KernelIdeal.Hand

end
-- ==== Proof.Sched.lean ====
module

public import proofs.«01_k».proof.Proof.Geo
public import Idealize.ShloMosaic.Lib.Ring.Trips
public import Idealize.ShloMosaic.Lib.Transfers
public import Idealize.ShloMosaic.Lib.Rounds

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's own rounds live: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The operands and the pieces of them the copies name -/

abbrev A0 : Memref sig .tc .vmem S4096x8x128 .f32 := Memref.whole cc0_stg0_0
abbrev A1 : Memref sig .tc .smem S4096 .i32 := Memref.whole cc0_stg1_0
abbrev A2 : Memref sig .tc .smem S4 .i32 := Memref.whole cc0_stg2_0
abbrev A3 : Memref sig .tc .vmem S8x128 .i32 := Memref.whole cc0_stg3_0
abbrev A4 : Memref sig .tc .hbm S5248x8x128 .f32 := Memref.whole main_v24
abbrev A5 : Memref sig .tc .vmem S4608x8x128 .f32 := Memref.whole cc0_scratch0
abbrev A6 : Memref sig .tc .vmem S3x1152x8x128 .f32 := Memref.whole cc0_scratch1
abbrev A7 : Memref sig .tc .vmem S4x8x128 .i32 := Memref.whole cc0_scratch2
abbrev A8 : Memref sig .tc .smem S4x8x128 .i32 := Memref.whole cc0_scratch3

theorem reg_inb (o : Fin 4) : ∀ a, (![1152 * o.val, 0, 0] : Fin 3 → ℕ) a + S1152x8x128.size a ≤ S4608x8x128.size a := by
  revert o; decide
theorem slot_inb (k : Fin 3) : ∀ a, (![k.val, 0, 0, 0] : Fin 4 → ℕ) a + S1x1152x8x128.size a ≤ S3x1152x8x128.size a := by
  revert k; decide
theorem cnt_inb (k : Fin 4) : ∀ a, (![k.val, 0, 0] : Fin 3 → ℕ) a + S1x8x128.size a ≤ S4x8x128.size a := by
  revert k; decide

/-- The rows of the send buffer meant for device `o`. -/
abbrev regM (o : Fin 4) : Memref sig .tc .vmem S1152x8x128 .f32 :=
  A5.slice (Rect.unit (s := S4608x8x128) ![1152 * o.val, 0, 0] S1152x8x128.size (reg_inb o)) (fun _ => rfl)
/-- Slot `k` of the receive buffer. -/
abbrev slotM (k : Fin 3) : Memref sig .tc .vmem S1152x8x128 .f32 :=
  (A6.slice (Rect.unit (s := S3x1152x8x128) ![k.val, 0, 0, 0] S1x1152x8x128.size (slot_inb k)) (fun _ => rfl)).squeeze
    S1152x8x128 squeezes_S1x1152x8x128_S1152x8x128
/-- Slot `k` of the received counts. -/
abbrev cntM (k : Fin 4) : Memref sig .tc .vmem S8x128 .i32 :=
  (A7.slice (Rect.unit (s := S4x8x128) ![k.val, 0, 0] S1x8x128.size (cnt_inb k)) (fun _ => rfl)).squeeze
    S8x128 squeezes_S1x8x128_S8x128

/-- The bytes of one data copy, in credits. -/
abbrev ND : ℕ := (slotM 0).view.dmaCredit
/-- The bytes of one count copy, in credits. -/
abbrev NC : ℕ := (cntM 0).view.dmaCredit
theorem ND_pos : 0 < ND := View.dmaCredit_pos _ (by decide)
theorem NC_pos : 0 < NC := View.dmaCredit_pos _ (by decide)

/-! ## What every device is given -/

/-- The four operands of the kernel on every device. -/
structure Inp (F : FTy → Type) where
  X : Dev nD → S4096x8x128.Idx → Elt F .f32
  P : Dev nD → S4096.Idx → BitVec 32
  C2 : Dev nD → S4.Idx → BitVec 32
  C3 : Dev nD → S8x128.Idx → BitVec 32

/-- Rows `rd` hold what device `s` has for device `c`: row `r` is the row of `s` whose place in the send buffer is `1152 * c + r`. -/
def SrcOK (I : Inp F) (s c : Dev nD) (rd : S1152x8x128.Idx → Elt F .f32) : Prop :=
  ∀ (x : S1152x8x128.Idx) (j : S4096x8x128.Idx) (r : S4096.Idx), (r 0).val = (j 0).val →
    (I.P s r).toNat = 1152 * c.val + (x 0).val → (j 1).val = (x 1).val → (j 2).val = (x 2).val → rd x = I.X s j

/-! ## Cells -/

abbrev barS : Sem sig := ⟨0, by decide⟩
/-- The DMA semaphore of kind `a` for distance `k + 1`: kinds are data sent, data received, count sent, count received. -/
def sm (a : Fin 4) (k : Fin 3) : DmaSem sig := ⟨4 * a.val + 5 + k.val, by have := a.isLt; have := k.isLt; show _ < 21; omega⟩
/-- The DMA semaphore of the copies on one device. -/
abbrev copyS : DmaSem sig := ⟨20, by decide⟩

/-- Which of the exchange's semaphores a DMA semaphore is, if it is one. -/
def dec (n : DmaSem sig) : Option (Fin 4 × Fin 3) :=
  if h : 4 ≤ n.val ∧ n.val < 20 ∧ n.val % 4 ≠ 0 then some (⟨n.val / 4 - 1, by omega⟩, ⟨n.val % 4 - 1, by omega⟩) else none

theorem dec_sm : ∀ (a : Fin 4) (k : Fin 3), dec (sm a k) = some (a, k) := by decide
theorem sm_of_dec (n : DmaSem sig) (a : Fin 4) (k : Fin 3) (h : dec n = some (a, k)) : n = sm a k := by
  revert n a k; decide
theorem sm_inj : ∀ (a a' : Fin 4) (k k' : Fin 3), sm a k = sm a' k' → a = a' ∧ k = k' := by decide

abbrev barCell (c : Dev nD) : GSem nD τ sig := ((c : Thread nD τ), .reg barS)
abbrev cell (a : Fin 4) (k : Fin 3) (c : Dev nD) : GSem nD τ sig := ((c : Thread nD τ), .dma (sm a k))

/-! ## Payloads -/

abbrev slotPts (k : Fin 3) (c : Dev nD) (f : Buf (Elt F) ((slotM k).view.loc (c : Thread nD τ))) : sProp 𝕄 :=
  (slotM k).view.loc (c : Thread nD τ) ↦[(slotM k).view.set]{fullShare} f
abbrev regPts (o : Fin 4) (c : Dev nD) (f : Buf (Elt F) ((regM o).view.loc (c : Thread nD τ))) : sProp 𝕄 :=
  (regM o).view.loc (c : Thread nD τ) ↦[(regM o).view.set]{fullShare} f
abbrev cntPts (k : Fin 4) (c : Dev nD) (f : Buf (Elt F) ((cntM k).view.loc (c : Thread nD τ))) : sProp 𝕄 :=
  (cntM k).view.loc (c : Thread nD τ) ↦[(cntM k).view.set]{fullShare} f
/-- A third of the counts a device sends, through the whole view. -/
abbrev ownPts (k : Fin 3) (c : Dev nD) (f : Buf (Elt F) (A3.view.loc (c : Thread nD τ))) : sProp 𝕄 :=
  A3.view.loc (c : Thread nD τ) ↦[A3.view.set]{Ring.shares3 fullShare k} f

variable (I : Inp F)

/-- Paid to `c`'s barrier by the device `k + 1` places after it: that device's slots for `c`'s copies, and that its receive cells are open. -/
def barPay (k : Fin 3) (c : Dev nD) : sProp 𝕄 :=
  iprop((∃ f, slotPts k (fwd k c) f) ∗ (∃ f, cntPts k.succ (fwd k c) f) ∗ reached ER (cell 1 k (fwd k c)) 0 ∗ reached ER (cell 3 k (fwd k c)) 0)
/-- What the exchange's DMA cells hand over. -/
def pay (a : Fin 4) (k : Fin 3) (c : Dev nD) : sProp 𝕄 :=
  if a = 0 then iprop(∃ f, regPts (fwd k c) c f)
  else if a = 1 then iprop(∃ f, slotPts k c f ∗ ⌜SrcOK I (bwd k c) c ((slotM k).view.read (Elt F) f)⌝)
  else if a = 2 then ownPts k c (I.C3 c)
  else iprop(∃ f, cntPts k.succ c f ∗ ⌜(cntM k.succ).view.read (Elt F) f = I.C3 (bwd k c)⌝)

/-- The DMA payload at a semaphore number. -/
def dmaPay (n : DmaSem sig) (c : Dev nD) : sProp 𝕄 :=
  match dec n with
  | some (a, k) => pay I a k c
  | none => iprop(emp)
def amt (n : DmaSem sig) : ℕ :=
  match dec n with
  | some (a, _) => if a = 0 ∨ a = 1 then ND else NC
  | none => 1

/-- The exchange: one round on every barrier cell, paid by the three other devices, and one on every DMA cell. -/
def sch : Rounds.Schedule (GSem nD τ sig) (Fin 3) 𝕄 where
  duties g r := if r = 0 ∧ g.1.2 = .tc then (match g.2 with | .reg _ => Finset.univ | .dma n => if (dec n).isSome then {0} else ∅) else ∅
  unitless _ := False
  amount g _ _ := match g.2 with | .reg _ => 1 | .dma n => amt n
  payload g _ d := match g.2 with | .reg _ => barPay d g.1.1 | .dma n => dmaPay I n g.1.1
  amount_pos g _ _ _ := by
    obtain ⟨t, s⟩ := g
    cases s with
    | reg s => exact Nat.one_pos
    | dma n =>
      show 0 < amt n
      unfold amt
      split
      · split
        · exact ND_pos
        · exact NC_pos
      · exact Nat.one_pos

instance pay_storable (a : Fin 4) (k : Fin 3) (c : Dev nD) : BI.Storable (upEmb : UEmb _ 𝕄) (pay I a k c) := by
  unfold pay
  (repeat' split) <;> infer_instance
set_option synthInstance.maxHeartbeats 400000 in
instance barPay_storable (k : Fin 3) (c : Dev nD) : BI.Storable (upEmb : UEmb _ 𝕄) (barPay (F := F) k c) := by
  unfold barPay; infer_instance
instance sch_payload_storable (g : GSem nD τ sig) (r : ℕ) (d : Fin 3) :
    BI.Storable (upEmb : UEmb _ 𝕄) ((sch I).payload g r d) := by
  obtain ⟨t, s⟩ := g
  cases s with
  | reg s => show BI.Storable upEmb (barPay d t.1); infer_instance
  | dma n =>
    show BI.Storable upEmb (dmaPay I n t.1)
    unfold dmaPay
    split <;> infer_instance

theorem duties_bar (c : Dev nD) : (sch I).duties (barCell c) 0 = Finset.univ := by
  dsimp only [sch]; exact if_pos ⟨rfl, rfl⟩
theorem duties_cell (a : Fin 4) (k : Fin 3) (c : Dev nD) : (sch I).duties (cell a k c) 0 = {0} := by
  dsimp only [sch]; rw [if_pos ⟨rfl, rfl⟩, dec_sm]; rfl
theorem duties_later (g : GSem nD τ sig) : ∀ r, 0 + 1 ≤ r → (sch I).duties g r = ∅ :=
  fun r hr => if_neg (fun h => by omega)
theorem amount_bar (c : Dev nD) (d : Fin 3) : (sch I).amount (barCell c) 0 d = 1 := rfl
theorem amount_cell (a : Fin 4) (k : Fin 3) (c : Dev nD) (d : Fin 3) :
    (sch I).amount (cell a k c) 0 d = if a = 0 ∨ a = 1 then ND else NC := by
  show amt (sm a k) = _
  unfold amt; rw [dec_sm]
theorem payload_bar (c : Dev nD) (d : Fin 3) : (sch I).payload (barCell c) 0 d = barPay d c := rfl
theorem payload_cell (a : Fin 4) (k : Fin 3) (c : Dev nD) (d : Fin 3) : (sch I).payload (cell a k c) 0 d = pay I a k c := by
  show dmaPay I (sm a k) c = _
  unfold dmaPay; rw [dec_sm]
theorem expect_bar (c : Dev nD) : (sch I).expect (barCell c) 0 = 3 := by
  unfold Schedule.expect Schedule.amountOf; rw [duties_bar]; rfl
theorem expect_cell (a : Fin 4) (k : Fin 3) (c : Dev nD) : (sch I).expect (cell a k c) 0 = if a = 0 ∨ a = 1 then ND else NC := by
  unfold Schedule.expect Schedule.amountOf; rw [duties_cell, Finset.sum_singleton, amount_cell]
theorem rest_bar (c : Dev nD) : bigSep ((sch I).duties (barCell c) 0 \ ∅) (fun u => (sch I).payload (barCell c) 0 u)
    = iprop(barPay 0 c ∗ barPay 1 c ∗ barPay 2 c) := by
  rw [Finset.sdiff_empty, duties_bar]
  exact bigSep_univ_eq_bigSepL [(0 : Fin 3), (1 : Fin 3), (2 : Fin 3)] (by decide) (by decide) _
theorem rest_cell (a : Fin 4) (k : Fin 3) (c : Dev nD) :
    bigSep ((sch I).duties (cell a k c) 0 \ ∅) (fun u => (sch I).payload (cell a k c) 0 u) = pay I a k c := by
  rw [Finset.sdiff_empty, duties_cell, bigSep_singleton, payload_cell]

/-! ## What each core owes at launch, in the order it pays; the levels -/

/-- A unit owed to the barrier of the device `k + 1` places after `c`. -/
abbrev tBar (k : Fin 3) (c : Dev nD) : CellTallies nD τ sig Unit := tallyAt (barCell (fwd k c)) () 1
abbrev tDat (k : Fin 3) (c : Dev nD) : CellTallies nD τ sig Unit := tallyAt (cell 1 k (fwd k c)) () ND
abbrev tCnt (k : Fin 3) (c : Dev nD) : CellTallies nD τ sig Unit := tallyAt (cell 3 k (fwd k c)) () NC

/-- What is owed once the counts and data up to a distance are sent. -/
abbrev oD1 (c : Dev nD) : CellTallies nD τ sig Unit := (0 + tDat 2 c) + tCnt 2 c
abbrev oD0 (c : Dev nD) : CellTallies nD τ sig Unit := (oD1 c + tDat 1 c) + tCnt 1 c
/-- What is owed once all three barriers are signalled. -/
abbrev oB (c : Dev nD) : CellTallies nD τ sig Unit := (oD0 c + tDat 0 c) + tCnt 0 c
/-- What is owed at launch. -/
abbrev O₀ (c : Dev nD) : CellTallies nD τ sig Unit := ((oB c + tBar 2 c) + tBar 1 c) + tBar 0 c

def L (g : GSem nD τ sig) : Finset Unit := if g.1.2 = .tc then {()} else ∅
/-- Barrier cells at 1, receive cells at 2, the rest at 0. -/
def lv (g : GSem nD τ sig) (_ : Unit) : ℕ :=
  match g.2 with
  | .reg _ => 1
  | .dma n => match dec n with
    | some (a, _) => if a = 1 ∨ a = 3 then 2 else 0
    | none => 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) : lv (barCell c) () = 1 := rfl
theorem lv_cell (a : Fin 4) (k : Fin 3) (c : Dev nD) : lv (cell a k c) () = if a = 1 ∨ a = 3 then 2 else 0 := by
  show (match dec (sm a k) with | some (a, _) => if a = 1 ∨ a = 3 then 2 else 0 | none => 0) = _
  rw [dec_sm]

/-- A cell with something owed on it after the signals is a receive cell of some device. -/
theorem oB_pos (c : Dev nD) (g : GSem nD τ sig) (u : Unit) (h : 0 < oB c g u) :
    ∃ a k d, (a = 1 ∨ a = 3) ∧ g = cell a k d := by
  by_contra hn
  have key : ∀ (a : Fin 4) (k : Fin 3) (d : Dev nD) (N : ℕ), (a = 1 ∨ a = 3) → tallyAt (cell a k d) () N g u = 0 := by
    intro a k d N ha
    rw [tallyAt_apply]
    exact if_neg (fun hg => hn ⟨a, k, d, ha, hg.1⟩)
  have h0 : oB c g u = 0 := by
    show ((((((0 + tDat 2 c) + tCnt 2 c) + tDat 1 c) + tCnt 1 c) + tDat 0 c) + tCnt 0 c) g u = 0
    simp only [Pi.add_apply, Finsupp.add_apply, key 1 _ _ _ (.inl rfl), key 3 _ _ _ (.inr rfl)]
    rfl
  omega

theorem mayWait_bar (c : Dev nD) :
    (levAts L lv : sProp 𝕄) ⊢ MayWait (c : Thread nD τ) (.reg barS) () (oB c) :=
  MayOwe.of_cut (L := L) (lev := lv) 1 (fun p hp => by rw [Finset.mem_singleton.mp hp, L_tc]; exact Finset.mem_singleton_self _)
    (fun g u hg => by
      obtain ⟨a, k, d, ha, rfl⟩ := oB_pos c g u hg
      rw [L_tc]; exact Finset.mem_singleton_self _)
    (fun p hp => by rw [Finset.mem_singleton.mp hp]; exact le_of_eq (lv_bar c))
    (fun g u hg => by
      obtain ⟨a, k, d, ha, rfl⟩ := oB_pos c g u hg
      show 1 < lv (cell a k d) ()
      rw [lv_cell, if_pos ha]; decide)

end Cert.KernelIdeal.Hand

end
--
-- ==== Proof.Steps.lean ====
module

public import proofs.«01_k».proof.Proof.Sched

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none
abbrev EC : UEmb Counters (MT nD τ sig Unit (Elt F) ℕ UU ℕ) := countersEmb (U := UU)

variable (I : Inp F)

/-! ## The invariants every device may consult -/

/-- Every device with every semaphore kind and distance. -/
abbrev Slots : Type := Dev nD × Fin 4 × Fin 3

/-- All the exchange's cells' invariants, under one map of names. -/
def recs (κ : GSem nD τ sig → ℕ) : sProp 𝕄 :=
  iprop((bigSep Finset.univ fun d : Dev nD => cellInv ER (sch I) (κ (barCell d)) (barCell d))
    ∗ bigSep Finset.univ fun p : Slots => cellInv ER (sch I) (κ (cell p.2.1 p.2.2 p.1)) (cell p.2.1 p.2.2 p.1))

instance recs_persistent (κ : GSem nD τ sig → ℕ) : BI.Persistent (recs I κ) := by unfold recs; infer_instance

theorem recs_bar (κ : GSem nD τ sig → ℕ) (d : Dev nD) : recs I κ ⊢ cellInv ER (sch I) (κ (barCell d)) (barCell d) := by
  unfold recs
  exact (BI.sep_and.trans and_elimL).trans
    (bigSep_elim (Φ := fun d : Dev nD => (cellInv ER (sch I) (κ (barCell d)) (barCell d) : sProp 𝕄)) (Finset.mem_univ d))
theorem recs_cell (κ : GSem nD τ sig → ℕ) (a : Fin 4) (k : Fin 3) (d : Dev nD) :
    recs I κ ⊢ cellInv ER (sch I) (κ (cell a k d)) (cell a k d) := by
  unfold recs
  exact (BI.sep_and.trans and_elimR).trans
    (bigSep_elim (Φ := fun p : Slots => (cellInv ER (sch I) (κ (cell p.2.1 p.2.2 p.1)) (cell p.2.1 p.2.2 p.1) : sProp 𝕄))
      (Finset.mem_univ ((d, a, k) : Slots)))

/-- What a core still owes, whatever waits it has made. -/
def owesX (c : Dev nD) (O : CellTallies nD τ sig Unit) : sProp 𝕄 := iprop(∃ W, owes (c : Thread nD τ) O W)

variable (κ : GSem nD τ sig → ℕ) (c : Dev nD)

/-! ## One step each -/

/-- Signal the barrier of the device `k + 1` places after: the own slots for its copies go with the unit. -/
theorem step_signal (k : Fin 3) (O : CellTallies nD τ sig Unit) (t : Dev nD) (ht : t = fwd k c) {s : Sem sig} (hs : s = barS)
    {α : Type} {Q : α → sProp 𝕄} {K : PUnit → Prog (TpuEff nD τ sig (Elt F) Λ₀ .tc) α} :
    iprop(recs I κ ∗ owesX c (O + tBar k c) ∗ dutyTok ER (barCell (fwd k c)) 0 (rev k) ∗ reached ER (barCell (fwd k c)) 0
        ∗ (∃ f, slotPts (rev k) c f) ∗ (∃ f, cntPts (rev k).succ c f) ∗ reached ER (cell 1 (rev k) c) 0 ∗ reached ER (cell 3 (rev k) c) 0)
      ⊢ iprop((owesX c O -∗ wp frame (wpE (defs₀ (F := F)) 𝒱₀ (c : Thread nD τ) none) Set.univ (K ⟨⟩) Q)
        -∗ wp frame (wpE (defs₀ (F := F)) 𝒱₀ (c : Thread nD τ) none) Set.univ (.op (.semSignal (Dev.tc t) s (1#32 : BitVec 32).toInt) K) Q) := by
  subst ht; subst hs
  unfold owesX
  iintro ⟨#HI, ⟨%W, HO⟩, Ht, #Hr, Hs, Hc, #Hr1, #Hr3⟩ Hk
  iapply (Rounds.wp_signal 𝒱₀ ER (sch I) (c : Thread nD τ) none (dst := (fwd k c : Thread nD τ)) (sem := barS) (r := 0) (d := rev k)
      (κ := κ (barCell (fwd k c))) (by rw [duties_bar]; exact Finset.mem_univ _) (amount_bar I (fwd k c) (rev k)) () O rfl)
    $$ [HO Ht Hs Hc]
  · isplitr; · iapply (recs_bar I κ (fwd k c)); iexact HI
    isplitl [HO]; · iexact HO
    isplitl [Ht]; · iexact Ht
    isplitl [Hs Hc]
    · rw [payload_bar]; unfold barPay; rw [fwd_rev]
      isplitl [Hs]; · iexact Hs
      isplitl [Hc]; · iexact Hc
      isplitr; · iexact Hr1
      iexact Hr3
    · iexact Hr
  iintro HO
  iapply Hk
  iexists W; iexact HO

/-- Wait for the three units on the own barrier, the copies still owed: the three other devices' slots come with them. -/
theorem step_bar_wait {s : Sem sig} (hs : s = barS) {α : Type} {Q : α → sProp 𝕄} {K : PUnit → Prog (TpuEff nD τ sig (Elt F) Λ₀ .tc) α} :
    iprop(recs I κ ∗ cred (tallyAt (barCell c) () 3) ∗ owesX c (oB c) ∗ levAts L lv ∗ atPos ER (barCell c) 0 ∅ 0)
      ⊢ iprop(((owesX c (oB c) ∗ atPos ER (barCell c) (0 + 1) ∅ 0 ∗ barPay 0 c ∗ barPay 1 c ∗ barPay 2 c)
          -∗ wp frame (wpE (defs₀ (F := F)) 𝒱₀ (c : Thread nD τ) none) Set.univ (K ⟨⟩) Q)
        -∗ wp frame (wpE (defs₀ (F := F)) 𝒱₀ (c : Thread nD τ) none) Set.univ (.op (.semWait s (3#32 : BitVec 32).toInt) K) Q) := by
  subst hs
  unfold owesX
  iintro ⟨#HI, Hc, ⟨%W, HO⟩, #Hlev, Hat⟩ Hk
  iapply (Rounds.wp_wait_rest_token 𝒱₀ ER (sch I) (c : Thread nD τ) none (κ := κ (barCell c)) (k' := 3)
      (wpE_semWait_eq 𝒱₀ (c : Thread nD τ) none Set.univ) (Set.mem_univ _) () (O := oB c) (W := W) (R := 0) (m := 0) (T := ∅)
      ((Nat.zero_add 3).trans (expect_bar I c).symm)) $$ [Hc HO Hat]
  · isplitr; · iapply (recs_bar I κ c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-- Send the rows for the device `k + 1` places after into its slot. -/
theorem step_send_data (k : Fin 3) (O : CellTallies nD τ sig Unit) (t : Dev nD) (ht : t = fwd k c)
    {off : Fin 3 → ℕ} {inb : ∀ a, off a + S1152x8x128.size a ≤ S4608x8x128.size a} (hoff : off = ![1152 * (fwd k c).val, 0, 0])
    {off' : Fin 4 → ℕ} {inb' : ∀ a, off' a + S1x1152x8x128.size a ≤ S3x1152x8x128.size a} (hoff' : off' = ![k.val, 0, 0, 0])
    {s₁ s₂ : DmaSem sig} (hs₁ : s₁ = sm 0 k) (hs₂ : s₂ = sm 1 k)
    {hsc} {h1 : (A5.slice (Rect.unit (s := S4608x8x128) off S1152x8x128.size inb) (fun _ => rfl)).view.WordExact} {h2 : (DmaTarget.remote (nD := nD) (τ := τ) (p := .tc) (Dev.tc t) ((A6.slice (Rect.unit (s := S3x1152x8x128) off' S1x1152x8x128.size inb') (fun _ => rfl)).squeeze
              S1152x8x128 squeezes_S1x1152x8x128_S1152x8x128) (.dma s₁) hsc).view.WordExact} {h3 : (DmaTarget.remote (nD := nD) (τ := τ) (p := .tc) (Dev.tc t) ((A6.slice (Rect.unit (s := S3x1152x8x128) off' S1x1152x8x128.size inb') (fun _ => rfl)).squeeze
              S1152x8x128 squeezes_S1x1152x8x128_S1152x8x128) (.dma s₁) hsc).Typed .vmem (.dma s₂)} {α : Type} {Q : α → sProp 𝕄} {K : PUnit → Prog (TpuEff nD τ sig (Elt F) Λ₀ .tc) α}
    (f : Buf (Elt F) ((regM (fwd k c)).view.loc (c : Thread nD τ))) (hf : SrcOK I c (fwd k c) ((regM (fwd k c)).view.read (Elt F) f)) :
    iprop(recs I κ ∗ regPts (fwd k c) c f ∗ (∃ f, slotPts k (fwd k c) f) ∗ owesX c (O + tDat k c)
        ∗ dutyTok ER (cell 0 k c) 0 0 ∗ reached ER (cell 0 k c) 0 ∗ dutyTok ER (cell 1 k (fwd k c)) 0 0 ∗ reached ER (cell 1 k (fwd k c)) 0)
      ⊢ iprop(((cred (tallyAt (cell 0 k c) () ND) ∗ owesX c O)
          -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (A5.slice (Rect.unit (s := S4608x8x128) off S1152x8x128.size inb) (fun _ => rfl))
            (.remote (Dev.tc t) ((A6.slice (Rect.unit (s := S3x1152x8x128) off' S1x1152x8x128.size inb') (fun _ => rfl)).squeeze
              S1152x8x128 squeezes_S1x1152x8x128_S1152x8x128) (.dma s₁) hsc) (.dma s₂) h1 h2 h3) K) Q) := by
  subst ht; subst hoff; subst hoff'; subst hs₁; subst hs₂
  unfold owesX
  iintro ⟨#HI, Hx, ⟨%fd, Hd⟩, ⟨%W, HO⟩, HtS, #HrS, HtR, #HrR⟩ Hk
  iapply (Rounds.wp_send_pointsTo 𝒱₀ ER (sch I) (c : Thread nD τ) none (c' := (fwd k c : Thread nD τ)) (src := regM (fwd k c)) (dst := slotM k)
      (sS := .dma (sm 0 k)) (sem := .dma (sm 1 k)) (q := fullShare) (fs := f) (κ₁ := κ (cell 0 k c)) (κ₂ := κ (cell 1 k (fwd k c)))
      (r₁ := 0) (r₂ := 0) (d₁ := 0) (d₂ := 0) (fd := fd)
      (by rw [duties_cell]; exact Finset.mem_singleton_self _) (by rw [duties_cell]; exact Finset.mem_singleton_self _)
      () () ND rfl (by rw [amount_cell]; rfl) (by rw [amount_cell]; rfl) O rfl (W := W)
      (by rw [payload_cell]; unfold pay; rw [if_pos rfl]; iintro H; iexists f; iexact H)
      (by
        rw [payload_cell]; unfold pay; rw [if_neg (by decide), if_pos rfl]
        iintro H
        iexists _
        isplitl [H]; · iexact H
        ipureintro
        rw [View.read_write_univ, bwd_fwd]
        exact hf)) $$ [Hx Hd HO HtS HtR]
  · isplitr; · iapply (recs_cell I κ 0 k c); iexact HI
    isplitr; · iapply (recs_cell I κ 1 k (fwd k c)); iexact HI
    isplitl [Hx]; · iexact Hx
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- Send the own counts to the device `k + 1` places after. -/
theorem step_send_cnt (k : Fin 3) (O : CellTallies nD τ sig Unit) (t : Dev nD) (ht : t = fwd k c)
    {off' : Fin 3 → ℕ} {inb' : ∀ a, off' a + S1x8x128.size a ≤ S4x8x128.size a} (hoff' : off' = ![k.succ.val, 0, 0])
    {s₁ s₂ : DmaSem sig} (hs₁ : s₁ = sm 2 k) (hs₂ : s₂ = sm 3 k)
    {hsc} {h1 : A3.view.WordExact} {h2 : (DmaTarget.remote (nD := nD) (τ := τ) (p := .tc) (Dev.tc t) ((A7.slice (Rect.unit (s := S4x8x128) off' S1x8x128.size inb') (fun _ => rfl)).squeeze
              S8x128 squeezes_S1x8x128_S8x128) (.dma s₁) hsc).view.WordExact} {h3 : (DmaTarget.remote (nD := nD) (τ := τ) (p := .tc) (Dev.tc t) ((A7.slice (Rect.unit (s := S4x8x128) off' S1x8x128.size inb') (fun _ => rfl)).squeeze
              S8x128 squeezes_S1x8x128_S8x128) (.dma s₁) hsc).Typed .vmem (.dma s₂)} {α : Type} {Q : α → sProp 𝕄} {K : PUnit → Prog (TpuEff nD τ sig (Elt F) Λ₀ .tc) α} :
    iprop(recs I κ ∗ ownPts k c (I.C3 c) ∗ (∃ f, cntPts k.succ (fwd k c) f) ∗ owesX c (O + tCnt k c)
        ∗ dutyTok ER (cell 2 k c) 0 0 ∗ reached ER (cell 2 k c) 0 ∗ dutyTok ER (cell 3 k (fwd k c)) 0 0 ∗ reached ER (cell 3 k (fwd k c)) 0)
      ⊢ iprop(((cred (tallyAt (cell 2 k c) () NC) ∗ owesX c O)
          -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma A3
            (.remote (Dev.tc t) ((A7.slice (Rect.unit (s := S4x8x128) off' S1x8x128.size inb') (fun _ => rfl)).squeeze
              S8x128 squeezes_S1x8x128_S8x128) (.dma s₁) hsc) (.dma s₂) h1 h2 h3) K) Q) := by
  subst ht; subst hoff'; subst hs₁; subst hs₂
  unfold owesX
  iintro ⟨#HI, Hx, ⟨%fd, Hd⟩, ⟨%W, HO⟩, HtS, #HrS, HtR, #HrR⟩ Hk
  iapply (Rounds.wp_send_pointsTo 𝒱₀ ER (sch I) (c : Thread nD τ) none (c' := (fwd k c : Thread nD τ)) (src := A3) (dst := cntM k.succ)
      (sS := .dma (sm 2 k)) (sem := .dma (sm 3 k)) (q := Ring.shares3 fullShare k) (fs := I.C3 c) (κ₁ := κ (cell 2 k c)) (κ₂ := κ (cell 3 k (fwd k c)))
      (r₁ := 0) (r₂ := 0) (d₁ := 0) (d₂ := 0) (fd := fd)
      (by rw [duties_cell]; exact Finset.mem_singleton_self _) (by rw [duties_cell]; exact Finset.mem_singleton_self _)
      () () NC rfl (by rw [amount_cell]; rfl) (by rw [amount_cell]; rfl) O rfl (W := W)
      (by rw [payload_cell]; unfold pay; rw [if_neg (by decide), if_neg (by decide), if_pos rfl])
      (by
        rw [payload_cell]; unfold pay; rw [if_neg (by decide), if_neg (by decide), if_neg (by decide)]
        iintro H
        iexists _
        isplitl [H]; · iexact H
        ipureintro
        rw [View.read_write_univ, bwd_fwd]
        exact View.read_whole _ _)) $$ [Hx Hd HO HtS HtR]
  · isplitr; · iapply (recs_cell I κ 2 k c); iexact HI
    isplitr; · iapply (recs_cell I κ 3 k (fwd k c)); iexact HI
    isplitl [Hx]; · iexact Hx
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- Wait for one of the exchange's DMA cells, owing nothing: its payload comes back. -/
theorem step_wait (a : Fin 4) (k : Fin 3) {s : DmaSem sig} (hs : s = sm a k) {sp sp' : Space} {S S' : Shape} {e e' : EltTy}
    {src : Memref sig .tc sp' S' e'} {dst : Memref sig .tc sp S e} {h1} {h2}
    (hN : dst.view.dmaCredit = if a = 0 ∨ a = 1 then ND else NC) {α : Type} {Q : α → sProp 𝕄} {K : PUnit → Prog (TpuEff nD τ sig (Elt F) Λ₀ .tc) α} :
    iprop(recs I κ ∗ cred (tallyAt (cell a k c) () (if a = 0 ∨ a = 1 then ND else NC)) ∗ owesX c 0 ∗ atPos ER (cell a k c) 0 ∅ 0)
      ⊢ iprop(((owesX c 0 ∗ atPos ER (cell a k c) (0 + 1) ∅ 0 ∗ pay I a k c)
          -∗ wp frame (wpE (defs₀ (F := F)) 𝒱₀ (c : Thread nD τ) none) Set.univ (K ⟨⟩) Q)
        -∗ wp frame (wpE (defs₀ (F := F)) 𝒱₀ (c : Thread nD τ) none) Set.univ (.op (.waitDma2 s src dst h1 h2) K) Q) := by
  subst hs
  rw [← hN]
  unfold owesX
  iintro ⟨#HI, Hc, ⟨%W, HO⟩, Hat⟩ Hk
  iapply (Rounds.wp_wait_rest_token 𝒱₀ ER (sch I) (c : Thread nD τ) none (κ := κ (cell a k c))
      (wpE_waitDma2_eq 𝒱₀ (c : Thread nD τ) none Set.univ) (Set.mem_univ _) () (O := 0) (W := W) (R := 0) (m := 0) (T := ∅)
      ((Nat.zero_add _).trans (hN.trans (expect_cell I a k c).symm))) $$ [Hc HO Hat]
  · isplitr; · iapply (recs_cell I κ a k c); iexact HI
    isplitl [Hc]; · iexact Hc
    isplitl [HO]; · iexact HO
    isplitr; · rw [MayWait_zero]; iempintro
    iexact Hat
  iintro ⟨HO, Hat, -, Hpay⟩
  ihave Hp := (Entails.of_eq (rest_cell I a k c)) $$ Hpay
  iapply Hk
  isplitl [HO]; · iexists _; iexact HO
  isplitl [Hat]; · iexact Hat
  iexact Hp

/-- Copy on the device and wait for the copy, owing nothing. -/
theorem step_copy {sp sp' sw sw' : Space} {S Sw Sw' : Shape} {e ew ew' : EltTy} {src : Memref sig .tc sp' S e} {dst : Memref sig .tc sp S e}
    {srcw : Memref sig .tc sw' Sw' ew'} {dstw : Memref sig .tc sw Sw ew} {s s' : DmaSem sig} (hs : s = copyS) (hs' : s' = copyS)
    {h1} {h2} {h3} {h4} {h5} (hN : dst.view.amount (.dma copyS) = dstw.view.dmaCredit) (hpos : 0 < dstw.view.dmaCredit)
    {T : Finset (Idx (dst.view.loc (c : Thread nD τ)))} (hT : dst.view.set ⊆ T) {q : PosShare TreeShare}
    (fs : Buf (Elt F) (src.view.loc (c : Thread nD τ))) (fd : Buf (Elt F) (dst.view.loc (c : Thread nD τ)))
    {α : Type} {Q : α → sProp 𝕄} {K : PUnit → Prog (TpuEff nD τ sig (Elt F) Λ₀ .tc) α} :
    iprop((src.view.loc (c : Thread nD τ) ↦[src.view.set]{q} fs) ∗ (dst.view.loc (c : Thread nD τ) ↦[T]{fullShare} fd)
        ∗ semVal ((c : Thread nD τ), .dma copyS) 0 ∗ owesX c 0)
      ⊢ iprop((((src.view.loc (c : Thread nD τ) ↦[src.view.set]{q} fs)
            ∗ (dst.view.loc (c : Thread nD τ) ↦[T]{fullShare} dst.view.write (Elt F) fd (src.view.read (Elt F) fs) Finset.univ)
            ∗ semVal ((c : Thread nD τ), .dma copyS) 0 ∗ owesX c 0)
          -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma src (.here dst) (.dma s) h1 h2 h3) fun _ => .op (.waitDma2 s' srcw dstw h4 h5) K) Q) := by
  subst hs; subst hs'
  unfold owesX
  iintro ⟨Hs, Hd, Hv, ⟨%W, HO⟩⟩ Hk
  iapply (Transfers.wp_dmaLocal EC 𝒱₀ (c : Thread nD τ) none () (dstw.view.dmaCredit) hN hpos hT) $$ [Hs Hd Hv]
  · isplitl [Hs]; · iexact Hs
    isplitl [Hd]; · iexact Hd
    iexact Hv
  iintro HF
  iapply (Transfers.wp_waitLocal EC 𝒱₀ (c : Thread nD τ) none () rfl) $$ [HF HO]
  · isplitl [HF]; · iexact HF
    iexact HO
  iintro ⟨⟨Hd, Hs⟩, Hv, HO⟩
  iapply Hk
  isplitl [Hs]; · iexact Hs
  isplitl [Hd]; · iexact Hd
  isplitl [Hv]; · iexact Hv
  iexists _; iexact HO

end Cert.KernelIdeal.Hand

end
-- ==== Proof.Loop.lean ====
module

public import proofs.«01_k».proof.Proof.Steps
public import proofs.«01_k».proof.Proof.Gen.KernelIdeal.Skeleton
public import Idealize.ShloMosaic.Lib.ViewIndex
public import Idealize.ShloMosaic.Lib.Pipeline.Value

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Row `k` of a device's list of rows. -/
def rowIx (k : ℕ) (hk : k < 4096) : S4096.Idx := fun a => ⟨k, by obtain rfl : a = 0 := Subsingleton.elim _ _; exact hk⟩

/-- What the launch guarantees of the operands: every row's place is inside the send buffer and no two rows of a device share
one; the two arrays of counts agree; no count passes the slot size; and a row placed `x` places into a device's part has more
than `x` rows counted there. -/
structure Good (I : Inp F) : Prop where
  lt : ∀ s r, (I.P s r).toNat < 4608
  inj : ∀ s r r', (I.P s r).toNat = (I.P s r').toNat → (r 0).val = (r' 0).val
  agree : ∀ (s : Dev nD) (i : S4.Idx) (j : S8x128.Idx), (j 0).val = 0 → (j 1).val = (i 0).val → I.C3 s j = I.C2 s i
  cntle : ∀ s i, (I.C2 s i).toNat ≤ 1152
  within : ∀ (s : Dev nD) (r : S4096.Idx) (i : S4.Idx) (x : ℕ), (I.P s r).toNat = 1152 * (i 0).val + x → x < 1152 → x < (I.C2 s i).toNat

/-- The send buffer holds the rows before row `k`, each at its place. -/
def FillOK (I : Inp F) (s : Dev nD) (k : ℕ) (f : S4608x8x128.Idx → Elt F .f32) : Prop :=
  ∀ (i : S4608x8x128.Idx) (j : S4096x8x128.Idx) (r : S4096.Idx), (r 0).val = (j 0).val → (j 0).val < k →
    (i 0).val = (I.P s r).toNat → (i 1).val = (j 1).val → (i 2).val = (j 2).val → f i = I.X s j

/-- Where an element of a unit-stride rectangle lies. -/
theorem unit_emb {s : Shape} (off size : Fin s.rank → ℕ) (inb : ∀ a, off a + size a ≤ s.size a) (x : (Rect.unit off size inb).shape.Idx)
    (a : Fin s.rank) : ((Rect.unit off size inb).emb x a).val = off a + (x a).val := by
  show off a + 1 * (x a).val = _
  rw [Nat.one_mul]

theorem read_access {κ : Kind} (b : Ref sig κ) (r : Rect b.ty.shape) (f : b.ty.Contents (Elt F)) (x : r.shape.Idx) :
    ((Memref.whole b).access r).read (Elt F) f x = f (r.emb x) := rfl

theorem pay_eq (v : Vec F S1x8x128 .f32) : k0_pay1 (F := F) v = v := by
  unfold k0_pay1
  exact shapeCast_shapeCast _ _ _

/-- A write through a rectangle of a whole buffer, read inside it … -/
theorem write_in {κ : Kind} (b : Ref sig κ) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) f w (Finset.mem_univ x)
/-- … and outside it. -/
theorem write_out {κ : Kind} (b : Ref sig κ) (r : Rect b.ty.shape) (f : b.ty.Contents (Elt F)) (w : r.shape.Idx → Elt F b.ty.elt) (i : b.ty.Idx)
    (h : i ∉ r.set) : ((Memref.whole b).access r).write (Elt F) f w Finset.univ i = f i :=
  View.write_of_not_mem (v := (Memref.whole b).access r) (M := Finset.univ) f w (by
    rw [View.setOn_univ]
    show i ∉ ((View.whole b).slice r).set
    rwa [View.set_slice_whole])

/-- One trip's store keeps what is filled and adds the row. -/
theorem fill_step {I : Inp F} (hI : Good I) (s : Dev nD) (k : ℕ) (hk : k < 4096) (f f' : S4608x8x128.Idx → Elt F .f32) (w : BitVec 32)
    (hw : ∀ r : S4096.Idx, (r 0).val = k → w = I.P s r)
    (hin : ∀ i : S4608x8x128.Idx, ∀ j : S4096x8x128.Idx, (i 0).val = w.toNat → (j 0).val = k → (i 1).val = (j 1).val → (i 2).val = (j 2).val → f' i = I.X s j)
    (hout : ∀ i : S4608x8x128.Idx, (i 0).val ≠ w.toNat → f' i = f i) (h : FillOK I s k f) : FillOK I s (k + 1) f' := by
  intro i j r hrj hj hi h1 h2
  by_cases hjk : (j 0).val = k
  · rw [← hw r (hrj.trans hjk)] at hi
    exact hin i j hi hjk h1 h2
  · have hne : (i 0).val ≠ w.toNat := by
      intro he
      have := hI.inj s r (rowIx k hk) (by rw [← hi, he, hw (rowIx k hk) rfl])
      exact hjk (hrj.symm.trans this)
    rw [hout i hne]
    exact h i j r hrj (by omega) hi h1 h2

/-- The store of row `k` at its place. -/
theorem fill_write {I : Inp F} (hI : Good I) (s : Dev nD) (k : ℕ) (hk : k < 4096) (f : S4608x8x128.Idx → Elt F .f32)
    {off : Fin 3 → ℕ} (hoff : off = ![(I.P s (rowIx k hk)).toNat, 0, 0]) (inb : ∀ a, off a + S1x8x128.size a ≤ S4608x8x128.size a)
    {off' : Fin 3 → ℕ} (hoff' : off' = ![k, 0, 0]) (inb' : ∀ a, off' a + S1x8x128.size a ≤ S4096x8x128.size a) (h : FillOK I s k f) :
    FillOK I s (k + 1) ((A5.access (Rect.unit (s := S4608x8x128) off S1x8x128.size inb)).write (Elt F) f
      (k0_pay1 (F := F) ((A0.access (Rect.unit (s := S4096x8x128) off' S1x8x128.size inb')).read (Elt F) (I.X s))) Finset.univ) := by
  subst hoff; subst hoff'
  rw [pay_eq]
  refine fill_step hI s k hk f _ (I.P s (rowIx k hk)) (fun r hr => congrArg (I.P s) (Shape.idx1_ext hr.symm)) ?_ ?_ h
  · intro i j hi hj h1 h2
    have he : i = (Rect.unit (s := S4608x8x128) ![(I.P s (rowIx k hk)).toNat, 0, 0] S1x8x128.size inb).emb
        (fun a => match a with | ⟨0, _⟩ => ⟨0, Nat.one_pos⟩ | ⟨1, _⟩ => j 1 | ⟨2, _⟩ => j 2) := by
      refine Shape.idx3_ext ?_ ?_ ?_ <;> refine Eq.trans ?_ (unit_emb _ _ _ _ _).symm
      · exact hi
      · exact h1.trans (Nat.zero_add _).symm
      · exact h2.trans (Nat.zero_add _).symm
    rw [he]
    refine (write_in cc0_scratch0 _ f _ _).trans ?_
    refine congrArg (I.X s) (Shape.idx3_ext ?_ ?_ ?_) <;> refine (unit_emb _ _ _ _ _).trans ?_
    · exact hj.symm
    · exact Nat.zero_add _
    · exact Nat.zero_add _
  · intro i hi
    refine write_out cc0_scratch0 _ f _ i (fun hm => hi ?_)
    have h0 := Rect.mem_set_unit.mp hm 0
    have h1 : (I.P s (rowIx k hk)).toNat ≤ (i 0).val := h0.1
    have h2 : (i 0).val < (I.P s (rowIx k hk)).toNat + 1 := h0.2
    omega

abbrev xPts (I : Inp F) (c : Dev nD) : sProp 𝕄 := A0.view.loc (c : Thread nD τ) ↦[A0.view.set]{fullShare} I.X c
abbrev pPts (I : Inp F) (c : Dev nD) : sProp 𝕄 := A1.view.loc (c : Thread nD τ) ↦[A1.view.set]{fullShare} I.P c
abbrev sPts (c : Dev nD) (f : Buf (Elt F) (A5.view.loc (c : Thread nD τ))) : sProp 𝕄 :=
  A5.view.loc (c : Thread nD τ) ↦[A5.view.set]{fullShare} f

theorem trips_le : k0_t1_loop.trips ≤ 4096 := k0_t1_abs.2.1
theorem trips_eq : k0_t1_loop.trips = 4096 := by decide +kernel

abbrev M0 := Memref.isWhole_whole (sig := sig) (κ := .tc) cc0_stg0_0
abbrev M1 := Memref.isWhole_whole (sig := sig) (κ := .tc) cc0_stg1_0
abbrev M2 := Memref.isWhole_whole (sig := sig) (κ := .tc) cc0_stg2_0
abbrev M3 := Memref.isWhole_whole (sig := sig) (κ := .tc) cc0_stg3_0
abbrev M4 := Memref.isWhole_whole (sig := sig) (κ := .tc) main_v24
abbrev M5 := Memref.isWhole_whole (sig := sig) (κ := .tc) cc0_scratch0
abbrev M6 := Memref.isWhole_whole (sig := sig) (κ := .tc) cc0_scratch1
abbrev M7 := Memref.isWhole_whole (sig := sig) (κ := .tc) cc0_scratch2
abbrev M8 := Memref.isWhole_whole (sig := sig) (κ := .tc) cc0_scratch3

variable (I : Inp F) (hI : Good I) (c : Dev nD) (d0 : Dev nD) (v2 : BitVec 32) (v3 : Sems sig S_) (v30 : BitVec 32) (c4 : BitVec 32) (v31 : BitVec 1)

abbrev loopBody := k0_t1_body (F := F) A0 M0 A1 M1 A2 M2 A3 M3 A4 M4 A5 M5 A6 M6 A7 M7 A8 M8 cc0_scratch4 cc0_scratch5 cc0_scratch6
  cc0_scratch7 cc0_scratch8 d0 v2 v3 v30 c4 v31

/-- The word the loop reads at trip `k`. -/
abbrev word (k : Fin k0_t1_loop.trips) : BitVec 32 := I.P c (rowIx k.val (Nat.lt_of_lt_of_le k.isLt trips_le))

include hI in
theorem chk_word (k : Fin k0_t1_loop.trips) : k0_chk1 (word I c k) := by
  have h := hI.lt c (rowIx k.val (Nat.lt_of_lt_of_le k.isLt trips_le))
  intro a
  fin_cases a
  · show (word I c k).toNat + 1 ≤ 4608
    exact h
  · exact Nat.le_refl 8
  · exact Nat.le_refl 128

/-- The loop's invariant before trip `k`. -/
def loopI (k : ℕ) (_ : PUnit) : sProp 𝕄 :=
  iprop(xPts I c ∗ pPts I c ∗ ∃ f, sPts c f ∗ ⌜FillOK I c k f⌝)

include hI in
/-- One trip. -/
theorem trip (k : Fin k0_t1_loop.trips) (acc : PUnit) :
    loopI I c k.val acc ⊢ wp frame (wpE (defs₀ (F := F)) 𝒱₀ (c : Thread nD τ) none) Set.univ
      (loopBody (F := F) d0 v2 v3 v30 c4 v31 k acc) (loopI I c (k.val + 1)) := by
  have hk : k.val < 4096 := Nat.lt_of_lt_of_le k.isLt k0_t1_abs.2.1
  have hw : A1.view.readAt (Elt F) (Rect.unit (s := S4096) (k0_off2 k) S1.size (k0_off2_inb k)).toLoadRect (I.P c)
      (Shape.Idx.first (numel1_S1.symm ▸ Nat.one_pos)) = word I c k := congrArg (I.P c) (Shape.idx1_ext (by
        refine (unit_emb _ _ _ _ _).trans ?_
        exact (congrArg (· + _) (congrFun (k0_off2_eq k) 0)).trans rfl))
  have k0_hw1 : k0_chk1 (A1.view.readAt (Elt F) (Rect.unit (s := S4096) (k0_off2 k) S1.size (k0_off2_inb k)).toLoadRect (I.P c)
      (Shape.Idx.first (numel1_S1.symm ▸ Nat.one_pos))) := by rw [hw]; exact chk_word I hI c k
  unfold loopI loopBody k0_t1_body
  iintro ⟨Hx, Hp, ⟨%f, Hs, %hf⟩⟩
  sl_exec
  sl_step
  isplitl [Hx]; · iexact Hx
  isplitl [Hp]; · iexact Hp
  iexists _
  isplitl [Hs]; · iexact Hs
  ipureintro
  have hr : trip.sl.r I c k = word I c k := hw
  rw [View.writes_singleton]
  exact fill_write hI c k.val hk f (congrArg (fun w : BitVec 32 => (![w.toNat, 0, 0] : Fin 3 → ℕ)) hr) _ (k0_off1_eq k) _ hf

end Cert.KernelIdeal.Hand

end
-- ==== Proof.Split.lean ====
module

public import proofs.«01_k».proof.Proof.Loop
public import Idealize.ShloMosaic.Lib.Ring

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Which elements each piece names -/

/-- The elements of each part of the send buffer, of each slot received, of each slot of counts. -/
abbrev regSet (o : Fin 4) : Finset S4608x8x128.Idx := (regM o).view.set
abbrev slotSet (k : Fin 3) : Finset S3x1152x8x128.Idx := (slotM k).view.set
abbrev cntSet (k : Fin 4) : Finset S4x8x128.Idx := (cntM k).view.set

theorem mem_reg (o : Fin 4) (i : S4608x8x128.Idx) : i ∈ regSet o ↔ 1152 * o.val ≤ (i 0).val ∧ (i 0).val < 1152 * o.val + 1152 := by
  rw [show regSet o = (Rect.unit (s := S4608x8x128) ![1152 * o.val, 0, 0] S1152x8x128.size (reg_inb o)).set from View.set_slice_whole _ _, Rect.mem_set_unit]
  constructor
  · intro h; exact h 0
  · intro h a
    have h1 : (i 1).val < 8 := (i 1).isLt
    have h2 : (i 2).val < 128 := (i 2).isLt
    fin_cases a
    · exact h
    · exact ⟨Nat.zero_le _, by show (i 1).val < 0 + 8; omega⟩
    · exact ⟨Nat.zero_le _, by show (i 2).val < 0 + 128; omega⟩

theorem mem_slot (k : Fin 3) (i : S3x1152x8x128.Idx) : i ∈ slotSet k ↔ (i 0).val = k.val := by
  rw [show slotSet k = (Rect.unit (s := S3x1152x8x128) ![k.val, 0, 0, 0] S1x1152x8x128.size (slot_inb k)).set from (View.set_reshape _ _).trans (View.set_slice_whole _ _), Rect.mem_set_unit]
  constructor
  · intro h
    have h0 : k.val ≤ (i 0).val ∧ (i 0).val < k.val + 1 := h 0
    omega
  · intro h a
    have h1 : (i 1).val < 1152 := (i 1).isLt
    have h2 : (i 2).val < 8 := (i 2).isLt
    have h3 : (i 3).val < 128 := (i 3).isLt
    fin_cases a
    · exact ⟨by show k.val ≤ (i 0).val; omega, by show (i 0).val < k.val + 1; omega⟩
    · exact ⟨Nat.zero_le _, by show (i 1).val < 0 + 1152; omega⟩
    · exact ⟨Nat.zero_le _, by show (i 2).val < 0 + 8; omega⟩
    · exact ⟨Nat.zero_le _, by show (i 3).val < 0 + 128; omega⟩

theorem mem_cnt (k : Fin 4) (i : S4x8x128.Idx) : i ∈ cntSet k ↔ (i 0).val = k.val := by
  rw [show cntSet k = (Rect.unit (s := S4x8x128) ![k.val, 0, 0] S1x8x128.size (cnt_inb k)).set from (View.set_reshape _ _).trans (View.set_slice_whole _ _), Rect.mem_set_unit]
  constructor
  · intro h
    have h0 : k.val ≤ (i 0).val ∧ (i 0).val < k.val + 1 := h 0
    omega
  · intro h a
    have h2 : (i 1).val < 8 := (i 1).isLt
    have h3 : (i 2).val < 128 := (i 2).isLt
    fin_cases a
    · exact ⟨by show k.val ≤ (i 0).val; omega, by show (i 0).val < k.val + 1; omega⟩
    · exact ⟨Nat.zero_le _, by show (i 1).val < 0 + 8; omega⟩
    · exact ⟨Nat.zero_le _, by show (i 2).val < 0 + 128; omega⟩

section Sets
theorem reg_disj (o o' : Fin 4) (h : o ≠ o') : Disjoint (regSet o) (regSet o') := by
  rw [Finset.disjoint_left]
  intro i hi hi'
  have h1 := (mem_reg o i).mp hi
  have h2 := (mem_reg o' i).mp hi'
  exact h (Fin.ext (by omega))
theorem reg_cover : Finset.univ.biUnion (fun o : Fin 4 => regSet o) = Finset.univ := by
  ext i
  simp only [Finset.mem_biUnion, Finset.mem_univ, true_and, iff_true]
  have hi : (i 0).val < 4608 := (i 0).isLt
  exact ⟨⟨(i 0).val / 1152, by omega⟩, (mem_reg _ i).mpr ⟨by show 1152 * ((i 0).val / 1152) ≤ _; omega, by show _ < 1152 * ((i 0).val / 1152) + 1152; omega⟩⟩
theorem slot_disj (o o' : Fin 3) (h : o ≠ o') : Disjoint (slotSet o) (slotSet o') := by
  rw [Finset.disjoint_left]
  intro i hi hi'
  exact h (Fin.ext (((mem_slot o i).mp hi).symm.trans ((mem_slot o' i).mp hi')))
theorem slot_cover : Finset.univ.biUnion (fun o : Fin 3 => slotSet o) = Finset.univ := by
  ext i
  simp only [Finset.mem_biUnion, Finset.mem_univ, true_and, iff_true]
  exact ⟨i 0, (mem_slot _ i).mpr rfl⟩
theorem cnt_disj (o o' : Fin 4) (h : o ≠ o') : Disjoint (cntSet o) (cntSet o') := by
  rw [Finset.disjoint_left]
  intro i hi hi'
  exact h (Fin.ext (((mem_cnt o i).mp hi).symm.trans ((mem_cnt o' i).mp hi')))
theorem cnt_cover : Finset.univ.biUnion (fun o : Fin 4 => cntSet o) = Finset.univ := by
  ext i
  simp only [Finset.mem_biUnion, Finset.mem_univ, true_and, iff_true]
  exact ⟨i 0, (mem_cnt _ i).mpr rfl⟩
end Sets

/-! ## Splitting and joining the scratch buffers -/

variable (c : Dev nD)

abbrev whole5 (f : Buf (Elt F) ((c : Thread nD τ).loc cc0_scratch0)) : sProp 𝕄 := (c : Thread nD τ).loc cc0_scratch0 ↦{fullShare} f
abbrev whole6 (f : Buf (Elt F) ((c : Thread nD τ).loc cc0_scratch1)) : sProp 𝕄 := (c : Thread nD τ).loc cc0_scratch1 ↦{fullShare} f
abbrev whole7 (f : Buf (Elt F) ((c : Thread nD τ).loc cc0_scratch2)) : sProp 𝕄 := (c : Thread nD τ).loc cc0_scratch2 ↦{fullShare} f
abbrev whole8 (f : Buf (Elt F) ((c : Thread nD τ).loc cc0_scratch3)) : sProp 𝕄 := (c : Thread nD τ).loc cc0_scratch3 ↦{fullShare} f

theorem devs_nodup : [c, fwd 0 c, fwd 1 c, fwd 2 c].Nodup := by revert c; decide
theorem devs_all : Finset.univ = [c, fwd 0 c, fwd 1 c, fwd 2 c].toFinset := by revert c; decide

/-- Four things, one per device, in the order own, next, second next, third next. -/
theorem around (Φ : Fin 4 → sProp 𝕄) :
    bigSep Finset.univ Φ = iprop(Φ c ∗ Φ (fwd 0 c) ∗ Φ (fwd 1 c) ∗ Φ (fwd 2 c)) :=
  bigSep_univ_eq_bigSepL [c, fwd 0 c, fwd 1 c, fwd 2 c] (devs_all c) (devs_nodup c) Φ

/-- The send buffer is the four devices' parts. -/
theorem split5 (f : Buf (Elt F) ((c : Thread nD τ).loc cc0_scratch0)) :
    (whole5 c f : sProp 𝕄) = iprop(regPts c c f ∗ regPts (fwd 0 c) c f ∗ regPts (fwd 1 c) c f ∗ regPts (fwd 2 c) c f) :=
  (Ring.pointsTo_blocks (Ix := Unit) (Name := ℕ) (U := UU) (Lvl := ℕ) (q := fullShare) (ℓ := (c : Thread nD τ).loc cc0_scratch0) regSet reg_disj reg_cover f).trans (around c (fun o => regPts o c f))

theorem join5 : iprop((∃ f, regPts (F := F) c c f) ∗ (∃ f, regPts (fwd 0 c) c f) ∗ (∃ f, regPts (fwd 1 c) c f) ∗ ∃ f, regPts (fwd 2 c) c f)
    ⊢ (iprop(∃ f, whole5 c f) : sProp 𝕄) := by
  have e := (around c (fun o => iprop(∃ f, regPts (F := F) o c f))).symm
  iintro ⟨⟨%f, H0⟩, H1⟩
  iapply (Ring.pointsTo_blocks_join_exists (ℓ := (c : Thread nD τ).loc cc0_scratch0) regSet reg_disj reg_cover f)
  iapply (show _ ⊢ (_ : sProp 𝕄) from Entails.of_eq e)
  isplitl [H0]; · iexists f; iexact H0
  iexact H1

theorem split6 (f : Buf (Elt F) ((c : Thread nD τ).loc cc0_scratch1)) :
    (whole6 c f : sProp 𝕄) = iprop(slotPts 0 c f ∗ slotPts 1 c f ∗ slotPts 2 c f) :=
  (Ring.pointsTo_blocks (Ix := Unit) (Name := ℕ) (U := UU) (Lvl := ℕ) (q := fullShare) (ℓ := (c : Thread nD τ).loc cc0_scratch1) slotSet slot_disj slot_cover f).trans
    (bigSep_univ_eq_bigSepL [(0 : Fin 3), (1 : Fin 3), (2 : Fin 3)] (by decide) (by decide) (fun o => slotPts o c f))

theorem join6 : iprop((∃ f, slotPts (F := F) 0 c f) ∗ (∃ f, slotPts 1 c f) ∗ ∃ f, slotPts 2 c f) ⊢ (iprop(∃ f, whole6 c f) : sProp 𝕄) := by
  have e : iprop((∃ f, slotPts (F := F) 0 c f) ∗ (∃ f, slotPts 1 c f) ∗ ∃ f, slotPts 2 c f) = (_ : sProp 𝕄) :=
    (bigSep_univ_eq_bigSepL [(0 : Fin 3), (1 : Fin 3), (2 : Fin 3)] (by decide) (by decide)
    (fun o => (iprop(∃ f, slotPts (F := F) o c f) : sProp 𝕄))).symm
  iintro ⟨⟨%f, H0⟩, H1⟩
  iapply (Ring.pointsTo_blocks_join_exists (ℓ := (c : Thread nD τ).loc cc0_scratch1) slotSet slot_disj slot_cover f)
  iapply (show _ ⊢ (_ : sProp 𝕄) from Entails.of_eq e)
  isplitl [H0]; · iexists f; iexact H0
  iexact H1

theorem split7 (f : Buf (Elt F) ((c : Thread nD τ).loc cc0_scratch2)) :
    (whole7 c f : sProp 𝕄) = iprop(cntPts 0 c f ∗ cntPts 1 c f ∗ cntPts 2 c f ∗ cntPts 3 c f) :=
  (Ring.pointsTo_blocks (Ix := Unit) (Name := ℕ) (U := UU) (Lvl := ℕ) (q := fullShare) (ℓ := (c : Thread nD τ).loc cc0_scratch2) cntSet cnt_disj cnt_cover f).trans
    (bigSep_univ_eq_bigSepL [(0 : Fin 4), (1 : Fin 4), (2 : Fin 4), (3 : Fin 4)] (by decide) (by decide) (fun o => cntPts o c f))

/-- The received counts are in place: slot `k + 1` holds those of the device `k + 1` places before. -/
def CntOK (I : Inp F) (c : Dev nD) (g : S4x8x128.Idx → Elt F .i32) : Prop :=
  ∀ (k : Fin 3) (i : S4x8x128.Idx) (j : S8x128.Idx), (i 0).val = k.val + 1 → (i 1).val = (j 0).val → (i 2).val = (j 1).val →
    g i = I.C3 (bwd k c) j

/-- Where an element of a slot of the received counts lies. -/
theorem cnt_emb (k : Fin 4) (j : S8x128.Idx) (i : S4x8x128.Idx) (h0 : (i 0).val = k.val) (h1 : (i 1).val = (j 0).val)
    (h2 : (i 2).val = (j 1).val) : (cntM k).view.emb j = i := by
  show (Rect.unit (s := S4x8x128) ![k.val, 0, 0] S1x8x128.size (cnt_inb k)).emb (Shape.reshapeEquiv _ j) = i
  rw [Shape.reshapeEquiv_cons_one]
  refine Shape.idx3_ext ?_ ?_ ?_ <;> refine (unit_emb _ _ _ _ _).trans ?_
  · exact h0.symm
  · exact (Nat.zero_add _).trans h1.symm
  · exact (Nat.zero_add _).trans h2.symm

theorem join7 (I : Inp F) : iprop((∃ f, cntPts 0 c f) ∗ pay I 3 0 c ∗ pay I 3 1 c ∗ pay I 3 2 c)
    ⊢ (iprop(∃ g, whole7 c g ∗ ⌜CntOK I c g⌝) : sProp 𝕄) := by
  unfold pay
  simp only [show ¬((3 : Fin 4) = 0) from by decide, show ¬((3 : Fin 4) = 1) from by decide, show ¬((3 : Fin 4) = 2) from by decide, if_false]
  iintro ⟨⟨%f0, H0⟩, ⟨%f1, H1, %h1⟩, ⟨%f2, H2, %h2⟩, ⟨%f3, H3, %h3⟩⟩
  let fs : Fin 4 → Buf (Elt F) (A7.view.loc (c : Thread nD τ)) := ![f0, f1, f2, f3]
  have e := (bigSep_univ_eq_bigSepL [(0 : Fin 4), (1 : Fin 4), (2 : Fin 4), (3 : Fin 4)] (by decide) (by decide)
    (fun o => (cntPts (F := F) o c (fs o) : sProp 𝕄))).symm
  ihave H := (show iprop(cntPts (F := F) 0 c f0 ∗ cntPts 1 c f1 ∗ cntPts 2 c f2 ∗ cntPts 3 c f3) ⊢ (_ : sProp 𝕄) from Entails.of_eq e) $$ [H0 H1 H2 H3]
  · isplitl [H0]; · iexact H0
    isplitl [H1]; · iexact H1
    isplitl [H2]; · iexact H2
    iexact H3
  ihave HJ := (pointsTo_biUnion_join Finset.univ (fun o : Fin 4 => cntSet o) fs f0
    (fun s _ s' _ h => cnt_disj s s' h)) $$ H
  icases HJ with ⟨%g, %hg, H⟩
  iexists g
  isplitl [H]
  · rw [cnt_cover]; iexact H
  ipureintro
  intro k i j h0' h1' h2'
  have hmem : i ∈ cntSet k.succ := (mem_cnt k.succ i).mpr (by rw [h0']; rfl)
  rw [hg k.succ (Finset.mem_univ _) i hmem]
  have he : (cntM k.succ).view.emb j = i := cnt_emb k.succ j i (by rw [h0']; rfl) h1' h2'
  rw [← he]
  have key : (cntM k.succ).view.read (Elt F) (fs k.succ) = I.C3 (bwd k c) := by
    fin_cases k
    · exact h1
    · exact h2
    · exact h3
  exact congrFun key j

/-- A third of the counts to each of the three copies. -/
theorem split3 (f : Buf (Elt F) (A3.view.loc (c : Thread nD τ))) :
    (A3.view.loc (c : Thread nD τ) ↦[A3.view.set]{fullShare} f : sProp 𝕄) ⊣⊢ iprop(ownPts 0 c f ∗ ownPts 1 c f ∗ ownPts 2 c f) :=
  Ring.pointsTo_thirds fullShare f

/-- Filled rows give what each copy carries. -/
theorem fill_src {I : Inp F} (s o : Dev nD) (f : S4608x8x128.Idx → Elt F .f32) (h : FillOK I s 4096 f) :
    SrcOK I s o ((regM o).view.read (Elt F) f) := by
  intro x j r hr hP h1 h2
  have hj : (j 0).val < 4096 := (j 0).isLt
  refine h _ j r hr hj ?_ ?_ ?_
  · exact (unit_emb _ _ _ _ _).trans hP.symm
  · exact (unit_emb _ _ _ _ _).trans ((Nat.zero_add _).trans h1.symm)
  · exact (unit_emb _ _ _ _ _).trans ((Nat.zero_add _).trans h2.symm)

end Cert.KernelIdeal.Hand

end
-- ==== Proof.Talk.lean ====
module

public import proofs.«01_k».proof.Proof.Split

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The body's parts at the launch's buffers -/

abbrev p1 := k0_part1 (F := F) A0 M0 A1 M1 A2 M2 A3 M3 A4 M4 A5 M5 A6 M6 A7 M7 A8 M8 cc0_scratch4 cc0_scratch5 cc0_scratch6 cc0_scratch7 cc0_scratch8
abbrev p2 := k0_part2 (F := F) A0 M0 A1 M1 A2 M2 A3 M3 A4 M4 A5 M5 A6 M6 A7 M7 A8 M8 cc0_scratch4 cc0_scratch5 cc0_scratch6 cc0_scratch7 cc0_scratch8
abbrev p3 := k0_part3 (F := F) A0 M0 A1 M1 A2 M2 A3 M3 A4 M4 A5 M5 A6 M6 A7 M7 A8 M8 cc0_scratch4 cc0_scratch5 cc0_scratch6 cc0_scratch7 cc0_scratch8
abbrev p4 := k0_part4 (F := F) A0 M0 A1 M1 A2 M2 A3 M3 A4 M4 A5 M5 A6 M6 A7 M7 A8 M8 cc0_scratch4 cc0_scratch5 cc0_scratch6 cc0_scratch7 cc0_scratch8
abbrev p5 := k0_part5 (F := F) A0 M0 A1 M1 A2 M2 A3 M3 A4 M4 A5 M5 A6 M6 A7 M7 A8 M8 cc0_scratch4 cc0_scratch5 cc0_scratch6 cc0_scratch7 cc0_scratch8
abbrev p6 := k0_part6 (F := F) A0 M0 A1 M1 A2 M2 A3 M3 A4 M4 A5 M5 A6 M6 A7 M7 A8 M8 cc0_scratch4 cc0_scratch5 cc0_scratch6 cc0_scratch7 cc0_scratch8
abbrev p7 := k0_part7 (F := F) A0 M0 A1 M1 A2 M2 A3 M3 A4 M4 A5 M5 A6 M6 A7 M7 A8 M8 cc0_scratch4 cc0_scratch5 cc0_scratch6 cc0_scratch7 cc0_scratch8
abbrev p8 := k0_part8 (F := F) A0 M0 A1 M1 A2 M2 A3 M3 A4 M4 A5 M5 A6 M6 A7 M7 A8 M8 cc0_scratch4 cc0_scratch5 cc0_scratch6 cc0_scratch7 cc0_scratch8
abbrev p9 := k0_part9 (F := F) A0 M0 A1 M1 A2 M2 A3 M3 A4 M4 A5 M5 A6 M6 A7 M7 A8 M8 cc0_scratch4 cc0_scratch5 cc0_scratch6 cc0_scratch7 cc0_scratch8
abbrev pAll := cc0__body (F := F) A0 M0 A1 M1 A2 M2 A3 M3 A4 M4 A5 M5 A6 M6 A7 M7 A8 M8 cc0_scratch4 cc0_scratch5 cc0_scratch6 cc0_scratch7 cc0_scratch8

variable (I : Inp F) (κ : GSem nD τ sig → ℕ) (c : Dev nD)

/-- The body's triple shape. -/
abbrev run (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- One part, then the rest. -/
theorem run_seq {α β : Type} {A : sProp 𝕄} {p : Prog (TpuEff nD τ sig (Elt F) Λ₀ .tc) α} {Φ : α → sProp 𝕄}
    (h : A ⊢ run c p Φ) {K : α → Prog (TpuEff nD τ sig (Elt F) Λ₀ .tc) β} {Q : β → sProp 𝕄} :
    A ⊢ iprop((∀ r, Φ r -∗ wp frame (wpE (defs₀ (F := F)) 𝒱₀ (c : Thread nD τ) none) Set.univ (K r) Q)
      -∗ wp frame (wpE (defs₀ (F := F)) 𝒱₀ (c : Thread nD τ) none) Set.univ (p >>= K) Q) := by
  rw [wp_bind]
  iintro HA HK
  iapply (wp_wand_r frame (wpE (defs₀ (F := F)) 𝒱₀ (c : Thread nD τ) none) Set.univ)
  isplitl [HA]
  · iapply h; iexact HA
  · iexact HK

/-! ## What each step takes -/

/-- For one signal. -/
def sigRes (k : Fin 3) (c : Dev nD) : sProp 𝕄 :=
  iprop(dutyTok ER (barCell (fwd k c)) 0 (rev k) ∗ reached ER (barCell (fwd k c)) 0 ∗ (∃ f, slotPts (rev k) c f) ∗ (∃ f, cntPts (rev k).succ c f)
    ∗ reached ER (cell 1 (rev k) c) 0 ∗ reached ER (cell 3 (rev k) c) 0)
/-- For one data copy, the receiver's slot apart. -/
def datRes (k : Fin 3) (c : Dev nD) : sProp 𝕄 :=
  iprop(dutyTok ER (cell 0 k c) 0 0 ∗ reached ER (cell 0 k c) 0 ∗ dutyTok ER (cell 1 k (fwd k c)) 0 0)
/-- For one count copy, the receiver's slot apart. -/
def numRes (k : Fin 3) (c : Dev nD) : sProp 𝕄 :=
  iprop(ownPts k c (I.C3 c) ∗ dutyTok ER (cell 2 k c) 0 0 ∗ reached ER (cell 2 k c) 0 ∗ dutyTok ER (cell 3 k (fwd k c)) 0 0)
/-- One region of the send buffer, filled. -/
def regRes (k : Fin 3) (c : Dev nD) : sProp 𝕄 :=
  iprop(∃ f, regPts (fwd k c) c f ∗ ⌜SrcOK I c (fwd k c) ((regM (fwd k c)).view.read (Elt F) f)⌝)
/-- The receiver's data slot, and its count slot. -/
def toSlot (k : Fin 3) (c : Dev nD) : sProp 𝕄 := iprop((∃ f, slotPts (F := F) k (fwd k c) f) ∗ reached ER (cell 1 k (fwd k c)) 0)
def toCnt (k : Fin 3) (c : Dev nD) : sProp 𝕄 := iprop((∃ f, cntPts (F := F) k.succ (fwd k c) f) ∗ reached ER (cell 3 k (fwd k c)) 0)
/-- Before a wait: what has been promised; after it: what arrived. -/
abbrev crd (a : Fin 4) : ℕ := if a = 0 ∨ a = 1 then ND else NC
def due (a : Fin 4) (k : Fin 3) (c : Dev nD) : sProp 𝕄 := cred (tallyAt (cell a k c) () (crd a))
def pos (a : Fin 4) (k : Fin 3) (c : Dev nD) (n : ℕ) : sProp 𝕄 := atPos ER (cell a k c) n ∅ 0

theorem barPay_split (k : Fin 3) : (barPay k c : sProp 𝕄) ⊢ iprop(toSlot k c ∗ toCnt k c) := by
  unfold barPay toSlot toCnt
  iintro ⟨H1, H2, H3, H4⟩
  isplitl [H1 H3]
  · isplitl [H1]; · iexact H1
    iexact H3
  · isplitl [H2]; · iexact H2
    iexact H4

/-- The reply of the first part. -/
abbrev r1 (c : Dev nD) : Σ' (d0 : Dev nD) (v2 : BitVec 32) (v3 : Sems sig S_) (v30 : BitVec 32) (c4_i32_18 : BitVec 32), BitVec 1 :=
  ⟨c, Scalar.remsi (Scalar.divsi (Dev.word c) 1#32) 4#32, SemArray.scalar (sig.barrier 0 rfl),
    Scalar.addi (Scalar.remsi (Scalar.divsi (Dev.word c) 1#32) 4#32) 3#32, 4#32, Scalar.cmpi .eq 4#32 0#32⟩

/-- Part 1: the first two signals. -/
theorem run1 : iprop(recs I κ ∗ owesX c (O₀ c) ∗ sigRes 0 c ∗ sigRes 1 c)
    ⊢ run (F := F) c p1 fun r => iprop(⌜r = r1 c⌝ ∗ owesX c (oB c + tBar 2 c)) := by
  unfold run p1
  rw [k0_part1_eq_skeleton]
  unfold k0_part1_skel sigRes
  simp only [semSignalWord, semWaitWord, Prog.lift, Prog.bind_op, Prog.bind_ret, Prog.pure_eq_ret, Prog.bind_assoc, wp_deviceId]
  iintro ⟨#HR, HO, S0, S1⟩
  iapply (step_signal I κ c 0 _ _ (dev1 c) rfl) $$ [HO S0]
  · isplitr; · iexact HR
    isplitl [HO]; · iexact HO
    iexact S0
  iintro HO
  iapply (step_signal I κ c 1 _ _ (dev2 c) rfl) $$ [HO S1]
  · isplitr; · iexact HR
    isplitl [HO]; · iexact HO
    iexact S1
  iintro HO
  rw [wp_ret]
  imodintro
  isplitr
  · ipureintro; rfl
  iexact HO

/-- Part 2: the third signal, the fill, and the wait for the others to be ready. -/
theorem run2 (hI : Good I) : iprop(recs I κ ∗ owesX c (oB c + tBar 2 c) ∗ sigRes 2 c ∗ xPts I c ∗ pPts I c ∗ (∃ f, sPts c f)
      ∗ cred (tallyAt (barCell c) () 3) ∗ levAts L lv ∗ atPos ER (barCell c) 0 ∅ 0)
    ⊢ run (F := F) c (p2 (r1 c).1 (r1 c).2.1 (r1 c).2.2.1 (r1 c).2.2.2.1 (r1 c).2.2.2.2.1 (r1 c).2.2.2.2.2) fun _ =>
      iprop(owesX c (oB c) ∗ loopI I c 4096 ⟨⟩ ∗ atPos ER (barCell c) (0 + 1) ∅ 0
        ∗ (toSlot 0 c ∗ toCnt 0 c) ∗ (toSlot 1 c ∗ toCnt 1 c) ∗ (toSlot 2 c ∗ toCnt 2 c)) := by
  unfold run p2
  rw [k0_part2_eq_skeleton]
  unfold k0_part2_skel sigRes
  simp only [semSignalWord, semWaitWord, Prog.lift, Prog.bind_op, Prog.bind_ret, Prog.pure_eq_ret, Prog.bind_assoc, wp_deviceId]
  iintro ⟨#HR, HO, S2, HX, HP, ⟨%f, HS⟩, HC, HL, HA⟩
  iapply (step_signal I κ c 2 _ _ (dev3 c) rfl) $$ [HO S2]
  · isplitr; · iexact HR
    isplitl [HO]; · iexact HO
    iexact S2
  iintro HO
  iapply (Scf.wp_for_bind frame (wpE (defs₀ (F := F)) 𝒱₀ (c : Thread nD τ) none) Set.univ _ _ _ _ _ _ (loopI I c)
    (fun k acc => trip I hI c _ _ _ _ _ _ k acc)) $$ [HX HP HS]
  · unfold loopI
    isplitl [HX]; · iexact HX
    isplitl [HP]; · iexact HP
    iexists f
    isplitl [HS]; · iexact HS
    ipureintro
    intro i j r _ h
    exact absurd h (Nat.not_lt_zero _)
  iintro %acc HI
  iapply (step_bar_wait I κ c rfl) $$ [HO HC HL HA]
  · isplitr; · iexact HR
    isplitl [HC]; · iexact HC
    isplitl [HO]; · iexact HO
    isplitl [HL]; · iexact HL
    iexact HA
  iintro ⟨HO, HA, B0, B1, B2⟩
  rw [wp_ret]
  imodintro
  isplitl [HO]; · iexact HO
  isplitl [HI]
  · rw [show (4096 : ℕ) = k0_t1_loop.trips from trips_eq.symm]; iexact HI
  isplitl [HA]; · iexact HA
  isplitl [B0]; · iapply (barPay_split c 0); iexact B0
  isplitl [B1]; · iapply (barPay_split c 1); iexact B1
  iapply (barPay_split c 2); iexact B2

/-- Part 3: both copies to the next device, and the counts to the second next. -/
theorem run3 (v2 v54 : BitVec 32) : iprop(recs I κ ∗ owesX c (oB c) ∗ numRes I 0 c ∗ toCnt 0 c ∗ regRes I 0 c ∗ datRes 0 c ∗ toSlot 0 c ∗ numRes I 1 c ∗ toCnt 1 c)
    ⊢ run (F := F) c (p3 c v2 v54) fun _ => iprop(owesX c (oD1 c + tDat 1 c) ∗ due 2 0 c ∗ due 0 0 c ∗ due 2 1 c) := by
  unfold run p3
  rw [k0_part3_eq_skeleton]
  unfold k0_part3_skel numRes toCnt regRes datRes toSlot due
  simp only [semSignalWord, semWaitWord, Prog.lift, Prog.bind_op, Prog.bind_ret, Prog.pure_eq_ret, Prog.bind_assoc, wp_deviceId]
  iintro ⟨#HR, HO, ⟨N1, N2, N3, N4⟩, ⟨C1, C2⟩, ⟨%f, R, %hf⟩, ⟨D1, D2, D3⟩, ⟨T1, T2⟩, ⟨N1', N2', N3', N4'⟩, ⟨C1', C2'⟩⟩
  iapply (step_send_cnt I κ c 0 _ _ (dev4 c) rfl rfl rfl) $$ [HO N1 N2 N3 N4 C1 C2]
  · isplitr; · iexact HR
    isplitl [N1]; · iexact N1
    isplitl [C1]; · iexact C1
    isplitl [HO]; · iexact HO
    isplitl [N2]; · iexact N2
    isplitl [N3]; · iexact N3
    isplitl [N4]; · iexact N4
    iexact C2
  iintro ⟨G1, HO⟩
  iapply (step_send_data I κ c 0 _ _ (dev5 c) (off4_1 c) rfl rfl rfl f hf) $$ [HO R D1 D2 D3 T1 T2]
  · isplitr; · iexact HR
    isplitl [R]; · iexact R
    isplitl [T1]; · iexact T1
    isplitl [HO]; · iexact HO
    isplitl [D1]; · iexact D1
    isplitl [D2]; · iexact D2
    isplitl [D3]; · iexact D3
    iexact T2
  iintro ⟨G2, HO⟩
  iapply (step_send_cnt I κ c 1 _ _ (dev6 c) rfl rfl rfl) $$ [HO N1' N2' N3' N4' C1' C2']
  · isplitr; · iexact HR
    isplitl [N1']; · iexact N1'
    isplitl [C1']; · iexact C1'
    isplitl [HO]; · iexact HO
    isplitl [N2']; · iexact N2'
    isplitl [N3']; · iexact N3'
    isplitl [N4']; · iexact N4'
    iexact C2'
  iintro ⟨G3, HO⟩
  rw [wp_ret]
  imodintro
  isplitl [HO]; · iexact HO
  isplitl [G1]; · iexact G1
  isplitl [G2]; · iexact G2
  iexact G3

/-- Part 4: the rows to the second next device, the counts to the third. -/
theorem run4 (v2 v83 : BitVec 32) : iprop(recs I κ ∗ owesX c (oD1 c + tDat 1 c) ∗ regRes I 1 c ∗ datRes 1 c ∗ toSlot 1 c ∗ numRes I 2 c ∗ toCnt 2 c)
    ⊢ run (F := F) c (p4 c v2 v83) fun _ => iprop(owesX c (0 + tDat 2 c) ∗ due 0 1 c ∗ due 2 2 c) := by
  unfold run p4
  rw [k0_part4_eq_skeleton]
  unfold k0_part4_skel numRes toCnt regRes datRes toSlot due
  simp only [semSignalWord, semWaitWord, Prog.lift, Prog.bind_op, Prog.bind_ret, Prog.pure_eq_ret, Prog.bind_assoc, wp_deviceId]
  iintro ⟨#HR, HO, ⟨%f, R, %hf⟩, ⟨D1, D2, D3⟩, ⟨T1, T2⟩, ⟨N1', N2', N3', N4'⟩, ⟨C1', C2'⟩⟩
  iapply (step_send_data I κ c 1 _ _ (dev7 c) (off4_2 c) rfl rfl rfl f hf) $$ [HO R D1 D2 D3 T1 T2]
  · isplitr; · iexact HR
    isplitl [R]; · iexact R
    isplitl [T1]; · iexact T1
    isplitl [HO]; · iexact HO
    isplitl [D1]; · iexact D1
    isplitl [D2]; · iexact D2
    isplitl [D3]; · iexact D3
    iexact T2
  iintro ⟨G2, HO⟩
  iapply (step_send_cnt I κ c 2 _ _ (dev8 c) rfl rfl rfl) $$ [HO N1' N2' N3' N4' C1' C2']
  · isplitr; · iexact HR
    isplitl [N1']; · iexact N1'
    isplitl [C1']; · iexact C1'
    isplitl [HO]; · iexact HO
    isplitl [N2']; · iexact N2'
    isplitl [N3']; · iexact N3'
    isplitl [N4']; · iexact N4'
    iexact C2'
  iintro ⟨G3, HO⟩
  rw [wp_ret]
  imodintro
  isplitl [HO]; · iexact HO
  isplitl [G2]; · iexact G2
  iexact G3

/-- One wait of the exchange. -/
theorem wait1 (a : Fin 4) (k : Fin 3) {s : DmaSem sig} (hs : s = sm a k) {sp sp' : Space} {S S' : Shape} {e e' : EltTy}
    {src : Memref sig .tc sp' S' e'} {dst : Memref sig .tc sp S e} {h1} {h2}
    (hN : dst.view.dmaCredit = crd a) {α : Type} {Q : α → sProp 𝕄} {K : PUnit → Prog (TpuEff nD τ sig (Elt F) Λ₀ .tc) α} :
    iprop(recs I κ ∗ due a k c ∗ owesX c 0 ∗ pos a k c 0)
      ⊢ iprop(((owesX c 0 ∗ pos a k c 1 ∗ pay I a k c) -∗ wp frame (wpE (defs₀ (F := F)) 𝒱₀ (c : Thread nD τ) none) Set.univ (K ⟨⟩) Q)
        -∗ wp frame (wpE (defs₀ (F := F)) 𝒱₀ (c : Thread nD τ) none) Set.univ (.op (.waitDma2 s src dst h1 h2) K) Q) :=
  step_wait I κ c a k hs hN

/-- Part 5: the rows to the third next device; the counts in, and across to scalar memory. -/
theorem run5 (v54 v83 v112 x : BitVec 32) : iprop(recs I κ ∗ owesX c (0 + tDat 2 c) ∗ regRes I 2 c ∗ datRes 2 c ∗ toSlot 2 c
      ∗ (due 3 0 c ∗ pos 3 0 c 0) ∗ (due 3 1 c ∗ pos 3 1 c 0) ∗ (due 3 2 c ∗ pos 3 2 c 0) ∗ (∃ f, cntPts 0 c f) ∗ (∃ f, whole8 c f)
      ∗ semVal (((c : Thread nD τ), .dma copyS) : GSem nD τ sig) 0)
    ⊢ run (F := F) c (p5 c v54 v83 v112 x) fun _ => iprop(owesX c 0 ∗ due 0 2 c ∗ pos 3 0 c 1 ∗ pos 3 1 c 1 ∗ pos 3 2 c 1
      ∗ (∃ g, whole7 c g) ∗ (∃ g, whole8 c g ∗ ⌜CntOK I c g⌝) ∗ semVal (((c : Thread nD τ), .dma copyS) : GSem nD τ sig) 0) := by
  unfold run p5
  rw [k0_part5_eq_skeleton]
  unfold k0_part5_skel regRes datRes toSlot
  simp only [semSignalWord, semWaitWord, Prog.lift, Prog.bind_op, Prog.bind_ret, Prog.pure_eq_ret, Prog.bind_assoc, wp_deviceId]
  iintro ⟨#HR, HO, ⟨%f, R, %hf⟩, ⟨D1, D2, D3⟩, ⟨T1, T2⟩, ⟨U0, P0⟩, ⟨U1, P1⟩, ⟨U2, P2⟩, Z, ⟨%f8, H8⟩, HV⟩
  iapply (step_send_data I κ c 2 _ _ (dev9 c) (off4_3 c) rfl rfl rfl f hf) $$ [HO R D1 D2 D3 T1 T2]
  · isplitr; · iexact HR
    isplitl [R]; · iexact R
    isplitl [T1]; · iexact T1
    isplitl [HO]; · iexact HO
    isplitl [D1]; · iexact D1
    isplitl [D2]; · iexact D2
    isplitl [D3]; · iexact D3
    iexact T2
  iintro ⟨G2, HO⟩
  iapply (wait1 I κ c 3 0 rfl (dst := cntM (0 : Fin 3).succ) rfl) $$ [HO U0 P0]
  · isplitr; · iexact HR
    isplitl [U0]; · iexact U0
    isplitl [HO]; · iexact HO
    iexact P0
  iintro ⟨HO, P0, Y0⟩
  iapply (wait1 I κ c 3 1 rfl (dst := cntM (1 : Fin 3).succ) rfl) $$ [HO U1 P1]
  · isplitr; · iexact HR
    isplitl [U1]; · iexact U1
    isplitl [HO]; · iexact HO
    iexact P1
  iintro ⟨HO, P1, Y1⟩
  iapply (wait1 I κ c 3 2 rfl (dst := cntM (2 : Fin 3).succ) rfl) $$ [HO U2 P2]
  · isplitr; · iexact HR
    isplitl [U2]; · iexact U2
    isplitl [HO]; · iexact HO
    iexact P2
  iintro ⟨HO, P2, Y2⟩
  ihave HJ := (join7 c I) $$ [Z Y0 Y1 Y2]
  · isplitl [Z]; · iexact Z
    isplitl [Y0]; · iexact Y0
    isplitl [Y1]; · iexact Y1
    iexact Y2
  icases HJ with ⟨%g, H7, %hg⟩
  iapply (step_copy (T := Finset.univ) (q := fullShare) c (src := A7) (dst := A8) rfl rfl rfl (by decide) (Finset.subset_univ _) g f8) $$ [H7 H8 HV HO]
  · isplitl [H7]
    · rw [show A7.view.set = Finset.univ from View.set_whole _]; iexact H7
    isplitl [H8]; · iexact H8
    isplitl [HV]; · iexact HV
    iexact HO
  iintro ⟨H7, H8, HV, HO⟩
  rw [wp_ret]
  imodintro
  isplitl [HO]; · iexact HO
  isplitl [G2]; · unfold due; iexact G2
  isplitl [P0]; · iexact P0
  isplitl [P1]; · iexact P1
  isplitl [P2]; · iexact P2
  isplitl [H7]
  · iexists g; rw [show A7.view.set = Finset.univ from View.set_whole _]; iexact H7
  isplitl [H8]
  · iexists _
    isplitl [H8]; · iexact H8
    ipureintro
    rw [show A8.view.write (Elt F) f8 (A7.view.read (Elt F) g) Finset.univ = g from View.write_whole_univ ..]
    exact hg
  iexact HV

/-- Part 6: the rows in. -/
theorem run6 (v2 v54 v83 v112 : BitVec 32) : iprop(recs I κ ∗ owesX c 0
      ∗ (due 1 0 c ∗ pos 1 0 c 0) ∗ (due 1 1 c ∗ pos 1 1 c 0) ∗ (due 1 2 c ∗ pos 1 2 c 0))
    ⊢ run (F := F) c (p6 c v2 v54 v83 v112) fun r => iprop(⌜r = ⟨Scalar.subi v2 0#32, 4#32, Scalar.cmpi .eq 4#32 0#32, 1#32⟩⌝ ∗ owesX c 0
      ∗ (pos 1 0 c 1 ∗ pos 1 1 c 1 ∗ pos 1 2 c 1) ∗ (pay I 1 0 c ∗ pay I 1 1 c ∗ pay I 1 2 c)) := by
  unfold run p6
  rw [k0_part6_eq_skeleton]
  unfold k0_part6_skel
  simp only [semSignalWord, semWaitWord, Prog.lift, Prog.bind_op, Prog.bind_ret, Prog.pure_eq_ret, Prog.bind_assoc, wp_deviceId]
  iintro ⟨#HR, HO, ⟨U0, P0⟩, ⟨U1, P1⟩, ⟨U2, P2⟩⟩
  iapply (wait1 I κ c 1 0 rfl (dst := slotM 0) rfl) $$ [HO U0 P0]
  · isplitr; · iexact HR
    isplitl [U0]; · iexact U0
    isplitl [HO]; · iexact HO
    iexact P0
  iintro ⟨HO, P0, Y0⟩
  iapply (wait1 I κ c 1 1 rfl (dst := slotM 1) rfl) $$ [HO U1 P1]
  · isplitr; · iexact HR
    isplitl [U1]; · iexact U1
    isplitl [HO]; · iexact HO
    iexact P1
  iintro ⟨HO, P1, Y1⟩
  iapply (wait1 I κ c 1 2 rfl (dst := slotM 2) rfl) $$ [HO U2 P2]
  · isplitr; · iexact HR
    isplitl [U2]; · iexact U2
    isplitl [HO]; · iexact HO
    iexact P2
  iintro ⟨HO, P2, Y2⟩
  rw [wp_ret]
  imodintro
  isplitr; · ipureintro; rfl
  isplitl [HO]; · iexact HO
  isplitl [P0 P1 P2]
  · isplitl [P0]; · iexact P0
    isplitl [P1]; · iexact P1
    iexact P2
  isplitl [Y0]; · iexact Y0
  isplitl [Y1]; · iexact Y1
  iexact Y2

end Cert.KernelIdeal.Hand

end
-- ==== Proof.Write.lean ====
module

public import proofs.«01_k».proof.Proof.Talk

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The words: how many rows each device has for this one -/

/-- The index of device `c` in an array of four counts. -/
def ix4 (c : Dev nD) : S4.Idx := fun a => ⟨c.val, by have := c.isLt; fin_cases a; exact this⟩

variable (I : Inp F) (hI : Good I) (c : Dev nD)

/-- How many rows device `s` has for device `c`, as a word and as a number. -/
def cnW (s : Dev nD) : BitVec 32 := I.C2 s (ix4 c)
def cn (s : Dev nD) : ℕ := (cnW I c s).toNat

/-- Where device `s`'s rows start on device `c`. -/
def start : ℕ → ℕ
  | 0 => 0
  | 1 => cn I c 0
  | 2 => cn I c 0 + cn I c 1
  | _ => cn I c 0 + cn I c 1 + cn I c 2

include hI in
theorem cn_le (s : Dev nD) : cn I c s ≤ 1152 := hI.cntle s (ix4 c)

include hI in
theorem start_le (s : Dev nD) : start I c s.val ≤ 3456 := by
  have h0 := cn_le I hI c 0
  have h1 := cn_le I hI c 1
  have h2 := cn_le I hI c 2
  fin_cases s
  · exact Nat.zero_le _
  · show cn I c 0 ≤ _; omega
  · show cn I c 0 + cn I c 1 ≤ _; omega
  · show cn I c 0 + cn I c 1 + cn I c 2 ≤ _; omega

theorem start_mono (s t : Dev nD) (h : s.val < t.val) : start I c s.val + cn I c s ≤ start I c t.val := by
  fin_cases s <;> fin_cases t <;> first | (exact absurd h (by decide)) | skip
  · show 0 + cn I c 0 ≤ cn I c 0; omega
  · show 0 + cn I c 0 ≤ cn I c 0 + cn I c 1; omega
  · show 0 + cn I c 0 ≤ cn I c 0 + cn I c 1 + cn I c 2; omega
  · show cn I c 0 + cn I c 1 ≤ cn I c 0 + cn I c 1; omega
  · show cn I c 0 + cn I c 1 ≤ cn I c 0 + cn I c 1 + cn I c 2; omega
  · show cn I c 0 + cn I c 1 + cn I c 2 ≤ cn I c 0 + cn I c 1 + cn I c 2; omega

include hI in
theorem word_0 : (0#32 + cnW I c 0).toNat = start I c 1 := by
  rw [BitVec.toNat_add]
  have h0 := cn_le I hI c 0
  unfold cn at h0
  show (0 + (cnW I c 0).toNat) % 4294967296 = (cnW I c 0).toNat
  omega
include hI in
theorem word_1 : (0#32 + cnW I c 0 + cnW I c 1).toNat = start I c 2 := by
  rw [BitVec.toNat_add, word_0 I hI c]
  have h0 := cn_le I hI c 0
  have h1 := cn_le I hI c 1
  unfold cn at h0 h1
  show ((cnW I c 0).toNat + (cnW I c 1).toNat) % 4294967296 = (cnW I c 0).toNat + (cnW I c 1).toNat
  omega
include hI in
theorem word_2 : (0#32 + cnW I c 0 + cnW I c 1 + cnW I c 2).toNat = start I c 3 := by
  rw [BitVec.toNat_add, word_1 I hI c]
  have h0 := cn_le I hI c 0
  have h1 := cn_le I hI c 1
  have h2 := cn_le I hI c 2
  unfold cn at h0 h1 h2
  show ((cnW I c 0).toNat + (cnW I c 1).toNat + (cnW I c 2).toNat) % 4294967296 = (cnW I c 0).toNat + (cnW I c 1).toNat + (cnW I c 2).toNat
  omega

/-- A start leaves room for a whole slot. -/
theorem room {n : ℕ} (h : n ≤ 3456) {off : Fin 3 → ℕ} (hoff : off = ![n, 0, 0]) (a : Fin 3) : off a + S1152x8x128.size a ≤ S5248x8x128.size a := by
  subst hoff
  fin_cases a
  · show n + 1152 ≤ 5248; omega
  · show 0 + 8 ≤ 8; omega
  · show 0 + 128 ≤ 128; omega

include hI in
/-- The word a device takes for the rows from device `s`: its own, or the received one. -/
theorem pick_eq (s : Dev nD) (g : S4x8x128.Idx → Elt F .i32) (hg : CntOK I c g) (i : S4.Idx) (hi : (i 0).val = s.val) (j : S4x8x128.Idx)
    (h0 : (j 0).val = (place s c).val) (h1 : (j 1).val = 0) (h2 : (j 2).val = c.val) :
    pick s c (I.C2 c i) (g j) = cnW I c s := by
  unfold pick cnW
  by_cases h : c = s
  · subst h
    rw [if_pos rfl]
    exact congrArg (I.C2 c) (Shape.idx1_ext hi)
  · rw [if_neg h]
    obtain ⟨k, rfl⟩ := exists_bwd s c (fun e => h e.symm)
    have hc : c.val < 128 := Nat.lt_of_lt_of_le c.isLt (by decide)
    refine (hg k j (fun a => match a with | ⟨0, _⟩ => ⟨0, (by decide : 0 < 8)⟩ | ⟨1, _⟩ => ⟨c.val, hc⟩) ?_ ?_ ?_).trans ?_
    · rw [h0, place_bwd]
    · exact h1
    · exact h2
    · exact hI.agree _ _ _ rfl rfl

/-! ## What has been written out -/

/-- The rows from the devices before device `s` are in place. -/
def OutOK (s : ℕ) (g : S5248x8x128.Idx → Elt F .f32) : Prop :=
  ∀ (s' : Dev nD) (r : S4096.Idx) (j : S4096x8x128.Idx) (x : ℕ) (i : S5248x8x128.Idx), s'.val < s → x < 1152 → (r 0).val = (j 0).val →
    (I.P s' r).toNat = 1152 * c.val + x → (i 0).val = start I c s'.val + x → (i 1).val = (j 1).val → (i 2).val = (j 2).val → g i = I.X s' j

include hI in
theorem out_write (s : Dev nD) (g : S5248x8x128.Idx → Elt F .f32) (hg : OutOK I c s.val g) (v : S1152x8x128.Idx → Elt F .f32) (hv : SrcOK I s c v)
    {off : Fin 3 → ℕ} (hoff : off = ![start I c s.val, 0, 0]) (inb : ∀ a, off a + S1152x8x128.size a ≤ S5248x8x128.size a) :
    OutOK I c (s.val + 1) ((A4.access (Rect.unit (s := S5248x8x128) off S1152x8x128.size inb)).write (Elt F) g v Finset.univ) := by
  subst hoff
  intro s' r j x i hs' hx hr hP h0 h1 h2
  by_cases h : s' = s
  · subst h
    have hi : i = (Rect.unit (s := S5248x8x128) ![start I c s'.val, 0, 0] S1152x8x128.size inb).emb
        (fun a => match a with | ⟨0, _⟩ => ⟨x, hx⟩ | ⟨1, _⟩ => j 1 | ⟨2, _⟩ => j 2) := by
      refine Shape.idx3_ext ?_ ?_ ?_ <;> refine Eq.trans ?_ (unit_emb _ _ _ _ _).symm
      · exact h0
      · exact h1.trans (Nat.zero_add _).symm
      · exact h2.trans (Nat.zero_add _).symm
    rw [hi]
    refine (write_in main_v24 (Rect.unit (s := S5248x8x128) ![start I c s'.val, 0, 0] S1152x8x128.size inb) g v _).trans ?_
    exact hv _ j r hr hP rfl rfl
  · have hlt : s'.val < s.val := by
      rcases Nat.lt_succ_iff_lt_or_eq.mp hs' with h' | h'
      · exact h'
      · exact absurd (Fin.ext h') h
    have hw := hI.within s' r (ix4 c) x hP hx
    have hm := start_mono I c s' s hlt
    have hw' : x < cn I c s' := hw
    refine (write_out main_v24 (Rect.unit (s := S5248x8x128) ![start I c s.val, 0, 0] S1152x8x128.size inb) g v i (fun hm' => ?_)).trans
      (hg s' r j x i hlt hx hr hP h0 h1 h2)
    have := (Rect.mem_set_unit.mp hm' 0).1
    have h' : start I c s.val ≤ (i 0).val := this
    omega

/-! ## The steps -/

/-- A load from scalar memory. -/
theorem step_smem {S : Shape} {e : EltTy} {A : Memref sig .tc .smem S e} {r : Rect S} {h1 : r.shape.numel = 1} {hp : e.packing = 1}
    {T : Finset (Idx ((A.access r).loc (c : Thread nD τ)))} (hT : (A.access r).set ⊆ T)
    {q : PosShare TreeShare} (f : Buf (Elt F) ((A.access r).loc (c : Thread nD τ))) {α : Type} {Q : α → sProp 𝕄} {K : Elt F e → Prog (TpuEff nD τ sig (Elt F) Λ₀ .tc) α} :
    ((A.access r).loc (c : Thread nD τ) ↦[T]{q} f)
      ⊢ iprop((((A.access r).loc (c : Thread nD τ) ↦[T]{q} f)
          -∗ wp frame (wpE (defs₀ (F := F)) 𝒱₀ (c : Thread nD τ) none) Set.univ (K ((A.access r).read (Elt F) f (Shape.Idx.first (h1.symm ▸ Nat.one_pos)))) Q)
        -∗ wp frame (wpE (defs₀ (F := F)) 𝒱₀ (c : Thread nD τ) none) Set.univ
          (smemLoadElt A r (View.loads_smem_one hp h1) (Shape.Idx.first (h1.symm ▸ Nat.one_pos)) K) Q) :=
  wp_smemLoadElt 𝒱₀ (c : Thread nD τ) none Set.univ hT

/-- The output buffer, with the rows from the devices before `s` in place. -/
def outRes (s : ℕ) : sProp 𝕄 := iprop(∃ g : Buf (Elt F) ((c : Thread nD τ).loc main_v24), ((c : Thread nD τ).loc main_v24 ↦{fullShare} g) ∗ ⌜OutOK I c s g⌝)
/-- The device's own part of its send buffer, filled. -/
def ownReg : sProp 𝕄 := iprop(∃ f, regPts c c f ∗ ⌜SrcOK I c c ((regM c).view.read (Elt F) f)⌝)
/-- One received slot, filled. -/
def gotSlot (k : Fin 3) : sProp 𝕄 := iprop(∃ f, slotPts k c f ∗ ⌜SrcOK I (bwd k c) c ((slotM k).view.read (Elt F) f)⌝)
/-- Everything the copies out use besides the output. -/
def stock : sProp 𝕄 := iprop(owesX c 0 ∗ semVal (((c : Thread nD τ), .dma copyS) : GSem nD τ sig) 0 ∗ ownReg I c ∗ bigSep Finset.univ (gotSlot I c))

include hI in
/-- A copy of the device's own rows. -/
theorem step_own (s : Dev nD) (hs : c = s) {off off' : Fin 3 → ℕ} (hoff : off = ![1152 * s.val, 0, 0]) (hoff' : off' = ![start I c s.val, 0, 0])
    {inb inb2 : ∀ a, off a + S1152x8x128.size a ≤ S4608x8x128.size a} {inb' inb2' : ∀ a, off' a + S1152x8x128.size a ≤ S5248x8x128.size a}
    {h1} {h2} {h3} {h4} {h5} {α : Type} {Q : α → sProp 𝕄} {K : PUnit → Prog (TpuEff nD τ sig (Elt F) Λ₀ .tc) α} :
    iprop(stock I c ∗ outRes I c s.val)
      ⊢ iprop(((stock I c ∗ outRes I c (s.val + 1)) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (A5.slice (Rect.unit (s := S4608x8x128) off S1152x8x128.size inb) (fun _ => rfl))
            (.here (A4.slice (Rect.unit (s := S5248x8x128) off' S1152x8x128.size inb') (fun _ => rfl))) (.dma cc0_scratch8.sem) h1 h2 h3) fun _ =>
            .op (.waitDma2 cc0_scratch8.sem (A5.slice (Rect.unit (s := S4608x8x128) off S1152x8x128.size inb2) (fun _ => rfl))
              (A4.slice (Rect.unit (s := S5248x8x128) off' S1152x8x128.size inb2') (fun _ => rfl)) h4 h5) K) Q) := by
  subst hs; subst hoff
  unfold stock ownReg outRes
  iintro ⟨⟨HO, HV, ⟨%f, Hf, %hf⟩, HB⟩, ⟨%g, Hg, %hg⟩⟩ Hk
  iapply (step_copy (T := Finset.univ) (q := fullShare) c
    (src := A5.slice (Rect.unit (s := S4608x8x128) ![1152 * c.val, 0, 0] S1152x8x128.size inb) (fun _ => rfl))
    (dst := A4.slice (Rect.unit (s := S5248x8x128) off' S1152x8x128.size inb') (fun _ => rfl)) rfl rfl rfl (by exact ND_pos) (Finset.subset_univ _) f g) $$ [Hf Hg HV HO]
  · isplitl [Hf]; · iexact Hf
    isplitl [Hg]; · iexact Hg
    isplitl [HV]; · iexact HV
    iexact HO
  iintro ⟨Hf, Hg, HV, HO⟩
  iapply Hk
  isplitl [Hf HV HO HB]
  · isplitl [HO]; · iexact HO
    isplitl [HV]; · iexact HV
    isplitl [Hf]
    · iexists f
      isplitl [Hf]; · iexact Hf
      ipureintro; exact hf
    iexact HB
  iexists _
  isplitl [Hg]; · iexact Hg
  ipureintro
  exact out_write I hI c c g hg _ hf hoff' inb'

include hI in
/-- A copy of the rows received from another device. -/
theorem step_got (s : Dev nD) (hs : c ≠ s) {off : Fin 4 → ℕ} {off' : Fin 3 → ℕ} (hoff : off = ![(place s c).val - 1, 0, 0, 0]) (hoff' : off' = ![start I c s.val, 0, 0])
    {inb inb2 : ∀ a, off a + S1x1152x8x128.size a ≤ S3x1152x8x128.size a} {inb' inb2' : ∀ a, off' a + S1152x8x128.size a ≤ S5248x8x128.size a}
    {h1} {h2} {h3} {h4} {h5} {α : Type} {Q : α → sProp 𝕄} {K : PUnit → Prog (TpuEff nD τ sig (Elt F) Λ₀ .tc) α} :
    iprop(stock I c ∗ outRes I c s.val)
      ⊢ iprop(((stock I c ∗ outRes I c (s.val + 1)) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma ((A6.slice (Rect.unit (s := S3x1152x8x128) off S1x1152x8x128.size inb) (fun _ => rfl)).squeeze
              S1152x8x128 squeezes_S1x1152x8x128_S1152x8x128)
            (.here (A4.slice (Rect.unit (s := S5248x8x128) off' S1152x8x128.size inb') (fun _ => rfl))) (.dma cc0_scratch8.sem) h1 h2 h3) fun _ =>
            .op (.waitDma2 cc0_scratch8.sem ((A6.slice (Rect.unit (s := S3x1152x8x128) off S1x1152x8x128.size inb2) (fun _ => rfl)).squeeze
              S1152x8x128 squeezes_S1x1152x8x128_S1152x8x128)
              (A4.slice (Rect.unit (s := S5248x8x128) off' S1152x8x128.size inb2') (fun _ => rfl)) h4 h5) K) Q) := by
  obtain ⟨k, rfl⟩ := exists_bwd s c (fun e => hs e.symm)
  rw [place_bwd, Nat.add_sub_cancel] at hoff
  subst hoff
  unfold stock outRes
  have e : bigSep Finset.univ (gotSlot I c) = iprop((∃ f, slotPts k c f ∗ ⌜SrcOK I (bwd k c) c ((slotM k).view.read (Elt F) f)⌝)
      ∗ bigSep (Finset.univ.erase k) (gotSlot I c)) := bigSep_erase (Finset.mem_univ k)
  rw [e]
  iintro ⟨⟨HO, HV, HB, ⟨%f, Hf, %hf⟩, HE⟩, ⟨%g, Hg, %hg⟩⟩ Hk
  iapply (step_copy (T := Finset.univ) (q := fullShare) c
    (src := (A6.slice (Rect.unit (s := S3x1152x8x128) ![k.val, 0, 0, 0] S1x1152x8x128.size inb) (fun _ => rfl)).squeeze
              S1152x8x128 squeezes_S1x1152x8x128_S1152x8x128)
    (dst := A4.slice (Rect.unit (s := S5248x8x128) off' S1152x8x128.size inb') (fun _ => rfl)) rfl rfl rfl (by exact ND_pos) (Finset.subset_univ _) f g) $$ [Hf Hg HV HO]
  · isplitl [Hf]; · iexact Hf
    isplitl [Hg]; · iexact Hg
    isplitl [HV]; · iexact HV
    iexact HO
  iintro ⟨Hf, Hg, HV, HO⟩
  iapply Hk
  isplitl [Hf HV HO HB HE]
  · isplitl [HO]; · iexact HO
    isplitl [HV]; · iexact HV
    isplitl [HB]; · iexact HB
    isplitl [Hf]
    · iexists f
      isplitl [Hf]; · iexact Hf
      ipureintro; exact hf
    iexact HE
  iexists _
  isplitl [Hg]; · iexact Hg
  ipureintro
  exact out_write I hI c (bwd k c) g hg _ hf hoff' inb'

end Cert.KernelIdeal.Hand

end
-- ==== Proof.Body.lean ====
module

public import proofs.«01_k».proof.Proof.Write

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Inp F) (hI : Good I) (κ : GSem nD τ sig → ℕ) (c : Dev nD)

/-! ## The words read, and the offsets they give -/

theorem first_val {s : Shape} (h : 0 < s.numel) (a : Fin s.rank) : (Shape.Idx.first h a).val = 0 := rfl

include hI in
/-- The two words read for device `s` give the number of rows it has for this device. -/
theorem pick_read (s : Dev nD) (g : S4x8x128.Idx → Elt F .i32) (hg : CntOK I c g) {off : Fin 1 → ℕ} (hoff : off = ![s.val])
    {inb : ∀ a, off a + S1.size a ≤ S4.size a} {off' : Fin 3 → ℕ} (hoff' : off' = ![(place s c).val, 0, c.val])
    {inb' : ∀ a, off' a + S1x1x1.size a ≤ S4x8x128.size a} {h : 0 < S1.numel} {h' : 0 < S1x1x1.numel} :
    pick s c ((A2.access (Rect.unit (s := S4) off S1.size inb)).read (Elt F) (I.C2 c) (Shape.Idx.first h))
      ((A8.access (Rect.unit (s := S4x8x128) off' S1x1x1.size inb')).read (Elt F) g (Shape.Idx.first h')) = cnW I c s := by
  subst hoff; subst hoff'
  exact pick_eq I hI c s g hg _ (unit_emb _ _ _ _ _) _ (unit_emb _ _ _ _ _) (unit_emb _ _ _ _ _) (unit_emb _ _ _ _ _)

section Offs
variable {a b a' b' a'' b'' : BitVec 32}
include hI
theorem off7_eq (h : pick 0 c a b = cnW I c 0) : k0_off7 c a b = ![start I c (1 : Dev nD).val, 0, 0] := by
  rw [off7, h, word_0 I hI]; rfl
theorem off8_eq (h : pick 0 c a b = cnW I c 0) : k0_off8 c a b = ![start I c (1 : Dev nD).val, 0, 0] := by
  rw [off8, h, word_0 I hI]; rfl
theorem off11_eq (h : pick 0 c a b = cnW I c 0) (h' : pick 1 c a' b' = cnW I c 1) : k0_off11 c a b a' b' = ![start I c (2 : Dev nD).val, 0, 0] := by
  rw [off11, h, h', word_1 I hI]; rfl
theorem off12_eq (h : pick 0 c a b = cnW I c 0) (h' : pick 1 c a' b' = cnW I c 1) : k0_off12 c a b a' b' = ![start I c (2 : Dev nD).val, 0, 0] := by
  rw [off12, h, h', word_1 I hI]; rfl
theorem off14_eq (h : pick 0 c a b = cnW I c 0) (h' : pick 1 c a' b' = cnW I c 1) (h'' : pick 2 c a'' b'' = cnW I c 2) :
    k0_off14 c a b a' b' a'' b'' = ![start I c (3 : Dev nD).val, 0, 0] := by
  rw [off14, h, h', h'', word_2 I hI]; rfl
theorem off15_eq (h : pick 0 c a b = cnW I c 0) (h' : pick 1 c a' b' = cnW I c 1) (h'' : pick 2 c a'' b'' = cnW I c 2) :
    k0_off15 c a b a' b' a'' b'' = ![start I c (3 : Dev nD).val, 0, 0] := by
  rw [off15, h, h', h'', word_2 I hI]; rfl
theorem chk2 (h : pick 0 c a b = cnW I c 0) : k0_chk2 c a b :=
  ⟨fun _ => room (start_le I hI c 1) (off7_eq I hI c h), fun _ => room (start_le I hI c 1) (off8_eq I hI c h)⟩
theorem chk3 (h : pick 0 c a b = cnW I c 0) (h' : pick 1 c a' b' = cnW I c 1) : k0_chk3 c a b a' b' :=
  ⟨fun _ => room (start_le I hI c 2) (off11_eq I hI c h h'), fun _ => room (start_le I hI c 2) (off12_eq I hI c h h')⟩
theorem chk4 (h : pick 0 c a b = cnW I c 0) (h' : pick 1 c a' b' = cnW I c 1) (h'' : pick 2 c a'' b'' = cnW I c 2) : k0_chk4 c a b a' b' a'' b'' :=
  ⟨fun _ => room (start_le I hI c 3) (off14_eq I hI c h h' h''), fun _ => room (start_le I hI c 3) (off15_eq I hI c h h' h'')⟩
end Offs

/-- The array of own counts. -/
abbrev whole2 (g : S4.Idx → Elt F .i32) : sProp 𝕄 := (c : Thread nD τ).loc cc0_stg2_0 ↦{fullShare} g
abbrev cPts : sProp 𝕄 := whole2 (F := F) c (I.C2 c)

/-- Loads of those. -/
theorem step2' (g : S4.Idx → Elt F .i32) (r : Rect S4) {hl} {α : Type} {Q : α → sProp 𝕄} {K : (r.shape.Idx → Elt F .i32) → Prog (TpuEff nD τ sig (Elt F) Λ₀ .tc) α} :
    whole2 c g ⊢ iprop((whole2 c g
          -∗ wp frame (wpE (defs₀ (F := F)) 𝒱₀ (c : Thread nD τ) none) Set.univ (K ((A2.access r).read (Elt F) g)) Q)
        -∗ wp frame (wpE (defs₀ (F := F)) 𝒱₀ (c : Thread nD τ) none) Set.univ (.op (.load A2 r.toLoadRect hl) K) Q) :=
  wp_load_rect (m := A2) (r := r) 𝒱₀ (c : Thread nD τ) none Set.univ (S := Finset.univ) (q := fullShare) (f := g) (Finset.subset_univ _)
theorem step8 (g : S4x8x128.Idx → Elt F .i32) (r : Rect S4x8x128) {hl} {α : Type} {Q : α → sProp 𝕄} {K : (r.shape.Idx → Elt F .i32) → Prog (TpuEff nD τ sig (Elt F) Λ₀ .tc) α} :
    whole8 c g ⊢ iprop((whole8 c g
          -∗ wp frame (wpE (defs₀ (F := F)) 𝒱₀ (c : Thread nD τ) none) Set.univ (K ((A8.access r).read (Elt F) g)) Q)
        -∗ wp frame (wpE (defs₀ (F := F)) 𝒱₀ (c : Thread nD τ) none) Set.univ (.op (.load A8 r.toLoadRect hl) K) Q) :=
  wp_load_rect (m := A8) (r := r) 𝒱₀ (c : Thread nD τ) none Set.univ (S := Finset.univ) (q := fullShare) (f := g) (Finset.subset_univ _)

/-- The device's place, as the program computes it. -/
abbrev pl (c : Dev nD) : BitVec 32 := Scalar.remsi (Scalar.divsi (Dev.word c) 1#32) 4#32

/-- The first copy's condition, as the program computes it. -/
abbrev cnd1 (c : Dev nD) : BitVec 1 :=
  let v170 := Scalar.subi (pl c) 0#32
  let v172 : BitVec 32 := Scalar.select (Scalar.cmpi .eq 4#32 0#32) 1#32 4#32
  let v173 : BitVec 32 := Scalar.remsi v170 v172
  let v180 : BitVec 32 := Scalar.select (Scalar.andi (Scalar.xori (Scalar.cmpi .slt v173 0#32) (Scalar.cmpi .slt v172 0#32)) (Scalar.cmpi .ne v173 0#32)) (Scalar.addi v173 v172) v173
  Scalar.cmpi .ne (Scalar.extui (Scalar.cmpi .eq v180 0#32)) 0#32
theorem cond1 : ∀ c : Dev nD, cnd1 c = 1#1 ↔ c = 0 := by decide

include hI in
/-- Part 7: the rows from device 0. -/
theorem run7 (g : S4x8x128.Idx → Elt F .i32) (hg : CntOK I c g) : iprop(cPts I c ∗ whole8 c g ∗ stock I c ∗ outRes I c (0 : Dev nD).val)
    ⊢ run (F := F) c (p7 c (pl c) (Scalar.subi (pl c) 0#32) 4#32 (Scalar.cmpi .eq 4#32 0#32) 1#32) fun r =>
      iprop(⌜pick 0 c r.1 r.2.1 = cnW I c 0 ∧ ∀ b, pick 1 c r.2.2.2.2.2.2 b = pick 1 c ((A2.access (Rect.unit (s := S4) ![1] S1.size inb_S4_S1_1)).read (Elt F) (I.C2 c) (Shape.Idx.first (numel1_S1.symm ▸ Nat.one_pos))) b⌝
        ∗ cPts I c ∗ whole8 c g ∗ stock I c ∗ outRes I c ((0 : Dev nD).val + 1)) := by
  unfold run p7
  rw [k0_part7_eq_skeleton]
  unfold k0_part7_skel
  simp only [smemLoad, smemLoadElt, Prog.lift, Prog.bind_op, Prog.bind_ret, Prog.pure_eq_ret, Prog.bind_assoc]
  iintro ⟨H2, H8, HS, HO⟩
  iapply (step2' c (I.C2 c) (Rect.unit (s := S4) ![0] S1.size inb_S4_S1_0)) $$ [H2]
  · iexact H2
  iintro H2
  iapply (step8 c g (Rect.unit (s := S4x8x128) (k0_off5 c 0#32) S1x1x1.size (k0_off5_inb c 0))) $$ [H8]
  · iexact H8
  iintro H8
  have hp := pick_read I hI c 0 g hg (off := ![0]) rfl (inb := inb_S4_S1_0) (off5_0 c) (inb' := k0_off5_inb c 0)
    (h := numel1_S1.symm ▸ Nat.one_pos) (h' := numel1_S1x1x1.symm ▸ Nat.one_pos)
  iapply (wp_assume 𝒱₀ (c : Thread nD τ) none Set.univ (chk2 I hI c hp))
  by_cases h : c = 0
  · rw [dif_pos (show cnd1 c = 1#1 from (cond1 c).mpr h), dif_neg (fun e => (cond2 c).mp e h)]
    simp only [smemLoad, smemLoadElt, Prog.lift, Prog.bind_op, Prog.bind_ret, Prog.pure_eq_ret, Prog.bind_assoc]
    iapply (step_own I hI c 0 h rfl rfl) $$ [HS HO]
    · isplitl [HS]; · iexact HS
      iexact HO
    iintro ⟨HS, HO⟩
    iapply (step2' c (I.C2 c) (Rect.unit (s := S4) ![1] S1.size inb_S4_S1_1)) $$ [H2]
    · iexact H2
    iintro H2
    rw [wp_ret]
    imodintro
    isplitr; · ipureintro; exact ⟨hp, fun _ => rfl⟩
    isplitl [H2]; · iexact H2
    isplitl [H8]; · iexact H8
    isplitl [HS]; · iexact HS
    iexact HO
  · rw [dif_neg (show ¬ cnd1 c = 1#1 from fun e => h ((cond1 c).mp e)), dif_pos ((cond2 c).mpr h)]
    simp only [smemLoad, smemLoadElt, Prog.lift, Prog.bind_op, Prog.bind_ret, Prog.pure_eq_ret, Prog.bind_assoc]
    iapply (step_got I hI c 0 h (off6 c h) rfl) $$ [HS HO]
    · isplitl [HS]; · iexact HS
      iexact HO
    iintro ⟨HS, HO⟩
    iapply (step2' c (I.C2 c) (Rect.unit (s := S4) ![1] S1.size inb_S4_S1_1)) $$ [H2]
    · iexact H2
    iintro H2
    rw [wp_ret]
    imodintro
    isplitr; · ipureintro; exact ⟨hp, fun _ => rfl⟩
    isplitl [H2]; · iexact H2
    isplitl [H8]; · iexact H8
    isplitl [HS]; · iexact HS
    iexact HO

include hI in
/-- Part 8: the rows from devices 1 and 2. -/
theorem run8 (v2 : BitVec 32) (g : S4x8x128.Idx → Elt F .i32) (hg : CntOK I c g) (v182 v185 : BitVec 32) (hw2 : k0_chk2 c v182 v185) (v193 v204 : BitVec 32) (v205 : BitVec 1) (v206 : BitVec 32)
    (h0 : pick 0 c v182 v185 = cnW I c 0)
    (h1 : ∀ b, pick 1 c v206 b = pick 1 c ((A2.access (Rect.unit (s := S4) ![1] S1.size inb_S4_S1_1)).read (Elt F) (I.C2 c) (Shape.Idx.first (numel1_S1.symm ▸ Nat.one_pos))) b) :
    iprop(cPts I c ∗ whole8 c g ∗ stock I c ∗ outRes I c (1 : Dev nD).val)
    ⊢ run (F := F) c (p8 c v2 v182 v185 hw2 v193 v204 v205 v206) fun r =>
      iprop(⌜pick 1 c v206 r.1 = cnW I c 1 ∧ pick 2 c r.2.1 r.2.2.1 = cnW I c 2⌝
        ∗ cPts I c ∗ whole8 c g ∗ stock I c ∗ outRes I c ((2 : Dev nD).val + 1)) := by
  unfold run p8
  rw [k0_part8_eq_skeleton]
  unfold k0_part8_skel
  simp only [smemLoad, smemLoadElt, Prog.lift, Prog.bind_op, Prog.bind_ret, Prog.pure_eq_ret, Prog.bind_assoc]
  iintro ⟨H2, H8, HS, HO⟩
  iapply (step8 c g (Rect.unit (s := S4x8x128) (k0_off5 c 1#32) S1x1x1.size (k0_off5_inb c 1))) $$ [H8]
  · iexact H8
  iintro H8
  have hp1 := (h1 _).trans (pick_read I hI c 1 g hg (off := ![1]) rfl (inb := inb_S4_S1_1) (off5_1 c) (inb' := k0_off5_inb c 1)
    (h := numel1_S1.symm ▸ Nat.one_pos) (h' := numel1_S1x1x1.symm ▸ Nat.one_pos))
  iapply (wp_assume 𝒱₀ (c : Thread nD τ) none Set.univ (chk3 I hI c h0 hp1))
  have hp2 := pick_read I hI c 2 g hg (off := ![2]) rfl (inb := inb_S4_S1_2) (off10 c) (inb' := k0_off10_inb c)
    (h := numel1_S1.symm ▸ Nat.one_pos) (h' := numel1_S1x1x1.symm ▸ Nat.one_pos)
  rcases Decidable.em (c = 1) with h | h
  on_goal 1 =>
    rw [dif_pos ((cond3 c).mpr h), dif_neg (fun e => (cond4 c).mp e h)]
    simp only [smemLoad, smemLoadElt, Prog.lift, Prog.bind_op, Prog.bind_ret, Prog.pure_eq_ret, Prog.bind_assoc]
    iapply (step_own I hI c 1 h rfl (off7_eq I hI c h0)) $$ [HS HO]
    · isplitl [HS]; · iexact HS
      iexact HO
  on_goal 2 =>
    rw [dif_neg (fun e => h ((cond3 c).mp e)), dif_pos ((cond4 c).mpr h)]
    simp only [smemLoad, smemLoadElt, Prog.lift, Prog.bind_op, Prog.bind_ret, Prog.pure_eq_ret, Prog.bind_assoc]
    iapply (step_got I hI c 1 h (off9 c h) (off8_eq I hI c h0)) $$ [HS HO]
    · isplitl [HS]; · iexact HS
      iexact HO
  all_goals
    iintro ⟨HS, HO⟩
    iapply (step2' c (I.C2 c) (Rect.unit (s := S4) ![2] S1.size inb_S4_S1_2)) $$ [H2]
    · iexact H2
    iintro H2
    iapply (step8 c g (Rect.unit (s := S4x8x128) (k0_off10 c) S1x1x1.size (k0_off10_inb c))) $$ [H8]
    · iexact H8
    iintro H8
    iapply (wp_assume 𝒱₀ (c : Thread nD τ) none Set.univ (chk4 I hI c h0 hp1 hp2))
    clear h
    rcases Decidable.em (c = 2) with h | h
    on_goal 1 =>
      rw [dif_pos ((cond5 c).mpr h), dif_neg (fun e => (cond6 c).mp e h)]
      simp only [smemLoad, smemLoadElt, Prog.lift, Prog.bind_op, Prog.bind_ret, Prog.pure_eq_ret, Prog.bind_assoc]
      iapply (step_own I hI c 2 h rfl (off11_eq I hI c h0 hp1)) $$ [HS HO]
      · isplitl [HS]; · iexact HS
        iexact HO
    on_goal 2 =>
      rw [dif_neg (fun e => h ((cond5 c).mp e)), dif_pos ((cond6 c).mpr h)]
      simp only [smemLoad, smemLoadElt, Prog.lift, Prog.bind_op, Prog.bind_ret, Prog.pure_eq_ret, Prog.bind_assoc]
      iapply (step_got I hI c 2 h (off13 c h) (off12_eq I hI c h0 hp1)) $$ [HS HO]
      · isplitl [HS]; · iexact HS
        iexact HO
    all_goals
      iintro ⟨HS, HO⟩
      rw [wp_ret]
      imodintro
      isplitr; · ipureintro; exact ⟨hp1, hp2⟩
      isplitl [H2]; · iexact H2
      isplitl [H8]; · iexact H8
      isplitl [HS]; · iexact HS
      iexact HO

end Cert.KernelIdeal.Hand

end
-- ==== Proof.Tail.lean ====
module

public import proofs.«01_k».proof.Proof.Body

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Inp F) (hI : Good I) (κ : GSem nD τ sig → ℕ) (c : Dev nD)

/-- What the ends of the device's own copies count. -/
theorem credit_src {off : Fin 3 → ℕ} {inb : ∀ a, off a + S1152x8x128.size a ≤ S4608x8x128.size a} :
    (A5.slice (Rect.unit (s := S4608x8x128) off S1152x8x128.size inb) (fun _ => rfl)).view.dmaCredit = crd 0 := by
  rw [show crd 0 = ND from if_pos (Or.inl rfl)]
  unfold ND
  rfl
theorem credit_num : A3.view.dmaCredit = crd 2 := by
  rw [show crd 2 = NC from if_neg (by decide)]

include hI in
/-- Part 9: the rows from device 3, and the first two of this device's own copies' ends. -/
theorem run9 (v2 : BitVec 32) (v182 v185 v206 v209 v230 v233 : BitVec 32) (hw4 : k0_chk4 c v182 v185 v206 v209 v230 v233)
    (h0 : pick 0 c v182 v185 = cnW I c 0) (h1 : pick 1 c v206 v209 = cnW I c 1) (h2 : pick 2 c v230 v233 = cnW I c 2) :
    iprop(recs I κ ∗ stock I c ∗ outRes I c (3 : Dev nD).val ∗ (due 0 0 c ∗ pos 0 0 c 0) ∗ (due 2 0 c ∗ pos 2 0 c 0))
    ⊢ run (F := F) c (p9 c v2 v182 v185 v206 v209 v230 v233 hw4) fun _ =>
      iprop(owesX c 0 ∗ semVal (((c : Thread nD τ), .dma copyS) : GSem nD τ sig) 0 ∗ ownReg I c ∗ bigSep Finset.univ (gotSlot I c)
        ∗ outRes I c ((3 : Dev nD).val + 1) ∗ (pos 0 0 c 1 ∗ pay I 0 0 c) ∗ (pos 2 0 c 1 ∗ pay I 2 0 c)) := by
  unfold run p9
  rw [k0_part9_eq_skeleton]
  unfold k0_part9_skel
  simp only [smemLoad, smemLoadElt, Prog.lift, Prog.bind_op, Prog.bind_ret, Prog.pure_eq_ret, Prog.bind_assoc]
  iintro ⟨#HR, HS, HO, ⟨U0, P0⟩, ⟨U2, P2⟩⟩
  rcases Decidable.em (c = 3) with h | h
  on_goal 1 =>
    rw [dif_pos ((cond7 c).mpr h), dif_neg (fun e => (cond8 c).mp e h)]
    iapply (step_own I hI c 3 h rfl (off14_eq I hI c h0 h1 h2)) $$ [HS HO]
    · isplitl [HS]; · iexact HS
      iexact HO
  on_goal 2 =>
    rw [dif_neg (fun e => h ((cond7 c).mp e)), dif_pos ((cond8 c).mpr h)]
    iapply (step_got I hI c 3 h (off16 c h) (off15_eq I hI c h0 h1 h2)) $$ [HS HO]
    · isplitl [HS]; · iexact HS
      iexact HO
  all_goals
    unfold stock
    iintro ⟨⟨HW, HV, HN, HB⟩, HO⟩
    iapply (wait1 I κ c 0 0 rfl (credit_src (off := k0_off17 c 1#32) (inb := k0_off17_inb c 0))) $$ [HW U0 P0]
    · isplitr; · iexact HR
      isplitl [U0]; · iexact U0
      isplitl [HW]; · iexact HW
      iexact P0
    iintro ⟨HW, P0, Y0⟩
    iapply (wait1 I κ c 2 0 rfl credit_num) $$ [HW U2 P2]
    · isplitr; · iexact HR
      isplitl [U2]; · iexact U2
      isplitl [HW]; · iexact HW
      iexact P2
    iintro ⟨HW, P2, Y2⟩
    rw [wp_ret]
    imodintro
    isplitl [HW]; · iexact HW
    isplitl [HV]; · iexact HV
    isplitl [HN]; · iexact HN
    isplitl [HB]; · iexact HB
    isplitl [HO]; · iexact HO
    isplitl [P0 Y0]
    · isplitl [P0]; · iexact P0
      iexact Y0
    isplitl [P2]; · iexact P2
    iexact Y2

/-! ## The whole body -/

/-- What device `c` brings for distance `k`: its tokens, what it is promised, and its places. -/
def perK (k : Fin 3) (c : Dev nD) : sProp 𝕄 :=
  iprop((dutyTok ER (barCell (fwd k c)) 0 (rev k) ∗ reached ER (barCell (fwd k c)) 0)
    ∗ (reached ER (cell 1 k c) 0 ∗ reached ER (cell 3 k c) 0)
    ∗ datRes k c ∗ (dutyTok ER (cell 2 k c) 0 0 ∗ reached ER (cell 2 k c) 0 ∗ dutyTok ER (cell 3 k (fwd k c)) 0 0)
    ∗ (due 1 k c ∗ due 3 k c) ∗ (pos 0 k c 0 ∗ pos 1 k c 0 ∗ pos 2 k c 0 ∗ pos 3 k c 0))

/-- What is left of it afterwards. -/
def postK (k : Fin 3) (c : Dev nD) : sProp 𝕄 := iprop(pos 0 k c 1 ∗ pos 1 k c 1 ∗ pos 2 k c 1 ∗ pos 3 k c 1)

abbrev nPts : sProp 𝕄 := A3.view.loc (c : Thread nD τ) ↦[A3.view.set]{fullShare} I.C3 c

/-- The scratch buffers at any contents. -/
def scr (c : Dev nD) : sProp 𝕄 := iprop((∃ f, whole5 (F := F) c f) ∗ (∃ f, whole6 (F := F) c f) ∗ (∃ f, whole7 (F := F) c f) ∗ (∃ f, whole8 (F := F) c f))

theorem sig_join (k k' : Fin 3) (h : k' = rev k) : iprop((dutyTok ER (barCell (fwd k c)) 0 (rev k) ∗ reached ER (barCell (fwd k c)) 0) ∗ (∃ f, slotPts (F := F) k' c f) ∗ (∃ f, cntPts (F := F) k'.succ c f)
    ∗ (reached ER (cell 1 k' c) 0 ∗ reached ER (cell 3 k' c) 0)) ⊢ sigRes (F := F) k c := by
  subst h
  unfold sigRes
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

/-- A region of the filled send buffer. -/
theorem reg_join (k : Fin 3) (f : S4608x8x128.Idx → Elt F .f32) (h : FillOK I c 4096 f) : (regPts (fwd k c) c f : sProp 𝕄) ⊢ regRes I k c := by
  unfold regRes
  iintro H
  iexists f
  isplitl [H]; · iexact H
  ipureintro
  exact fill_src _ _ _ h

theorem whole_set5 : A5.view.set = Finset.univ := View.set_whole _

/-- The tail: the other ends of this device's own copies. -/
theorem waits {α : Type} {Q : α → sProp 𝕄} {s1 s2 s3 s4 : DmaSem sig} (hs1 : s1 = sm 0 1) (hs2 : s2 = sm 2 1) (hs3 : s3 = sm 0 2) (hs4 : s4 = sm 2 2)
    {sp sp' sp'' sp''' : Space} {S S' S'' S''' : Shape} {e e' e'' e''' : EltTy}
    {src1 : Memref sig .tc sp S e} {src2 : Memref sig .tc sp' S' e'} {src3 : Memref sig .tc sp'' S'' e''} {src4 : Memref sig .tc sp''' S''' e'''}
    {off off' : Fin 3 → ℕ} {inb : ∀ a, off a + S1152x8x128.size a ≤ S4608x8x128.size a} {inb' : ∀ a, off' a + S1152x8x128.size a ≤ S4608x8x128.size a}
    {h1 h2 h3 h4 h5 h6 h7 h8} {K : PUnit → Prog (TpuEff nD τ sig (Elt F) Λ₀ .tc) α} :
    iprop(recs I κ ∗ owesX c 0 ∗ ((due 0 1 c ∗ pos 0 1 c 0) ∗ (due 2 1 c ∗ pos 2 1 c 0)) ∗ ((due 0 2 c ∗ pos 0 2 c 0) ∗ (due 2 2 c ∗ pos 2 2 c 0)))
      ⊢ iprop(((owesX c 0 ∗ ((pos 0 1 c 1 ∗ pay I 0 1 c) ∗ (pos 2 1 c 1 ∗ pay I 2 1 c)) ∗ ((pos 0 2 c 1 ∗ pay I 0 2 c) ∗ (pos 2 2 c 1 ∗ pay I 2 2 c)))
          -∗ wp frame (wpE (defs₀ (F := F)) 𝒱₀ (c : Thread nD τ) none) Set.univ (K ⟨⟩) Q)
        -∗ wp frame (wpE (defs₀ (F := F)) 𝒱₀ (c : Thread nD τ) none) Set.univ
          (.op (.waitDma2 s1 src1 (A5.slice (Rect.unit (s := S4608x8x128) off S1152x8x128.size inb) (fun _ => rfl)) h1 h2) fun _ =>
            .op (.waitDma2 s2 src2 A3 h3 h4) fun _ =>
            .op (.waitDma2 s3 src3 (A5.slice (Rect.unit (s := S4608x8x128) off' S1152x8x128.size inb') (fun _ => rfl)) h5 h6) fun _ =>
            .op (.waitDma2 s4 src4 A3 h7 h8) K) Q) := by
  iintro ⟨#HR, HW, ⟨⟨U1, P1⟩, ⟨U2, P2⟩⟩, ⟨⟨U3, P3⟩, ⟨U4, P4⟩⟩⟩ Hk
  iapply (wait1 I κ c 0 1 hs1 credit_src) $$ [HW U1 P1]
  · isplitr; · iexact HR
    isplitl [U1]; · iexact U1
    isplitl [HW]; · iexact HW
    iexact P1
  iintro ⟨HW, P1, Y1⟩
  iapply (wait1 I κ c 2 1 hs2 credit_num) $$ [HW U2 P2]
  · isplitr; · iexact HR
    isplitl [U2]; · iexact U2
    isplitl [HW]; · iexact HW
    iexact P2
  iintro ⟨HW, P2, Y2⟩
  iapply (wait1 I κ c 0 2 hs3 credit_src) $$ [HW U3 P3]
  · isplitr; · iexact HR
    isplitl [U3]; · iexact U3
    isplitl [HW]; · iexact HW
    iexact P3
  iintro ⟨HW, P3, Y3⟩
  iapply (wait1 I κ c 2 2 hs4 credit_num) $$ [HW U4 P4]
  · isplitr; · iexact HR
    isplitl [U4]; · iexact U4
    isplitl [HW]; · iexact HW
    iexact P4
  iintro ⟨HW, P4, Y4⟩
  iapply Hk
  isplitl [HW]; · iexact HW
  isplitl [P1 Y1 P2 Y2]
  · isplitl [P1 Y1]
    · isplitl [P1]; · iexact P1
      iexact Y1
    · isplitl [P2]; · iexact P2
      iexact Y2
  · isplitl [P3 Y3]
    · isplitl [P3]; · iexact P3
      iexact Y3
    · isplitl [P4]; · iexact P4
      iexact Y4

/-- Nothing has to have been written before the first device's rows. -/
theorem out_start : iprop(∃ g, (c : Thread nD τ).loc main_v24 ↦{fullShare} g) ⊢ (outRes I c 0 : sProp 𝕄) := by
  unfold outRes
  iintro ⟨%g, H⟩
  iexists g
  isplitl [H]; · iexact H
  ipureintro
  intro s' r j x i h
  exact absurd h (Nat.not_lt_zero _)

/-- The three slots, as one family. -/
theorem got_join : iprop(gotSlot I c 0 ∗ gotSlot I c 1 ∗ gotSlot I c 2) ⊢ (bigSep Finset.univ (gotSlot I c) : sProp 𝕄) := by
  rw [bigSep_univ_eq_bigSepL [0, 1, 2] (by decide) (by decide)]
  exact .rfl
theorem got_split : (bigSep Finset.univ (gotSlot I c) : sProp 𝕄) ⊢ iprop(gotSlot I c 0 ∗ gotSlot I c 1 ∗ gotSlot I c 2) := by
  rw [bigSep_univ_eq_bigSepL [0, 1, 2] (by decide) (by decide)]
  exact .rfl

theorem pay_got (k : Fin 3) : (pay I 1 k c : sProp 𝕄) ⊢ gotSlot I c k := by
  unfold gotSlot
  exact .rfl
theorem pay_own (k : Fin 3) : (pay I 2 k c : sProp 𝕄) ⊢ ownPts k c (I.C3 c) := .rfl
theorem pay_reg (k : Fin 3) : (pay I 0 k c : sProp 𝕄) ⊢ iprop(∃ f, regPts (F := F) (fwd k c) c f) := .rfl
theorem got_any (k : Fin 3) : (gotSlot I c k : sProp 𝕄) ⊢ iprop(∃ f, slotPts (F := F) k c f) := by
  unfold gotSlot
  iintro ⟨%f, H, -⟩
  iexists f; iexact H
theorem own_any : (ownReg I c : sProp 𝕄) ⊢ iprop(∃ f, regPts (F := F) c c f) := by
  unfold ownReg
  iintro ⟨%f, H, -⟩
  iexists f; iexact H

/-- What the pass over the rows left: the send buffer filled, in its four regions. -/
theorem after_fill : loopI I c 4096 ⟨⟩ ⊢ (iprop(xPts I c ∗ pPts I c ∗ ownReg I c ∗ regRes I 0 c ∗ regRes I 1 c ∗ regRes I 2 c) : sProp 𝕄) := by
  unfold loopI
  iintro ⟨HX, HP, %f, H, %hf⟩
  isplitl [HX]; · iexact HX
  isplitl [HP]; · iexact HP
  have e : (sPts c f : sProp 𝕄) = iprop(regPts c c f ∗ regPts (fwd 0 c) c f ∗ regPts (fwd 1 c) c f ∗ regPts (fwd 2 c) c f) := by
    rw [← split5]; unfold sPts whole5; rw [whole_set5]
  icases (show (sPts c f : sProp 𝕄) ⊢ iprop(regPts c c f ∗ regPts (fwd 0 c) c f ∗ regPts (fwd 1 c) c f ∗ regPts (fwd 2 c) c f) from Entails.of_eq e) $$ H with ⟨H, H0, H1, H2⟩
  isplitl [H]
  · unfold ownReg
    iexists f
    isplitl [H]; · iexact H
    ipureintro
    exact fill_src _ _ _ hf
  isplitl [H0]; · iapply (reg_join I c 0 f hf); iexact H0
  isplitl [H1]; · iapply (reg_join I c 1 f hf); iexact H1
  iapply (reg_join I c 2 f hf); iexact H2

/-- The send buffer whole again, at some contents. -/
theorem before_fill : iprop(∃ f, whole5 (F := F) c f) ⊢ (iprop(∃ f, sPts c f) : sProp 𝕄) := by
  iintro ⟨%f, H⟩
  iexists f
  have e : (whole5 c f : sProp 𝕄) = sPts c f := by
    unfold sPts whole5; rw [whole_set5]
  iapply (show (whole5 c f : sProp 𝕄) ⊢ sPts c f from Entails.of_eq e)
  iexact H

end Cert.KernelIdeal.Hand

end
-- ==== Proof.Whole.lean ====
module

public import proofs.«01_k».proof.Proof.Tail

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Inp F) (hI : Good I) (κ : GSem nD τ sig → ℕ) (c : Dev nD)

include hI in
set_option maxHeartbeats 1000000 in
/-- THE BODY at device `c`: from the cells, tokens and promises of the exchange, the staged inputs and the buffers at any
    contents, it ends owing nothing, every place one round on, the inputs as they were, and the output filled. -/
theorem runAll : iprop(recs I κ ∗ levAts L lv ∗ owesX c (O₀ c) ∗ cred (tallyAt (barCell c) () 3) ∗ atPos ER (barCell c) 0 ∅ 0
      ∗ semVal (((c : Thread nD τ), .dma copyS) : GSem nD τ sig) 0
      ∗ (xPts I c ∗ pPts I c ∗ cPts I c ∗ nPts I c) ∗ scr c ∗ (∃ g, (c : Thread nD τ).loc main_v24 ↦{fullShare} g)
      ∗ perK 0 c ∗ perK 1 c ∗ perK 2 c)
    ⊢ run (F := F) c pAll fun _ => iprop(owesX c 0 ∗ atPos ER (barCell c) (0 + 1) ∅ 0
      ∗ semVal (((c : Thread nD τ), .dma copyS) : GSem nD τ sig) 0
      ∗ (xPts I c ∗ pPts I c ∗ cPts I c ∗ nPts I c) ∗ scr c ∗ outRes I c 4
      ∗ postK 0 c ∗ postK 1 c ∗ postK 2 c) := by
  unfold run pAll
  rw [cc0__body_eq_skeleton]
  unfold cc0__body_skel perK scr
  iintro ⟨#HR, #HL, HO, HC, HA, HV, ⟨HX, HP, HK, HN⟩, ⟨H5, ⟨%f6, H6⟩, ⟨%f7, H7⟩, H8⟩, HG,
    ⟨T0, ⟨#V0, #W0⟩, D0, N0, ⟨U0, E0⟩, ⟨P00, P10, P20, P30⟩⟩,
    ⟨T1, ⟨#V1, #W1⟩, D1, N1, ⟨U1, E1⟩, ⟨P01, P11, P21, P31⟩⟩,
    ⟨T2, ⟨#V2, #W2⟩, D2, N2, ⟨U2, E2⟩, ⟨P02, P12, P22, P32⟩⟩⟩
  icases (show whole6 c f6 ⊢ (iprop(slotPts 0 c f6 ∗ slotPts 1 c f6 ∗ slotPts 2 c f6) : sProp 𝕄) from Entails.of_eq (split6 c f6)) $$ H6 with ⟨S0, S1, S2⟩
  icases (show whole7 c f7 ⊢ (iprop(cntPts 0 c f7 ∗ cntPts 1 c f7 ∗ cntPts 2 c f7 ∗ cntPts 3 c f7) : sProp 𝕄) from Entails.of_eq (split7 c f7)) $$ H7 with ⟨C0, C1, C2, C3⟩
  -- the first two signals
  iapply (run_seq c (run1 I κ c)) $$ [HO T0 T1 S2 C3 S1 C2]
  · isplitr; · iexact HR
    isplitl [HO]; · iexact HO
    isplitl [T0 S2 C3]
    · iapply (sig_join (F := F) c 0 2 rfl)
      isplitl [T0]; · iexact T0
      isplitl [S2]; · iexists f6; iexact S2
      isplitl [C3]; · iexists f7; iexact C3
      isplitr; · iexact V2
      iexact W2
    · iapply (sig_join (F := F) c 1 1 rfl)
      isplitl [T1]; · iexact T1
      isplitl [S1]; · iexists f6; iexact S1
      isplitl [C2]; · iexists f7; iexact C2
      isplitr; · iexact V1
      iexact W1
  iintro %r ⟨%hr, HO⟩
  subst hr
  -- the third, the pass over the rows, the wait at the barrier
  iapply (run_seq c (run2.{1} I κ c hI)) $$ [HO T2 S0 C1 HX HP H5 HC HA]
  · isplitr; · iexact HR
    isplitl [HO]; · iexact HO
    isplitl [T2 S0 C1]
    · iapply (sig_join (F := F) c 2 0 rfl)
      isplitl [T2]; · iexact T2
      isplitl [S0]; · iexists f6; iexact S0
      isplitl [C1]; · iexists f7; iexact C1
      isplitr; · iexact V0
      iexact W0
    isplitl [HX]; · iexact HX
    isplitl [HP]; · iexact HP
    isplitl [H5]; · iapply (before_fill (F := F) c); iexact H5
    isplitl [HC]; · iexact HC
    isplitr; · iexact HL
    iexact HA
  iintro %v54 ⟨HO, HF, HA, ⟨S0, C1⟩, ⟨S1, C2⟩, ⟨S2, C3⟩⟩
  icases (after_fill.{1} I c) $$ HF with ⟨HX, HP, HW, R0, R1, R2⟩
  icases (split3 c (I.C3 c)).1 $$ HN with ⟨O0, O1, O2⟩
  -- the copies out
  iapply (run_seq c (run3 I κ c _ _)) $$ [HO N0 O0 C1 R0 D0 S0 N1 O1 C2]
  · isplitr; · iexact HR
    isplitl [HO]; · iexact HO
    isplitl [O0 N0]
    · unfold numRes
      isplitl [O0]; · iexact O0
      iexact N0
    isplitl [C1]; · iexact C1
    isplitl [R0]; · iexact R0
    isplitl [D0]; · iexact D0
    isplitl [S0]; · iexact S0
    isplitl [O1 N1]
    · unfold numRes
      isplitl [O1]; · iexact O1
      iexact N1
    iexact C2
  iintro %v83 ⟨HO, F20, F00, F21⟩
  iapply (run_seq c (run4 I κ c _ _)) $$ [HO R1 D1 S1 N2 O2 C3]
  · isplitr; · iexact HR
    isplitl [HO]; · iexact HO
    isplitl [R1]; · iexact R1
    isplitl [D1]; · iexact D1
    isplitl [S1]; · iexact S1
    isplitl [O2 N2]
    · unfold numRes
      isplitl [O2]; · iexact O2
      iexact N2
    iexact C3
  iintro %r4 ⟨HO, F01, F22⟩
  obtain ⟨v112, c98⟩ := r4
  -- the counts in
  iapply (run_seq c (run5 I κ c _ _ _ _)) $$ [HO R2 D2 S2 E0 E1 E2 P30 P31 P32 C0 H8 HV]
  · isplitr; · iexact HR
    isplitl [HO]; · iexact HO
    isplitl [R2]; · iexact R2
    isplitl [D2]; · iexact D2
    isplitl [S2]; · iexact S2
    isplitl [E0 P30]
    · isplitl [E0]; · iexact E0
      iexact P30
    isplitl [E1 P31]
    · isplitl [E1]; · iexact E1
      iexact P31
    isplitl [E2 P32]
    · isplitl [E2]; · iexact E2
      iexact P32
    isplitl [C0]; · iexists f7; iexact C0
    isplitl [H8]; · iexact H8
    iexact HV
  iintro %r5 ⟨HO, F02, P30, P31, P32, H7, ⟨%g, H8, %hg⟩, HV⟩
  -- the rows in
  iapply (run_seq c (run6 I κ c _ _ _ _)) $$ [HO U0 U1 U2 P10 P11 P12]
  · isplitr; · iexact HR
    isplitl [HO]; · iexact HO
    isplitl [U0 P10]
    · isplitl [U0]; · iexact U0
      iexact P10
    isplitl [U1 P11]
    · isplitl [U1]; · iexact U1
      iexact P11
    isplitl [U2]; · iexact U2
    iexact P12
  iintro %r6 ⟨%hr, HO, ⟨P10, P11, P12⟩, Y0, Y1, Y2⟩
  subst hr
  -- the copies to the output
  iapply (run_seq c (run7 I hI c g hg)) $$ [HK H8 HO HV HW Y0 Y1 Y2 HG]
  · isplitl [HK]; · iexact HK
    isplitl [H8]; · iexact H8
    isplitl [HO HV HW Y0 Y1 Y2]
    · unfold stock
      isplitl [HO]; · iexact HO
      isplitl [HV]; · iexact HV
      isplitl [HW]; · iexact HW
      iapply (got_join I c)
      isplitl [Y0]; · iapply (pay_got I c 0); iexact Y0
      isplitl [Y1]; · iapply (pay_got I c 1); iexact Y1
      iapply (pay_got I c 2); iexact Y2
    · iapply (out_start I c); iexact HG
  iintro %r7 ⟨%h7, HK, H8, HS, HG⟩
  obtain ⟨v182, v185, hw2, v193, v204, v205, v206⟩ := r7
  iapply (run_seq c (run8 I hI c _ g hg v182 v185 hw2 v193 v204 v205 v206 h7.1 h7.2)) $$ [HK H8 HS HG]
  · isplitl [HK]; · iexact HK
    isplitl [H8]; · iexact H8
    isplitl [HS]; · iexact HS
    iexact HG
  iintro %r8 ⟨%h8, HK, H8, HS, HG⟩
  obtain ⟨v209, v230, v233, hw4⟩ := r8
  iapply (run_seq c (run9 I hI κ c _ v182 v185 v206 v209 v230 v233 hw4 h7.1 h8.1 h8.2)) $$ [HS HG F00 P00 F20 P20]
  · isplitr; · iexact HR
    isplitl [HS]; · iexact HS
    isplitl [HG]; · iexact HG
    isplitl [F00 P00]
    · isplitl [F00]; · iexact F00
      iexact P00
    · isplitl [F20]; · iexact F20
      iexact P20
  iintro %r9 ⟨HO, HV, HW, HB, HG, ⟨P00, Y00⟩, ⟨P20, Y20⟩⟩
  icases (got_split I c) $$ HB with ⟨B0, B1, B2⟩
  simp only [Prog.lift, Prog.bind_op, Prog.bind_ret, Prog.pure_eq_ret, Prog.bind_assoc]
  iapply (waits I κ c rfl rfl rfl rfl) $$ [HO F01 P01 F21 P21 F02 P02 F22 P22]
  · isplitr; · iexact HR
    isplitl [HO]; · iexact HO
    isplitl [F01 P01 F21 P21]
    · isplitl [F01 P01]
      · isplitl [F01]; · iexact F01
        iexact P01
      · isplitl [F21]; · iexact F21
        iexact P21
    · isplitl [F02 P02]
      · isplitl [F02]; · iexact F02
        iexact P02
      · isplitl [F22]; · iexact F22
        iexact P22
  iintro ⟨HO, ⟨⟨P01, Y01⟩, ⟨P21, Y21⟩⟩, ⟨⟨P02, Y02⟩, ⟨P22, Y22⟩⟩⟩
  rw [wp_ret]
  imodintro
  isplitl [HO]; · iexact HO
  isplitl [HA]; · iexact HA
  isplitl [HV]; · iexact HV
  isplitl [HX HP HK Y20 Y21 Y22]
  · isplitl [HX]; · iexact HX
    isplitl [HP]; · iexact HP
    isplitl [HK]; · iexact HK
    iapply (split3 c (I.C3 c)).2
    isplitl [Y20]; · iapply (pay_own I c 0); iexact Y20
    isplitl [Y21]; · iapply (pay_own I c 1); iexact Y21
    iapply (pay_own I c 2); iexact Y22
  isplitl [HW Y00 Y01 Y02 B0 B1 B2 H7 H8]
  · isplitl [HW Y00 Y01 Y02]
    · iapply (join5 (F := F) c)
      isplitl [HW]; · iapply (own_any I c); iexact HW
      isplitl [Y00]; · iapply (pay_reg I c 0); iexact Y00
      isplitl [Y01]; · iapply (pay_reg I c 1); iexact Y01
      iapply (pay_reg I c 2); iexact Y02
    isplitl [B0 B1 B2]
    · iapply (join6 (F := F) c)
      isplitl [B0]; · iapply (got_any I c 0); iexact B0
      isplitl [B1]; · iapply (got_any I c 1); iexact B1
      iapply (got_any I c 2); iexact B2
    isplitl [H7]; · iexact H7
    iexists g; iexact H8
  isplitl [HG]; · iexact HG
  unfold postK
  isplitl [P00 P10 P20 P30]
  · isplitl [P00]; · iexact P00
    isplitl [P10]; · iexact P10
    isplitl [P20]; · iexact P20
    iexact P30
  isplitl [P01 P11 P21 P31]
  · isplitl [P01]; · iexact P01
    isplitl [P11]; · iexact P11
    isplitl [P21]; · iexact P21
    iexact P31
  isplitl [P02]; · iexact P02
  isplitl [P12]; · iexact P12
  isplitl [P22]; · iexact P22
  iexact P32

end Cert.KernelIdeal.Hand

end
-- ==== Proof.Region.lean ====
module

public import proofs.«01_k».proof.Proof.Whole
public import proofs.«01_k».proof.Proof.Gen.KernelIdeal.Frame
public import Idealize.ShloMosaic.Lib.Pipeline.RegionsOwned
public import Idealize.ShloMosaic.Lib.Pipeline.RegionTalk

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## The exchange's semaphores on one device -/

/-- The device's own semaphores: the local copies', and the twelve of the exchange, distance by distance. -/
abbrev osem : Fin 13 → SemLoc sig
  | 0 => .dma copyS
  | 1 => .dma (sm 0 0) | 2 => .dma (sm 1 0) | 3 => .dma (sm 2 0) | 4 => .dma (sm 3 0)
  | 5 => .dma (sm 0 1) | 6 => .dma (sm 1 1) | 7 => .dma (sm 2 1) | 8 => .dma (sm 3 1)
  | 9 => .dma (sm 0 2) | 10 => .dma (sm 1 2) | 11 => .dma (sm 2 2) | 12 => .dma (sm 3 2)

/-- The four counters of one distance, at zero. -/
def semK (k : Fin 3) (c : Dev nD) : sProp 𝕄 :=
  iprop(semVal (cell 0 k c) 0 ∗ semVal (cell 1 k c) 0 ∗ semVal (cell 2 k c) 0 ∗ semVal (cell 3 k c) 0)

theorem own_list (c : Dev nD) : (Pipeline.ownSems0 (Ix := Unit) (Name := ℕ) (U := UU) (Lvl := ℕ) (Val := Elt F) (τ := τ) osem c : sProp 𝕄)
    = bigSepL [0, 1, 2, 3, 4, 5, 6, 7, 8, 9, 10, 11, 12] fun k => semVal ((c.tc : Thread nD τ), osem k) 0 :=
  Pipeline.ownSems0_eq_of_list c osem [0, 1, 2, 3, 4, 5, 6, 7, 8, 9, 10, 11, 12] (by decide) (by decide)

/-- The own counters, sorted by distance. -/
theorem own_out (c : Dev nD) : (Pipeline.ownSems0 (Ix := Unit) (Name := ℕ) (U := UU) (Lvl := ℕ) (Val := Elt F) (τ := τ) osem c : sProp 𝕄)
    ⊢ iprop(semVal (((c : Thread nD τ), .dma copyS) : GSem nD τ sig) 0 ∗ semK 0 c ∗ semK 1 c ∗ semK 2 c) := by
  rw [own_list]
  unfold semK
  show (iprop(semVal (((c : Thread nD τ), .dma copyS) : GSem nD τ sig) 0
    ∗ semVal (cell 0 0 c) 0 ∗ semVal (cell 1 0 c) 0 ∗ semVal (cell 2 0 c) 0 ∗ semVal (cell 3 0 c) 0
    ∗ semVal (cell 0 1 c) 0 ∗ semVal (cell 1 1 c) 0 ∗ semVal (cell 2 1 c) 0 ∗ semVal (cell 3 1 c) 0
    ∗ semVal (cell 0 2 c) 0 ∗ semVal (cell 1 2 c) 0 ∗ semVal (cell 2 2 c) 0 ∗ semVal (cell 3 2 c) 0) : sProp 𝕄) ⊢ _
  iintro ⟨H0, A0, A1, A2, A3, B0, B1, B2, B3, C0, C1, C2, C3⟩
  isplitl [H0]; · iexact H0
  isplitl [A0 A1 A2 A3]
  · isplitl [A0]; · iexact A0
    isplitl [A1]; · iexact A1
    isplitl [A2] <;> iassumption
  isplitl [B0 B1 B2 B3]
  · isplitl [B0]; · iexact B0
    isplitl [B1]; · iexact B1
    isplitl [B2] <;> iassumption
  isplitl [C0]; · iexact C0
  isplitl [C1]; · iexact C1
  isplitl [C2] <;> iassumption

/-- And back. -/
theorem own_in (c : Dev nD) : iprop(semVal (((c : Thread nD τ), .dma copyS) : GSem nD τ sig) 0 ∗ semK 0 c ∗ semK 1 c ∗ semK 2 c)
    ⊢ (Pipeline.ownSems0 (Ix := Unit) (Name := ℕ) (U := UU) (Lvl := ℕ) (Val := Elt F) (τ := τ) osem c : sProp 𝕄) := by
  rw [own_list]
  unfold semK
  show _ ⊢ (iprop(semVal (((c : Thread nD τ), .dma copyS) : GSem nD τ sig) 0
    ∗ semVal (cell 0 0 c) 0 ∗ semVal (cell 1 0 c) 0 ∗ semVal (cell 2 0 c) 0 ∗ semVal (cell 3 0 c) 0
    ∗ semVal (cell 0 1 c) 0 ∗ semVal (cell 1 1 c) 0 ∗ semVal (cell 2 1 c) 0 ∗ semVal (cell 3 1 c) 0
    ∗ semVal (cell 0 2 c) 0 ∗ semVal (cell 1 2 c) 0 ∗ semVal (cell 2 2 c) 0 ∗ semVal (cell 3 2 c) 0) : sProp 𝕄)
  iintro ⟨H0, ⟨A0, A1, A2, A3⟩, ⟨B0, B1, B2, B3⟩, C0, C1, C2, C3⟩
  isplitl [H0]; · iexact H0
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2] <;> iassumption

/-! ## Opening and closing the exchange's cells -/

/-- What launch gives a device for one distance, before its own cells are open. -/
def shutK (k : Fin 3) (c : Dev nD) : sProp 𝕄 :=
  iprop((dutyTok ER (barCell (fwd k c)) 0 (rev k) ∗ reached ER (barCell (fwd k c)) 0)
    ∗ (dutyTok ER (cell 0 k c) 0 0 ∗ dutyTok ER (cell 1 k (fwd k c)) 0 0)
    ∗ (dutyTok ER (cell 2 k c) 0 0 ∗ dutyTok ER (cell 3 k (fwd k c)) 0 0)
    ∗ (due 1 k c ∗ due 3 k c)
    ∗ (openTok ER (cell 0 k c) ∗ openTok ER (cell 1 k c) ∗ openTok ER (cell 2 k c) ∗ openTok ER (cell 3 k c)))

variable (I : Inp F) (κ : GSem nD τ sig → ℕ) (c : Dev nD)

/-- One cell of the exchange opened. -/
theorem open1 (a : Fin 4) (k : Fin 3) :
    recs I κ ⊢ iprop((openTok ER (cell a k c) ∗ semVal (cell a k c) 0) -∗ |={Set.univ}=> (atPos ER (cell a k c) 0 ∅ 0 ∗ reached ER (cell a k c) 0) : sProp 𝕄) := by
  iintro #HR ⟨Ho, Hv⟩
  iapply (Rounds.cell_open ER (sch I) (g := cell a k c) (Set.mem_univ (κ (cell a k c))))
  isplitr; · iapply (recs_cell I κ a k c); iexact HR
  isplitl [Ho] <;> iassumption

/-- All four cells of one distance opened. -/
theorem openK (k : Fin 3) : iprop(recs I κ ∗ shutK k c ∗ semK k c) ⊢ (|={Set.univ}=> perK (F := F) k c : sProp 𝕄) := by
  unfold shutK semK perK pos
  iintro ⟨#HR, ⟨HB, ⟨D0, D1⟩, ⟨D2, D3⟩, HC, ⟨O0, O1, O2, O3⟩⟩, ⟨V0, V1, V2, V3⟩⟩
  imod (open1 I κ c 0 k) $$ HR [O0 V0] with ⟨P0, #R0⟩
  · isplitl [O0] <;> iassumption
  imod (open1 I κ c 1 k) $$ HR [O1 V1] with ⟨P1, #R1⟩
  · isplitl [O1] <;> iassumption
  imod (open1 I κ c 2 k) $$ HR [O2 V2] with ⟨P2, #R2⟩
  · isplitl [O2] <;> iassumption
  imod (open1 I κ c 3 k) $$ HR [O3 V3] with ⟨P3, #R3⟩
  · isplitl [O3] <;> iassumption
  imodintro
  isplitl [HB]; · iexact HB
  isplitr
  · isplitr; · iexact R1
    iexact R3
  isplitl [D0 D1]
  · unfold datRes
    isplitl [D0]; · iexact D0
    isplitr; · iexact R0
    iexact D1
  isplitl [D2 D3]
  · isplitl [D2]; · iexact D2
    isplitr; · iexact R2
    iexact D3
  isplitl [HC]; · iexact HC
  isplitl [P0]; · iexact P0
  isplitl [P1]; · iexact P1
  isplitl [P2] <;> iassumption

/-- One cell closed. -/
theorem close1 (a : Fin 4) (k : Fin 3) :
    recs I κ ⊢ iprop(pos a k c 1 -∗ |={Set.univ}=> semVal (cell a k c) 0 : sProp 𝕄) := by
  unfold pos
  iintro #HR HP
  iapply (Rounds.cell_close ER (sch I) (g := cell a k c) (Set.mem_univ (κ (cell a k c))) id (duties_later I _))
  isplitr; · iapply (recs_cell I κ a k c); iexact HR
  iexact HP

/-- All four cells of one distance closed. -/
theorem closeK (k : Fin 3) : iprop(recs I κ ∗ postK k c) ⊢ (|={Set.univ}=> semK k c : sProp 𝕄) := by
  unfold semK postK
  iintro ⟨#HR, P0, P1, P2, P3⟩
  imod (close1 I κ c 0 k) $$ HR P0 with V0
  imod (close1 I κ c 1 k) $$ HR P1 with V1
  imod (close1 I κ c 2 k) $$ HR P2 with V2
  imod (close1 I κ c 3 k) $$ HR P3 with V3
  imodintro
  isplitl [V0]; · iexact V0
  isplitl [V1]; · iexact V1
  isplitl [V2] <;> iassumption

/-- The barrier cell closed. -/
theorem closeBar : iprop(recs I κ ∗ atPos ER (barCell c) (0 + 1) ∅ 0) ⊢ (|={Set.univ}=> semVal (barCell c) 0 : sProp 𝕄) := by
  iintro ⟨#HR, HP⟩
  iapply (Rounds.cell_close ER (sch I) (g := barCell c) (Set.mem_univ (κ (barCell c))) id (duties_later I _))
  isplitr; · iapply (recs_bar I κ c); iexact HR
  iexact HP

end Cert.KernelIdeal.Hand

end
-- ==== Proof.Entry.lean ====
module

public import proofs.«01_k».proof.Proof.Region

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- The kernel's four operands on every device, as the host's lines before it leave them. -/
def inp : Inp F where
  X c := V m c main_v23
  P c := V m c main_v17
  C2 c := V m c main_v14
  C3 c := V m c main_v22

/-- Each operand's one block is its whole array. -/
theorem blk0 (c : Dev nD) : iblk m c 0 t0_0 = V m c main_v23 := by
  show (win0_0.blk t0_0).view.read (Elt F) (V m c main_v23) = _
  exact Memref.read_access_unit_zero (Elt F) main_v23
    (show (fun a => (win0_0.index t0_0) a * main_v23.ty.shape.size a) = fun _ => 0 from funext fun a => by fin_cases a <;> decide)
    (fun a => by fin_cases a <;> decide) _
theorem blk1 (c : Dev nD) : iblk m c 1 t0_0 = V m c main_v17 := by
  show (win0_1.blk t0_0).view.read (Elt F) (V m c main_v17) = _
  exact Memref.read_access_unit_zero (Elt F) main_v17
    (show (fun a => (win0_1.index t0_0) a * main_v17.ty.shape.size a) = fun _ => 0 from funext fun a => by fin_cases a <;> decide)
    (fun a => by fin_cases a <;> decide) _
theorem blk2 (c : Dev nD) : iblk m c 2 t0_0 = V m c main_v14 := by
  show (win0_2.blk t0_0).view.read (Elt F) (V m c main_v14) = _
  exact Memref.read_access_unit_zero (Elt F) main_v14
    (show (fun a => (win0_2.index t0_0) a * main_v14.ty.shape.size a) = fun _ => 0 from funext fun a => by fin_cases a <;> decide)
    (fun a => by fin_cases a <;> decide) _
theorem blk3 (c : Dev nD) : iblk m c 3 t0_0 = V m c main_v22 := by
  show (win0_3.blk t0_0).view.read (Elt F) (V m c main_v22) = _
  exact Memref.read_access_unit_zero (Elt F) main_v22
    (show (fun a => (win0_3.index t0_0) a * main_v22.ty.shape.size a) = fun _ => 0 from funext fun a => by fin_cases a <;> decide)
    (fun a => by fin_cases a <;> decide) _

/-! ## The region's proof data -/

/-- Held on entry to the kernel beside its operands. -/
def phi0 (c : Dev nD) : sProp 𝕄 :=
  iprop((∃ κ, recs (inp m) κ ∗ perK 0 c ∗ perK 1 c ∗ perK 2 c) ∗ (atPos ER (barCell c) 0 ∅ 0 ∗ cred (tallyAt (barCell c) () 3) ∗ levAts L lv)
    ∗ semVal (((c : Thread nD τ), .dma copyS) : GSem nD τ sig) 0 ∗ scr c ∗ (∃ g, (c : Thread nD τ).loc main_v24 ↦{fullShare} g) ∗ ∃ r, prngReg c r)
/-- Held on exit. -/
def phi1 (c : Dev nD) : sProp 𝕄 :=
  iprop(semVal (barCell c) 0 ∗ (semVal (((c : Thread nD τ), .dma copyS) : GSem nD τ sig) 0 ∗ semK 0 c ∗ semK 1 c ∗ semK 2 c)
    ∗ scr c ∗ outRes (inp m) c 4 ∗ ∃ r, prngReg c r)

/-- The kernel's windows: their arrays as the host left them, their blocks left in place. -/
def dat0 (c : Dev nD) : Dat τ (Elt F) Unit ℕ UU ℕ cfg0 c where
  A w := V m c (Pipeline.arrRef spec0 w)
  after := fun
    | 0, t => iblk m c 0 t
    | 1, t => iblk m c 1 t
    | 2, t => iblk m c 2 t
    | 3, t => iblk m c 3 t
    | ⟨_ + 4, h⟩, _ => absurd h (Nat.not_lt.2 (Nat.le_add_left _ _))
  Φ t := if t.val = 0 then phi0 m c else phi1 m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat0 m c

/-- Operand 0 is found in its staging buffer whole, whatever the data keeps otherwise. -/
theorem found0 {c : Dev nD} (dat : Dat τ (Elt F) Unit ℕ UU ℕ cfg0 c) (hA : dat.A 0 = V m c (Pipeline.arrRef spec0 0))
    (hk : ∀ t, dat.after 0 t = iblk m c 0 t) (t : Fin cfg0.N) (d) : dat.before 0 t d = iblk m c 0 t := by
  have e := dat.before_in_eq_fetched 0 rfl (fun _ => rfl) (fun _ _ _ => rfl)
    (fun t => by rw [hk]; unfold Dat.blockOf iblk; rw [hA]; try rfl) t d
  exact e.trans (by unfold Dat.fetched Dat.blockOf iblk; rw [hA]; try rfl)
/-- Operand 1 is found in its staging buffer whole, whatever the data keeps otherwise. -/
theorem found1 {c : Dev nD} (dat : Dat τ (Elt F) Unit ℕ UU ℕ cfg0 c) (hA : dat.A 1 = V m c (Pipeline.arrRef spec0 1))
    (hk : ∀ t, dat.after 1 t = iblk m c 1 t) (t : Fin cfg0.N) (d) : dat.before 1 t d = iblk m c 1 t := by
  have e := dat.before_in_eq_fetched 1 rfl (fun _ => rfl) (fun _ _ _ => rfl)
    (fun t => by rw [hk]; unfold Dat.blockOf iblk; rw [hA]; try rfl) t d
  exact e.trans (by unfold Dat.fetched Dat.blockOf iblk; rw [hA]; try rfl)
/-- Operand 2 is found in its staging buffer whole, whatever the data keeps otherwise. -/
theorem found2 {c : Dev nD} (dat : Dat τ (Elt F) Unit ℕ UU ℕ cfg0 c) (hA : dat.A 2 = V m c (Pipeline.arrRef spec0 2))
    (hk : ∀ t, dat.after 2 t = iblk m c 2 t) (t : Fin cfg0.N) (d) : dat.before 2 t d = iblk m c 2 t := by
  have e := dat.before_in_eq_fetched 2 rfl (fun _ => rfl) (fun _ _ _ => rfl)
    (fun t => by rw [hk]; unfold Dat.blockOf iblk; rw [hA]; try rfl) t d
  exact e.trans (by unfold Dat.fetched Dat.blockOf iblk; rw [hA]; try rfl)
/-- Operand 3 is found in its staging buffer whole, whatever the data keeps otherwise. -/
theorem found3 {c : Dev nD} (dat : Dat τ (Elt F) Unit ℕ UU ℕ cfg0 c) (hA : dat.A 3 = V m c (Pipeline.arrRef spec0 3))
    (hk : ∀ t, dat.after 3 t = iblk m c 3 t) (t : Fin cfg0.N) (d) : dat.before 3 t d = iblk m c 3 t := by
  have e := dat.before_in_eq_fetched 3 rfl (fun _ => rfl) (fun _ _ _ => rfl)
    (fun t => by rw [hk]; unfold Dat.blockOf iblk; rw [hA]; try rfl) t d
  exact e.trans (by unfold Dat.fetched Dat.blockOf iblk; rw [hA]; try rfl)

/-- What is owed at a point of the region. -/
theorem owed_first (c : Dev nD) : (dat0 m c).owed t0_0.castSucc = O₀ c := by
  show (if (t0_0.castSucc : Fin (cfg0.N + 1)).val = 0 then O₀ c else 0) = O₀ c; exact if_pos rfl
theorem last_ne : ¬ (Fin.last cfg0.N).val = 0 := by
  rw [Fin.val_last, show cfg0.N = 1 from N_0]; decide
theorem owed_last (c : Dev nD) : (dat0 m c).owed (Fin.last cfg0.N) = 0 := by
  show (if (Fin.last cfg0.N).val = 0 then O₀ c else 0) = 0
  exact if_neg last_ne
theorem phi_first (c : Dev nD) : (dat0 m c).Φ t0_0.castSucc = phi0 m c := by
  show (if (t0_0.castSucc : Fin (cfg0.N + 1)).val = 0 then phi0 m c else phi1 m c) = _
  exact if_pos rfl
theorem phi_last (c : Dev nD) : (dat0 m c).Φ (Fin.last cfg0.N) = phi1 m c := by
  show (if (Fin.last cfg0.N).val = 0 then phi0 m c else phi1 m c) = _
  exact if_neg last_ne

theorem owesAt_in {c : Dev nD} (dat : Dat τ (Elt F) Unit ℕ UU ℕ cfg0 c) (t : Fin (cfg0.N + 1))
    (O : CellTallies nD τ sig Unit) (h0 : dat.owed t = O) (hr : dat.recorded t = Set.univ) :
    (owesX c O : sProp 𝕄) ⊢ (dat.owesAt () t : sProp 𝕄) := by
  unfold owesX Dat.owesAt Pipeline.owesWithin Dat.bound; rw [h0, hr]
  iintro ⟨%W, HO⟩; iexists W; isplitr; · ipureintro; exact fun _ _ => Or.inl trivial
  iexact HO
theorem owesAt_out {c : Dev nD} (dat : Dat τ (Elt F) Unit ℕ UU ℕ cfg0 c) (t : Fin (cfg0.N + 1))
    (O : CellTallies nD τ sig Unit) (h0 : dat.owed t = O) :
    (dat.owesAt () t : sProp 𝕄) ⊢ owesX c O := by
  unfold owesX Dat.owesAt Pipeline.owesWithin; rw [h0]
  iintro ⟨%W, -, HO⟩; iexists W; iexact HO

/-- The staging buffers, each whole. -/
theorem own0 (c : Dev nD) : (owns (c : Thread nD τ) A0 fullShare (V m c main_v23) : sProp 𝕄) = xPts (inp m) c := by
  unfold xPts; rw [show A0.view.set = Finset.univ from View.set_whole _]; exact owns_whole _ _ _ _
theorem owni0 (c : Dev nD) : (owns (c : Thread nD τ) A0 fullShare (iblk m c 0 t0_0) : sProp 𝕄) = xPts (inp m) c := by
  rw [blk0]; exact own0 m c
theorem own1 (c : Dev nD) : (owns (c : Thread nD τ) A1 fullShare (V m c main_v17) : sProp 𝕄) = pPts (inp m) c := by
  unfold pPts; rw [show A1.view.set = Finset.univ from View.set_whole _]; exact owns_whole _ _ _ _
theorem owni1 (c : Dev nD) : (owns (c : Thread nD τ) A1 fullShare (iblk m c 1 t0_0) : sProp 𝕄) = pPts (inp m) c := by
  rw [blk1]; exact own1 m c
theorem own2 (c : Dev nD) : (owns (c : Thread nD τ) A2 fullShare (V m c main_v14) : sProp 𝕄) = cPts (inp m) c := by
  exact owns_whole _ _ _ _
theorem owni2 (c : Dev nD) : (owns (c : Thread nD τ) A2 fullShare (iblk m c 2 t0_0) : sProp 𝕄) = cPts (inp m) c := by
  rw [blk2]; exact own2 m c
theorem own3 (c : Dev nD) : (owns (c : Thread nD τ) A3 fullShare (V m c main_v22) : sProp 𝕄) = nPts (inp m) c := by
  unfold nPts; rw [show A3.view.set = Finset.univ from View.set_whole _]; exact owns_whole _ _ _ _
theorem owni3 (c : Dev nD) : (owns (c : Thread nD τ) A3 fullShare (iblk m c 3 t0_0) : sProp 𝕄) = nPts (inp m) c := by
  rw [blk3]; exact own3 m c

/-- The kernel on one device, from what it is entered with. -/
theorem runBody (hI : Good (inp m)) (c : Dev nD) :
    iprop(phi0 m c ∗ owesX c (O₀ c) ∗ (xPts (inp m) c ∗ pPts (inp m) c ∗ cPts (inp m) c ∗ nPts (inp m) c))
    ⊢ run (F := F) c pAll fun _ => iprop(phi1 m c ∗ owesX c 0 ∗ (xPts (inp m) c ∗ pPts (inp m) c ∗ cPts (inp m) c ∗ nPts (inp m) c)) := by
  unfold phi0
  iintro ⟨⟨⟨%κ, #HR, H0, H1, H2⟩, ⟨HB, HC, HL⟩, HS, HX, HG, HP⟩, HO, HW⟩
  unfold run
  iapply (wp_fupd)
  iapply (wp_wand_r frame (wpE defs₀ 𝒱₀ (c : Thread nD τ) none) Set.univ)
  isplitl [H0 H1 H2 HB HC HL HS HX HG HO HW]
  · iapply (runAll (inp m) hI κ c)
    isplitr; · iexact HR
    isplitl [HL]; · iexact HL
    isplitl [HO]; · iexact HO
    isplitl [HC]; · iexact HC
    isplitl [HB]; · iexact HB
    isplitl [HS]; · iexact HS
    isplitl [HW]; · iexact HW
    isplitl [HX]; · iexact HX
    isplitl [HG]; · iexact HG
    isplitl [H0]; · iexact H0
    isplitl [H1] <;> iassumption
  iintro %_ ⟨HO, HB, HS, HW, HX, HG, H0, H1, H2⟩
  imod (closeBar (inp m) κ c) $$ [HB] with HB
  · isplitr; · iexact HR
    iexact HB
  imod (closeK (inp m) κ c 0) $$ [H0] with H0
  · isplitr; · iexact HR
    iexact H0
  imod (closeK (inp m) κ c 1) $$ [H1] with H1
  · isplitr; · iexact HR
    iexact H1
  imod (closeK (inp m) κ c 2) $$ [H2] with H2
  · isplitr; · iexact HR
    iexact H2
  imodintro
  unfold phi1
  isplitr [HO HW]
  · isplitl [HB]; · iexact HB
    isplitl [HS H0 H1 H2]
    · isplitl [HS]; · iexact HS
      isplitl [H0]; · iexact H0
      isplitl [H1] <;> iassumption
    isplitl [HX]; · iexact HX
    isplitl [HG] <;> iassumption
  isplitl [HO] <;> iassumption

theorem hA0 (c : Dev nD) (w : Fin cfg0.W) : (dat0 m c).A w = V m c (Pipeline.arrRef spec0 w) := by
  dsimp only [dat0]
theorem keeps0 (c : Dev nD) (t : Fin cfg0.N) : (dat0 m c).after 0 t = iblk m c 0 t := by dsimp only [dat0]
theorem keeps1 (c : Dev nD) (t : Fin cfg0.N) : (dat0 m c).after 1 t = iblk m c 1 t := by dsimp only [dat0]
theorem keeps2 (c : Dev nD) (t : Fin cfg0.N) : (dat0 m c).after 2 t = iblk m c 2 t := by dsimp only [dat0]
theorem keeps3 (c : Dev nD) (t : Fin cfg0.N) : (dat0 m c).after 3 t = iblk m c 3 t := by dsimp only [dat0]

theorem some0 (c : Dev nD) : iprop(∃ d, owns (c : Thread nD τ) A0 fullShare ((dat0 m c).before 0 t0_0 d)) ⊢ (xPts (inp m) c : sProp 𝕄) := by
  refine sProp.exists_elim fun d => ?_
  exact Entails.of_eq ((congrArg (fun v => (owns (c : Thread nD τ) A0 fullShare v : sProp 𝕄))
    (found0 m (dat0 m c) (hA0 m c 0) (keeps0 m c) t0_0 d)).trans (owni0 m c))
theorem some1 (c : Dev nD) : iprop(∃ d, owns (c : Thread nD τ) A1 fullShare ((dat0 m c).before 1 t0_0 d)) ⊢ (pPts (inp m) c : sProp 𝕄) := by
  refine sProp.exists_elim fun d => ?_
  exact Entails.of_eq ((congrArg (fun v => (owns (c : Thread nD τ) A1 fullShare v : sProp 𝕄))
    (found1 m (dat0 m c) (hA0 m c 1) (keeps1 m c) t0_0 d)).trans (owni1 m c))
theorem some2 (c : Dev nD) : iprop(∃ d, owns (c : Thread nD τ) A2 fullShare ((dat0 m c).before 2 t0_0 d)) ⊢ (cPts (inp m) c : sProp 𝕄) := by
  refine sProp.exists_elim fun d => ?_
  have h1 := hA0 m c 2
  have h2 := keeps2 m c
  have e := found2 m (dat0 m c) h1 h2 t0_0 d
  rw [e]
  have e3 := owni2 m c
  rw [e3]
theorem some3 (c : Dev nD) : iprop(∃ d, owns (c : Thread nD τ) A3 fullShare ((dat0 m c).before 3 t0_0 d)) ⊢ (nPts (inp m) c : sProp 𝕄) := by
  refine sProp.exists_elim fun d => ?_
  exact Entails.of_eq ((congrArg (fun v => (owns (c : Thread nD τ) A3 fullShare v : sProp 𝕄))
    (found3 m (dat0 m c) (hA0 m c 3) (keeps3 m c) t0_0 d)).trans (owni3 m c))

/-- The kernel on one device, from its staging buffers at what the pipeline put there. -/
theorem runStaged (hI : Good (inp m)) (c : Dev nD) :
    iprop(phi0 m c ∗ (dat0 m c).owesAt () t0_0.castSucc
      ∗ (∃ d, owns (c : Thread nD τ) A0 fullShare ((dat0 m c).before 0 t0_0 d)) ∗ (∃ d, owns (c : Thread nD τ) A1 fullShare ((dat0 m c).before 1 t0_0 d))
      ∗ (∃ d, owns (c : Thread nD τ) A2 fullShare ((dat0 m c).before 2 t0_0 d)) ∗ (∃ d, owns (c : Thread nD τ) A3 fullShare ((dat0 m c).before 3 t0_0 d)))
    ⊢ run (F := F) c pAll fun _ => iprop(phi1 m c ∗ (dat0 m c).owesAt () t0_0.succ
      ∗ owns (c : Thread nD τ) A0 fullShare ((dat0 m c).after 0 t0_0) ∗ owns (c : Thread nD τ) A1 fullShare ((dat0 m c).after 1 t0_0)
      ∗ owns (c : Thread nD τ) A2 fullShare ((dat0 m c).after 2 t0_0) ∗ owns (c : Thread nD τ) A3 fullShare ((dat0 m c).after 3 t0_0)) := by
  rw [keeps0, keeps1, keeps2, keeps3]
  refine (BI.sep_mono (BI.Entails.refl _) (BI.sep_mono (owesAt_out (dat0 m c) _ (O₀ c) (owed_first m c))
    (BI.sep_mono (some0 m c) (BI.sep_mono (some1 m c) (BI.sep_mono (some2 m c) (some3 m c)))))).trans ((runBody m hI c).trans ?_)
  refine wp_mono frame (wpE defs₀ 𝒱₀ (c : Thread nD τ) none) Set.univ fun _ => ?_
  exact BI.sep_mono (BI.Entails.refl _) (BI.sep_mono (owesAt_in (dat0 m c) t0_0.succ 0 (owed_last m c) rfl)
    (BI.sep_mono (Entails.of_eq (owni0 m c).symm) (BI.sep_mono (Entails.of_eq (owni1 m c).symm)
      (BI.sep_mono (Entails.of_eq (owni2 m c).symm) (Entails.of_eq (owni3 m c).symm)))))

theorem row0 (t : Fin cfg0.N) : defs₀ (F := F) .tc cfg0.body (cfg0.bodyArgs t (cfg0.slots t)) = pAll (F := F) := by
  obtain rfl := fin_N0 t
  rfl

/-- The region's body obligation. -/
theorem body0 (hI : Good (inp m)) (c : Dev nD) : BodyObligation (dat0 m c) defs₀ 𝒱₀ () Set.univ := fun t => by
  obtain rfl := fin_N0 t
  rw [bigSep_W0, bigSep_W0, phi_first m c, show (dat0 m c).Φ t0_0.succ = phi1 m c from phi_last m c, row0]
  exact runStaged m hI c

end Cert.KernelIdeal.Hand

end
-- ==== Proof.Seg.lean ====
module

public import proofs.«01_k».proof.Proof.Entry

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-! ## The region: entered from the host's buffers, left with the kernel's result among them -/

/-- What rides beside the buffers from launch to the region. -/
def ride (c : Dev nD) : sProp 𝕄 :=
  iprop((∃ κ, recs (inp m) κ ∗ shutK 0 c ∗ shutK 1 c ∗ shutK 2 c) ∗ atPos ER (barCell c) 0 ∅ 0 ∗ cred (tallyAt (barCell c) () 3)
    ∗ (∃ r, prngReg c r) ∗ owesX c (O₀ c))

/-- The unscoped buffers that are neither an operand nor the result. -/
abbrev others : Finset (Ref sig .tc) :=
  ((Finset.univ.filter fun b : Ref sig .tc => ¬ b.isScoped) \ Finset.univ.image (Pipeline.arrRef spec0)).erase main_v24

theorem out_mem : main_v24 ∈ (Finset.univ.filter fun b : Ref sig .tc => ¬ b.isScoped) \ Finset.univ.image (Pipeline.arrRef spec0) := by
  decide

/-- The buffers that are no operand: the result, and the others. -/
theorem rest_split (c : Dev nD) (W : (b : Ref sig .tc) → Buf (Elt F) ((c.tc : Thread nD τ).loc b)) :
    (Pipeline.unscopedRest (Ix := Unit) (Name := ℕ) (U := UU) (Lvl := ℕ) spec0 c W : sProp 𝕄)
      = iprop(((c.tc : Thread nD τ).loc main_v24 ↦{fullShare} W main_v24)
        ∗ bigSep others fun b => ((c.tc : Thread nD τ).loc b) ↦{fullShare} W b) := by
  unfold Pipeline.unscopedRest
  exact (bigSep_erase out_mem)

/-- A result the kernel may leave. -/
abbrev Res (c : Dev nD) : Type := {g : Buf (Elt F) ((c.tc : Thread nD τ).loc main_v24) // OutOK (inp m) c 4 g}
/-- The buffers after the region. -/
def V1 (c : Dev nD) (γ : Res m c) : Valuation τ sig (Elt F) := Function.update (V0 m c) (Proc.devRef .tc main_v24) γ.1

theorem V1_out (c : Dev nD) (γ : Res m c) : V1 m c γ (Proc.devRef .tc main_v24) = γ.1 := Function.update_self _ _ _
theorem V1_ne (c : Dev nD) (γ : Res m c) {b : Ref sig .tc} (h : b ≠ main_v24) : V1 m c γ (Proc.devRef .tc b) = V0 m c (Proc.devRef .tc b) :=
  Function.update_of_ne (StableHlo.devRef_ne_of_ne h) _ _

theorem scr_eq (c : Dev nD) : (Pipeline.scopedRest (Ix := Unit) (Name := ℕ) (U := UU) (Lvl := ℕ) (Val := Elt F) spec0 c : sProp 𝕄) = scr c :=
  scopedRest0_eq c

theorem O₀_pos (c : Dev nD) (g : GSem nD τ sig) (u : Unit) (h : 0 < O₀ c g u) : (∃ d, g = barCell d) ∨ ∃ a k d, (a = 1 ∨ a = 3) ∧ g = cell a k d := by
  have hb : ∀ k, 0 < tBar k c g u → ∃ d, g = barCell d := by
    intro k hk
    rw [tallyAt_apply] at hk
    split at hk
    · next hg => exact ⟨_, hg.1⟩
    · exact absurd hk (Nat.lt_irrefl 0)
  have e : O₀ c g u = ((oB c g u + tBar 2 c g u) + tBar 1 c g u) + tBar 0 c g u := rfl
  rw [e] at h
  by_cases h0 : 0 < tBar 0 c g u
  · exact .inl (hb 0 h0)
  by_cases h1 : 0 < tBar 1 c g u
  · exact .inl (hb 1 h1)
  by_cases h2 : 0 < tBar 2 c g u
  · exact .inl (hb 2 h2)
  exact .inr (oB_pos c g u (by omega))

theorem cut (c : Dev nD) (g : GSem nD τ sig) (u : Unit) (h : 0 < O₀ c g u) : u ∈ L g ∧ 0 < lv g u := by
  rcases O₀_pos c g u h with ⟨d, rfl⟩ | ⟨a, k, d, ha, rfl⟩
  · exact ⟨by rw [L_tc]; exact Finset.mem_singleton_self _, by rw [lv_bar]; decide⟩
  · exact ⟨by rw [L_tc]; exact Finset.mem_singleton_self _, by rw [lv_cell, if_pos ha]; decide⟩

theorem owed_pos (c : Dev nD) (t : Fin (cfg0.N + 1)) (g : GSem nD τ sig) (u : Unit) (h : 0 < (dat0 m c).owed t g u) :
    u ∈ L g ∧ 0 < lv g u := by
  have e : (dat0 m c).owed t = if t.val = 0 then O₀ c else 0 := rfl
  rw [e] at h
  split at h
  · exact cut c g u h
  · exact absurd h (Nat.lt_irrefl 0)

theorem stage_lv : ∀ (w : Fin cfg0.W) (s : Fin (spec0 w).nbuf) (c : Dev nD), lv ((c.tc : Thread nD τ), .dma ((spec0 w).sem s)) () = 0 := by
  decide

/-- The thread state the region leaves. -/
def left (c : Dev nD) : sProp 𝕄 :=
  iprop((∃ γ : Res m c, StableHlo.held (c.tc : Thread nD τ) (Pipeline.ucRefs τ sig) (V1 m c γ)) ∗ (semVal (barCell c) 0 ∗ owesX c 0))

/-- What enters the kernel's invariant. -/
def enters (c : Dev nD) : sProp 𝕄 :=
  iprop((∃ κ, recs (inp m) κ ∗ perK 0 c ∗ perK 1 c ∗ perK 2 c) ∗ (atPos ER (barCell c) 0 ∅ 0 ∗ cred (tallyAt (barCell c) () 3) ∗ levAts L lv)
    ∗ semVal (((c : Thread nD τ), .dma copyS) : GSem nD τ sig) 0 ∗ (∃ g, (c : Thread nD τ).loc main_v24 ↦{fullShare} g) ∗ ∃ r, prngReg c r)
/-- What leaves it. -/
def leaves (c : Dev nD) : sProp 𝕄 := iprop(semVal (barCell c) 0 ∗ outRes (inp m) c 4)

/-- The cells opened: what rides, with the own counters at zero, is what enters. -/
theorem ride_open (c : Dev nD) (g : Buf (Elt F) ((c : Thread nD τ).loc main_v24)) :
    iprop(ride m c ∗ ((c : Thread nD τ).loc main_v24 ↦{fullShare} g)
      ∗ Pipeline.ownSems0 (Ix := Unit) (Name := ℕ) (U := UU) (Lvl := ℕ) (Val := Elt F) (τ := τ) osem c ∗ levAts L lv)
    ⊢ (|={Set.univ}=> iprop(enters m c ∗ owesX c (O₀ c)) : sProp 𝕄) := by
  unfold ride enters
  iintro ⟨⟨⟨%κ, #HR, H0, H1, H2⟩, HB, HC, HP, HO⟩, Hg, Hs, HL⟩
  ihave Hs' := (own_out (F := F) c) $$ Hs
  icases Hs' with ⟨HS, S0, S1, S2⟩
  imod (openK (inp m) κ c 0) $$ [H0 S0] with H0
  · isplitr; · iexact HR
    isplitl [H0] <;> iassumption
  imod (openK (inp m) κ c 1) $$ [H1 S1] with H1
  · isplitr; · iexact HR
    isplitl [H1] <;> iassumption
  imod (openK (inp m) κ c 2) $$ [H2 S2] with H2
  · isplitr; · iexact HR
    isplitl [H2] <;> iassumption
  imodintro
  isplitr [HO]
  · isplitl [H0 H1 H2]
    · iexists κ
      isplitr; · iexact HR
      isplitl [H0]; · iexact H0
      isplitl [H1] <;> iassumption
    isplitl [HB HC HL]
    · isplitl [HB]; · iexact HB
      isplitl [HC] <;> iassumption
    isplitl [HS]; · iexact HS
    isplitl [Hg]; · iexists g; iexact Hg
    iexact HP
  iexact HO

theorem enter_phi (c : Dev nD) : iprop(enters m c ∗ scr c) ⊢ phi0 m c := by
  unfold enters phi0
  iintro ⟨⟨HK, HB, HS, Hg, HP⟩, HX⟩
  isplitl [HK]; · iexact HK
  isplitl [HB]; · iexact HB
  isplitl [HS]; · iexact HS
  isplitl [HX]; · iexact HX
  isplitl [Hg] <;> iassumption

theorem phi_leave (c : Dev nD) : phi1 m c ⊢ iprop(leaves m c
    ∗ Pipeline.ownSems0 (Ix := Unit) (Name := ℕ) (U := UU) (Lvl := ℕ) (Val := Elt F) (τ := τ) osem c ∗ scr c) := by
  unfold leaves phi1
  iintro ⟨HB, HS, HX, HG, -⟩
  isplitl [HB HG]
  · isplitl [HB] <;> iassumption
  isplitl [HS]
  · iapply (own_in (F := F) c); iexact HS
  iexact HX

theorem hshare (c : Dev nD) (w : Fin cfg0.W) : (dat0 m c).share w = fullShare := by
  unfold Dat.share; split <;> rfl

theorem kitP : Pipeline.PLaunchFacts (nD := nD) (τ := τ) (pcfgs (F := F)) 0 := launch0.toP
theorem all_in : ∀ w : Fin cfg0.W, (cfg0.win w).isOut = false := by decide
theorem no_out : ∀ w : Fin cfg0.W, Pipeline.arrRef spec0 w ≠ main_v24 := by decide

/-- Entry: the buffers split into the operands, the result and the rest. -/
theorem hentry0 (c : Dev nD) :
    (StableHlo.held (c.tc : Thread nD τ) (Pipeline.ucRefs τ sig) (V0 m c) : sProp 𝕄)
    ⊢ iprop((pdats m 0 c).arrays ((pdats m 0 c).arrAt · 0) ∗ ((c : Thread nD τ).loc main_v24 ↦{fullShare} V m c main_v24)
      ∗ bigSep others fun b => ((c.tc : Thread nD τ).loc b) ↦{fullShare} V m c b) := by
  rw [show StableHlo.held (c.tc : Thread nD τ) (Pipeline.ucRefs τ sig) (V0 m c) = unscopedBufs c (fun b => V m c b)
    from (Pipeline.unscopedBufs_held (Ix := Unit) (Name := ℕ) (U := UU) (Lvl := ℕ) c (V0 m c)).symm]
  refine (Pipeline.arrays_of_unscopedBufs (p := 0) (pcfgs (F := F)) adm (pdats m) (kitP (F := F)).win (kitP (F := F)).arr_whole c (hshare m c)
    (fun b => V m c b) (fun w => hA0 m c w)).trans ?_
  exact BI.sep_mono (BI.Entails.refl _) (Entails.of_eq (rest_split c fun b => V m c b))

/-- Exit: and joined again, the result at what the kernel left. -/
theorem hexit0 (c : Dev nD) (γ : Res m c) :
    iprop((pdats m 0 c).arrays ((pdats m 0 c).arrAt · (cfg0.N)) ∗ ((c : Thread nD τ).loc main_v24 ↦{fullShare} γ.1)
      ∗ bigSep others fun b => ((c.tc : Thread nD τ).loc b) ↦{fullShare} V m c b)
    ⊢ (StableHlo.held (c.tc : Thread nD τ) (Pipeline.ucRefs τ sig) (V1 m c γ) : sProp 𝕄) := by
  rw [show StableHlo.held (c.tc : Thread nD τ) (Pipeline.ucRefs τ sig) (V1 m c γ) = unscopedBufs c (fun b => V1 m c γ (Proc.devRef .tc b))
    from (Pipeline.unscopedBufs_held (Ix := Unit) (Name := ℕ) (U := UU) (Lvl := ℕ) c (V1 m c γ)).symm]
  refine (BI.sep_mono (BI.Entails.refl _) ?_).trans
    (Pipeline.unscopedBufs_of_arrays (p := 0) (pcfgs (F := F)) adm (kitP (F := F)).win (kitP (F := F)).arr_whole c (pdats m) (hshare m c)
      (fun b => V1 m c γ (Proc.devRef .tc b)) (fun b => V1 m c γ (Proc.devRef .tc b)) ((pdats m 0 c).arrAt · (cfg0.N))
      (fun w => ((dat0 m c).arrAt_in w (all_in w) _).trans ((hA0 m c w).trans
        (V1_ne m c γ (no_out w)).symm)) (fun b _ => rfl))
  refine BI.Entails.trans ?_ (Entails.of_eq (rest_split c fun b => V1 m c γ (Proc.devRef .tc b)).symm)
  rw [V1_out]
  refine BI.sep_mono (BI.Entails.refl _) (Entails.of_eq (bigSep_congr fun b hb => ?_))
  rw [V1_ne m c γ (Finset.ne_of_mem_erase hb)]

set_option backward.isDefEq.respectTransparency.types false in
/-- The kernel's region. -/
def reg (hI : Good (inp m)) : Pipeline.RegionSeg (pcfgs (F := F)) adm (pdats m) () defs₀ 𝒱₀ L lv 0 where
  win := winFacts0.to₀
  block_pos := block_pos0
  stage_whole := stage_whole0
  K := Fin 13
  osem := osem
  ho := (by decide : Pipeline.OwnSemFacts spec0 osem)
  hbody c := (body0 m hI c).loose
  hwaits c := Pipeline.cellsWaits_intro (Pipeline.pin (pcfgs (F := F)) adm) (pdats m) () 0 c fun w s t =>
    MayOwe.of_cut (L := L) (lev := lv) 0
      (fun q hq => by rw [Finset.mem_singleton.mp hq, L_tc]; exact Finset.mem_singleton_self _)
      (fun g i hg => (owed_pos m c t g i hg).1)
      (fun q hq => by rw [Finset.mem_singleton.mp hq]; exact le_of_eq (stage_lv w s c))
      (fun g i hg => (owed_pos m c t g i hg).2)
  pre c := iprop(StableHlo.held (c.tc : Thread nD τ) (Pipeline.ucRefs τ sig) (V0 m c) ∗ ride m c)
  post c := left m c
  X c := enters m c
  Y c := leaves m c
  Z c := bigSep others fun b => ((c.tc : Thread nD τ).loc b) ↦{fullShare} V m c b
  hentry c := by
    rw [Pipeline.prefHeld_of_none _ rfl]
    iintro ⟨⟨Hh, Hr⟩, Hs, HL⟩
    ihave H := (hentry0 m c) $$ Hh
    icases H with ⟨Ha, Hg, Hz⟩
    imod (ride_open m c (V m c main_v24)) $$ [Hr Hg Hs HL] with ⟨HX, HO⟩
    · isplitl [Hr]; · iexact Hr
      isplitl [Hg]; · iexact Hg
      isplitl [Hs] <;> iassumption
    imodintro
    isplitl [Ha]; · iexact Ha
    isplitr; · iempintro
    isplitl [HO]; · iapply (owesAt_in (dat0 m c) t0_0.castSucc (O₀ c) (owed_first m c) rfl); iexact HO
    isplitl [HX] <;> iassumption
  hin c := (show _ ⊢ iprop(enters m c ∗ scr c) from by
    iintro ⟨HX, -, Hr⟩
    isplitl [HX]; · iexact HX
    iapply (Entails.of_eq (scr_eq (F := F) c)); iexact Hr).trans ((enter_phi m c).trans (Entails.of_eq (phi_first m c).symm))
  hout c := (Entails.of_eq (phi_last m c)).trans ((phi_leave m c).trans
    (BI.sep_mono (BI.Entails.refl _) (BI.sep_mono (BI.Entails.refl _) (Entails.of_eq (scr_eq (F := F) c).symm))))
  hexit c := by
    unfold leaves outRes left
    iintro ⟨Ha, HO, ⟨HB, ⟨%g, Hg, %hg⟩⟩, Hz⟩
    imodintro
    isplitl [Ha Hg Hz]
    · iexists (⟨g, hg⟩ : Res m c)
      iapply (hexit0 m c ⟨g, hg⟩)
      isplitl [Ha]; · iexact Ha
      isplitl [Hg] <;> iassumption
    isplitl [HB]; · iexact HB
    iapply (owesAt_out (dat0 m c) (Fin.last cfg0.N) 0 (owed_last m c)); iexact HO

end Cert.KernelIdeal.Hand

end
-- ==== Proof.Launch.lean ====
module

public import proofs.«01_k».proof.Proof.Seg
public import Idealize.ShloMosaic.Lib.Pipeline.FrameTail
public import Idealize.ShloMosaic.Lib.Quiescent

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch: the exchange's cells and tokens, made and dealt -/

def barEmb : Dev nD ↪ GSem nD τ sig := ⟨fun c => barCell c, fun _ _ h => congrArg (fun g : GSem nD τ sig => g.1.1) h⟩
theorem cell_inj {a a' : Fin 4} {k k' : Fin 3} {c c' : Dev nD} (h : (cell a k c : GSem nD τ sig) = cell a' k' c') : a = a' ∧ k = k' ∧ c = c' := by
  have h1 : c = c' := congrArg (fun g : GSem nD τ sig => g.1.1) h
  have h2 : sm a k = sm a' k' := SemLoc.dma.inj (congrArg (fun g : GSem nD τ sig => g.2) h)
  exact ⟨(sm_inj a a' k k' h2).1, (sm_inj a a' k k' h2).2, h1⟩
theorem cell_ne_bar (a : Fin 4) (k : Fin 3) (c d : Dev nD) : (cell a k c : GSem nD τ sig) ≠ barCell d :=
  fun h => by
    have h2 : (SemLoc.dma (sm a k) : SemLoc sig) = .reg barS := congrArg (fun g : GSem nD τ sig => g.2) h
    cases h2
def scEmb : Slots ↪ GSem nD τ sig := ⟨fun p => cell p.2.1 p.2.2 p.1, fun p q h => by
  obtain ⟨h1, h2, h3⟩ := cell_inj h
  exact Prod.ext h3 (Prod.ext h1 h2)⟩
abbrev barCells : Finset (GSem nD τ sig) := Finset.univ.map barEmb
abbrev scCells : Finset (GSem nD τ sig) := Finset.univ.map scEmb

def barTok : Dev nD × Fin 3 ↪ GSem nD τ sig × ℕ × Fin 3 := ⟨fun p => (barCell p.1, 0, p.2), fun p q h =>
  Prod.ext (congrArg (fun t : GSem nD τ sig × ℕ × Fin 3 => t.1.1.1) h) (congrArg (fun t : GSem nD τ sig × ℕ × Fin 3 => t.2.2) h)⟩
def scTok : Slots ↪ GSem nD τ sig × ℕ × Fin 3 := ⟨fun p => (scEmb p, 0, 0), fun p q h =>
  scEmb.injective (congrArg (fun t : GSem nD τ sig × ℕ × Fin 3 => t.1) h)⟩
abbrev barToks : Finset (GSem nD τ sig × ℕ × Fin 3) := Finset.univ.map barTok
abbrev scToks : Finset (GSem nD τ sig × ℕ × Fin 3) := Finset.univ.map scTok

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact cell_ne_bar _ _ _ _ h
theorem disjoint_toks : Disjoint (barToks : Finset (GSem nD τ sig × ℕ × Fin 3)) scToks := by
  rw [Finset.disjoint_left]
  rintro g h₁ h₂
  obtain ⟨c, -, rfl⟩ := Finset.mem_map.mp h₁
  obtain ⟨p, -, h⟩ := Finset.mem_map.mp h₂
  exact cell_ne_bar _ _ _ _ (congrArg (fun t : GSem nD τ sig × ℕ × Fin 3 => t.1) h)

/-- The exchange's launch element. -/
def uX : UB := launchOf barCells scCells (barToks ∪ scToks)
def u₀ : UU :=
  (initOf (Pipeline.cells (Pipeline.pin (pcfgs (F := F)) adm) cellOf_inj) (Pipeline.launchToks (Pipeline.pin (pcfgs (F := F)) adm) cellOf_inj),
    (uX, 1))

theorem own_pair (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A resource held on one device only. -/
def at0 (X : sProp 𝕄) (c : Dev nD) : sProp 𝕄 := if c = 0 then X else iprop(emp)
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp

theorem pair_up {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- Going round by a distance permutes the devices. -/
def fwdE (k : Fin 3) : Dev nD ≃ Dev nD := ⟨fwd k, bwd k, bwd_fwd k, fwd_bwd k⟩
theorem round (k : Fin 3) (Φ : Dev nD → sProp 𝕄) : (bigSep Finset.univ fun c => Φ c) ⊢ bigSep Finset.univ fun c => Φ (fwd k c) :=
  Entails.of_eq (bigSep_univ_equiv (fwdE k) Φ)

/-- A resource per cell of the exchange, dealt by distance and kind. -/
theorem deal (Φ : Fin 4 → Fin 3 → Dev nD → sProp 𝕄) :
    (bigSep Finset.univ fun p : Slots => Φ p.2.1 p.2.2 p.1) ⊢ iprop(
      ((bigSep Finset.univ fun c => Φ 0 0 c) ∗ (bigSep Finset.univ fun c => Φ 1 0 c) ∗ (bigSep Finset.univ fun c => Φ 2 0 c) ∗ (bigSep Finset.univ fun c => Φ 3 0 c))
      ∗ ((bigSep Finset.univ fun c => Φ 0 1 c) ∗ (bigSep Finset.univ fun c => Φ 1 1 c) ∗ (bigSep Finset.univ fun c => Φ 2 1 c) ∗ (bigSep Finset.univ fun c => Φ 3 1 c))
      ∗ ((bigSep Finset.univ fun c => Φ 0 2 c) ∗ (bigSep Finset.univ fun c => Φ 1 2 c) ∗ (bigSep Finset.univ fun c => Φ 2 2 c) ∗ (bigSep Finset.univ fun c => Φ 3 2 c))) := by
  have e : (bigSep Finset.univ fun p : Slots => Φ p.2.1 p.2.2 p.1)
      = bigSep Finset.univ fun c : Dev nD => iprop((Φ 0 0 c ∗ Φ 0 1 c ∗ Φ 0 2 c) ∗ (Φ 1 0 c ∗ Φ 1 1 c ∗ Φ 1 2 c) ∗ (Φ 2 0 c ∗ Φ 2 1 c ∗ Φ 2 2 c) ∗ (Φ 3 0 c ∗ Φ 3 1 c ∗ Φ 3 2 c)) := by
    rw [bigSep_univ_prod]
    refine bigSep_congr fun c _ => ?_
    rw [bigSep_univ_prod, bigSep_univ_eq_bigSepL [(0 : Fin 4), 1, 2, 3] (by decide) (by decide)]
    have e3 : ∀ a : Fin 4, (bigSep Finset.univ fun k : Fin 3 => Φ a k c) = iprop(Φ a 0 c ∗ Φ a 1 c ∗ Φ a 2 c) :=
      fun a => bigSep_univ_eq_bigSepL [(0 : Fin 3), 1, 2] (by decide) (by decide) _
    rw [← e3 0, ← e3 1, ← e3 2, ← e3 3]
    rfl
  rw [e]
  simp only [bigSep_sep']
  iintro ⟨⟨A0, A1, A2⟩, ⟨B0, B1, B2⟩, ⟨C0, C1, C2⟩, ⟨D0, D1, D2⟩⟩
  isplitl [A0 B0 C0 D0]
  · isplitl [A0]; · iexact A0
    isplitl [B0]; · iexact B0
    isplitl [C0] <;> iassumption
  isplitl [A1 B1 C1 D1]
  · isplitl [A1]; · iexact A1
    isplitl [B1]; · iexact B1
    isplitl [C1] <;> iassumption
  isplitl [A2]; · iexact A2
  isplitl [B2]; · iexact B2
  isplitl [C2] <;> iassumption

/-- What one device is dealt for one distance. -/
def lin (k : Fin 3) (c : Dev nD) : sProp 𝕄 :=
  iprop(dutyTok ER (barCell (fwd k c)) 0 (rev k)
    ∗ (dutyTok ER (cell 0 k c) 0 0 ∗ dutyTok ER (cell 1 k (fwd k c)) 0 0 ∗ dutyTok ER (cell 2 k c) 0 0 ∗ dutyTok ER (cell 3 k (fwd k c)) 0 0)
    ∗ (openTok ER (cell 0 k c) ∗ openTok ER (cell 1 k c) ∗ openTok ER (cell 2 k c) ∗ openTok ER (cell 3 k c)))

theorem deal1 (k : Fin 3) : iprop((bigSep Finset.univ fun c : Dev nD => (dutyTok ER (barCell c) 0 (rev k) : sProp 𝕄))
      ∗ ((bigSep Finset.univ fun c : Dev nD => dutyTok ER (cell 0 k c) 0 0) ∗ (bigSep Finset.univ fun c : Dev nD => dutyTok ER (cell 1 k c) 0 0)
        ∗ (bigSep Finset.univ fun c : Dev nD => dutyTok ER (cell 2 k c) 0 0) ∗ (bigSep Finset.univ fun c : Dev nD => dutyTok ER (cell 3 k c) 0 0))
      ∗ ((bigSep Finset.univ fun c : Dev nD => openTok ER (cell 0 k c)) ∗ (bigSep Finset.univ fun c : Dev nD => openTok ER (cell 1 k c))
        ∗ (bigSep Finset.univ fun c : Dev nD => openTok ER (cell 2 k c)) ∗ (bigSep Finset.univ fun c : Dev nD => openTok ER (cell 3 k c))))
    ⊢ (bigSep Finset.univ fun c : Dev nD => lin k c : sProp 𝕄) := by
  unfold lin
  simp only [bigSep_sep']
  refine BI.sep_mono (round k fun c => dutyTok ER (barCell c) 0 (rev k)) (BI.sep_mono ?_ (BI.Entails.refl _))
  exact BI.sep_mono (BI.Entails.refl _) (BI.sep_mono (round k fun c => dutyTok ER (cell 1 k c) 0 0)
    (BI.sep_mono (BI.Entails.refl _) (round k fun c => dutyTok ER (cell 3 k c) 0 0)))

/-- Every token dealt, each to the device that pays or opens by it. -/
theorem deal_all : iprop(bigSep (barToks ∪ scToks) (fun x => (dutyTok ER x.1 x.2.1 x.2.2 : sProp 𝕄)) ∗ bigSep scCells (fun g => openTok ER g))
    ⊢ iprop((bigSep Finset.univ fun c : Dev nD => lin 0 c) ∗ (bigSep Finset.univ fun c : Dev nD => lin 1 c) ∗ (bigSep Finset.univ fun c : Dev nD => lin 2 c)) := by
  have hb : (bigSep Finset.univ fun p : Dev nD × Fin 3 => (dutyTok ER (barTok p).1 (barTok p).2.1 (barTok p).2.2 : sProp 𝕄))
      ⊢ iprop((bigSep Finset.univ fun c : Dev nD => dutyTok ER (barCell c) 0 (rev 2)) ∗ (bigSep Finset.univ fun c : Dev nD => dutyTok ER (barCell c) 0 (rev 1))
        ∗ (bigSep Finset.univ fun c : Dev nD => dutyTok ER (barCell c) 0 (rev 0))) := by
    rw [bigSep_univ_prod, ← bigSep_sep', ← bigSep_sep']
    exact Entails.of_eq (bigSep_congr fun c _ => bigSep_univ_eq_bigSepL [(0 : Fin 3), 1, 2] (by decide) (by decide) _)
  have hd : (bigSep Finset.univ fun p : Slots => (dutyTok ER (scTok p).1 (scTok p).2.1 (scTok p).2.2 : sProp 𝕄)) ⊢ _ :=
    deal fun a k c => dutyTok ER (cell a k c) 0 0
  have ho : (bigSep Finset.univ fun p : Slots => (openTok ER (scEmb p) : sProp 𝕄)) ⊢ _ :=
    deal fun a k c => openTok ER (cell a k c)
  have hu : bigSep (barToks ∪ scToks) (fun x => (dutyTok ER x.1 x.2.1 x.2.2 : sProp 𝕄))
      ⊢ iprop((bigSep Finset.univ fun p : Dev nD × Fin 3 => dutyTok ER (barTok p).1 (barTok p).2.1 (barTok p).2.2)
        ∗ bigSep Finset.univ fun p : Slots => dutyTok ER (scTok p).1 (scTok p).2.1 (scTok p).2.2) :=
    Entails.of_eq (by rw [bigSep_union disjoint_toks, bigSep_map, bigSep_map]; rfl)
  have hs : bigSep scCells (fun g => (openTok ER g : sProp 𝕄)) ⊢ bigSep Finset.univ fun p : Slots => openTok ER (scEmb p) :=
    Entails.of_eq (bigSep_map scEmb)
  iintro ⟨HT, HO⟩
  ihave HT := hu $$ HT
  icases HT with ⟨HB, HD⟩
  ihave HB := hb $$ HB
  ihave HD := hd $$ HD
  ihave HO := hs $$ HO
  ihave HO := ho $$ HO
  icases HB with ⟨B2, B1, B0⟩
  icases HD with ⟨D0, D1, D2⟩
  icases HO with ⟨O0, O1, O2⟩
  isplitl [B0 D0 O0]
  · iapply (deal1 (F := F) 0); isplitl [B0]; · iexact B0
    isplitl [D0] <;> iassumption
  isplitl [B1 D1 O1]
  · iapply (deal1 (F := F) 1); isplitl [B1]; · iexact B1
    isplitl [D1] <;> iassumption
  iapply (deal1 (F := F) 2); isplitl [B2]; · iexact B2
  isplitl [D2] <;> iassumption

/-! ### The launch credit -/

/-- One tally owed one step round the mesh is credit for it on each device. -/
theorem cred1 (g : Dev nD → GSem nD τ sig) (s : SemLoc sig) (hg : ∀ c, g c = ((c : Thread nD τ), s)) (k : Fin 3) (n : ℕ) (c : Dev nD) :
    (Pipeline.launchCred (fun d => tallyAt (g (fwd k d)) () n) c : sProp 𝕄) ⊢ cred (tallyAt (g c) () n) := by
  refine (Pipeline.launchCred_elim _ c s).trans (Entails.of_eq (congrArg _ ?_))
  rw [hg c]
  unfold tallyAt; refine congrArg _ (Finsupp.ext fun u => ?_); cases u
  rw [Pipeline.launchCredit_owing, Finsupp.single_eq_same]
  have e : ∀ d : Dev nD, (tallyOn (g (fwd k d)) (Finsupp.single () n) : CellTallies nD τ sig Unit) ((c.tc : Thread nD τ), s) () = if d = bwd k c then n else 0 := by
    intro d
    show tallyAt (g (fwd k d)) () n ((c.tc : Thread nD τ), s) () = _
    rw [tallyAt_apply, hg]
    by_cases h : d = bwd k c
    · subst h; rw [fwd_bwd, if_pos ⟨rfl, rfl⟩, if_pos rfl]
    · rw [if_neg h, if_neg]
      rintro ⟨h1, -⟩
      exact h (by rw [← bwd_fwd k d]; exact congrArg (bwd k) (congrArg (fun g : GSem nD τ sig => g.1.1) h1).symm)
  rw [Finset.sum_congr rfl fun d _ => e d, Finset.sum_ite_eq' Finset.univ (bwd k c) fun _ => n, if_pos (Finset.mem_univ _)]

theorem credB (k : Fin 3) (c : Dev nD) : (Pipeline.launchCred (fun d => tBar k d) c : sProp 𝕄) ⊢ cred (tallyAt (barCell c) () 1) :=
  cred1 (fun c => barCell c) (.reg barS) (fun _ => rfl) k 1 c
theorem credD (k : Fin 3) (c : Dev nD) : (Pipeline.launchCred (fun d => tDat k d) c : sProp 𝕄) ⊢ due 1 k c := by
  unfold due crd; rw [if_pos (.inr rfl)]
  exact cred1 (fun c => cell 1 k c) (.dma (sm 1 k)) (fun _ => rfl) k ND c
theorem credC (k : Fin 3) (c : Dev nD) : (Pipeline.launchCred (fun d => tCnt k d) c : sProp 𝕄) ⊢ due 3 k c := by
  unfold due crd; rw [if_neg (by decide)]
  exact cred1 (fun c => cell 3 k c) (.dma (sm 3 k)) (fun _ => rfl) k NC c

theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

/-- The launch credit, by distance. -/
theorem creds (c : Dev nD) : (Pipeline.launchCred O₀ c : sProp 𝕄)
    ⊢ iprop(cred (tallyAt (barCell c) () 3) ∗ (due 1 0 c ∗ due 3 0 c) ∗ (due 1 1 c ∗ due 3 1 c) ∗ (due 1 2 c ∗ due 3 2 c)) := by
  show Pipeline.launchCred (fun d => ((((((((((0 : CellTallies nD τ sig Unit) + tDat 2 d) + tCnt 2 d) + tDat 1 d) + tCnt 1 d) + tDat 0 d) + tCnt 0 d)
    + tBar 2 d) + tBar 1 d) + tBar 0 d)) c ⊢ _
  rw [Pipeline.launchCred_add, Pipeline.launchCred_add, Pipeline.launchCred_add, Pipeline.launchCred_add, Pipeline.launchCred_add,
    Pipeline.launchCred_add, Pipeline.launchCred_add, Pipeline.launchCred_add, Pipeline.launchCred_add]
  iintro ⟨⟨⟨⟨⟨⟨⟨⟨⟨-, D2⟩, C2⟩, D1⟩, C1⟩, D0⟩, C0⟩, B2⟩, B1⟩, B0⟩
  isplitl [B0 B1 B2]
  · ihave B0 := (credB (F := F) 0 c) $$ B0
    ihave B1 := (credB (F := F) 1 c) $$ B1
    ihave B2 := (credB (F := F) 2 c) $$ B2
    iapply (cred_join (F := F) (barCell c) 2 1)
    isplitr [B2]
    · iapply (cred_join (F := F) (barCell c) 1 1); isplitl [B0] <;> iassumption
    iexact B2
  isplitl [D0 C0]
  · isplitl [D0]; · iapply (credD (F := F) 0 c); iexact D0
    iapply (credC (F := F) 0 c); iexact C0
  isplitl [D1 C1]
  · isplitl [D1]; · iapply (credD (F := F) 1 c); iexact D1
    iapply (credC (F := F) 1 c); iexact C1
  isplitl [D2]; · iapply (credD (F := F) 2 c); iexact D2
  iapply (credC (F := F) 2 c); iexact C2

/-! ### The thread states along @main -/

/-- The buffers at launch. -/
def Vm (c : Dev nD) : Valuation τ sig (Elt F) := fun b => m (c, b)

/-- What launch gives a device beside its buffers and the exchange's tokens. -/
def given (c : Dev nD) : sProp 𝕄 :=
  iprop((cred (tallyAt (barCell c) () 3) ∗ (due 1 0 c ∗ due 3 0 c) ∗ (due 1 1 c ∗ due 3 1 c) ∗ (due 1 2 c ∗ due 3 2 c))
    ∗ (∃ r, prngReg c r) ∗ owes (c : Thread nD τ) (O₀ c) ∅)

/-- What every device may consult at launch. -/
def known (κ : GSem nD τ sig → ℕ) : sProp 𝕄 := iprop(recs (inp m) κ ∗ bigSep Finset.univ fun c : Dev nD => reached ER (barCell c) 0)
instance known_persistent (κ : GSem nD τ sig → ℕ) : BI.Persistent (known m κ) := by unfold known; infer_instance
theorem known_bar (κ : GSem nD τ sig → ℕ) (c : Dev nD) : known m κ ⊢ reached ER (barCell c) 0 := by
  unfold known
  exact (BI.sep_and.trans and_elimR).trans (bigSep_elim (Φ := fun c : Dev nD => (reached ER (barCell c) 0 : sProp 𝕄)) (Finset.mem_univ c))
theorem known_recs (κ : GSem nD τ sig → ℕ) : known m κ ⊢ recs (inp m) κ := by
  unfold known; exact BI.sep_and.trans and_elimL

theorem shut (κ : GSem nD τ sig → ℕ) (k : Fin 3) (c : Dev nD) :
    known m κ ⊢ iprop((lin k c ∗ (due 1 k c ∗ due 3 k c)) -∗ shutK k c : sProp 𝕄) := by
  unfold lin shutK
  iintro #HK ⟨⟨HB, ⟨D0, D1, D2, D3⟩, HO⟩, HC⟩
  isplitl [HB]
  · isplitl [HB]; · iexact HB
    iapply (known_bar m κ (fwd k c)); iexact HK
  isplitl [D0 D1]; · isplitl [D0] <;> iassumption
  isplitl [D2 D3]; · isplitl [D2] <;> iassumption
  isplitl [HC] <;> iassumption

theorem ride_intro (κ : GSem nD τ sig → ℕ) (c : Dev nD) :
    iprop(known m κ ∗ ((lin 0 c ∗ lin 1 c ∗ lin 2 c) ∗ atPos ER (barCell c) 0 ∅ 0 ∗ given c)) ⊢ ride m c := by
  unfold given ride
  iintro ⟨#HK, ⟨H0, H1, H2⟩, HA, ⟨HC, C0, C1, C2⟩, HP, HO⟩
  isplitl [H0 H1 H2 C0 C1 C2]
  · iexists κ
    isplitr; · iapply (known_recs m κ); iexact HK
    isplitl [H0 C0]
    · iapply (shut m κ 0 c) $$ HK; isplitl [H0] <;> iassumption
    isplitl [H1 C1]
    · iapply (shut m κ 1 c) $$ HK; isplitl [H1] <;> iassumption
    iapply (shut m κ 2 c) $$ HK; isplitl [H2] <;> iassumption
  isplitl [HA]; · iexact HA
  isplitl [HC]; · iexact HC
  isplitl [HP]; · iexact HP
  unfold owesX
  iexists ∅; iexact HO

/-- The thread state @main starts from. -/
abbrev T₀ (c : Dev nD) : sProp 𝕄 := iprop(StableHlo.held (c.tc : Thread nD τ) (Pipeline.ucRefs τ sig) (Vm m c) ∗ ride m c)

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-- The launch: the cells made, the tokens and credit dealt. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ at0 (BI.own (ER uX)) c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ at0 (BI.own (ER uX)) c)
      ⊢ (iprop((StableHlo.held (c.tc : Thread nD τ) (Pipeline.ucRefs τ sig) (Vm m c) ∗ given c) ∗ (semVal (barCell c) 0 ∗ at0 (BI.own (ER uX)) c)) : sProp 𝕄) := by
    rw [show unscopedBufs c (fun b => m ((c.tc : Thread nD τ).loc b)) = StableHlo.held (c.tc : Thread nD τ) (Pipeline.ucRefs τ sig) (Vm m c)
      from Pipeline.unscopedBufs_held (Ix := Unit) (Name := ℕ) (U := UU) (Lvl := ℕ) c (Vm m c), unscopedSems0_eq]
    unfold given
    iintro ⟨Hh, Hus, HO, Hcr, Hp, HG⟩
    ihave Hc := (creds (F := F) c) $$ Hcr
    isplitl [Hh HO Hc Hp]
    · isplitl [Hh]; · iexact Hh
      isplitl [Hc]; · iexact Hc
      isplitl [Hp]; · iexists (ρ c); iexact Hp
      iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hin (κ : GSem nD τ sig → ℕ) : bigSep (barCells ∪ scCells) (fun g => (cellInv ER (sch (inp m)) (κ g) g : sProp 𝕄)) ⊢ recs (inp m) κ :=
    Entails.of_eq (by rw [bigSep_union disjoint_cells, bigSep_map, bigSep_map]; rfl)
  have hall : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ at0 (BI.own (ER uX)) c))
      ⊢ (bigSep Finset.univ fun c : Dev nD => iprop((StableHlo.held (c.tc : Thread nD τ) (Pipeline.ucRefs τ sig) (Vm m c) ∗ given c)
        ∗ (semVal (barCell c) 0 ∗ at0 (BI.own (ER uX)) c)) : sProp 𝕄) := bigSep_mono fun c _ => hcore c
  iintro ⟨H, -⟩
  ihave H' := hall $$ H
  ihave H2 := unpair $$ H'; icases H2 with ⟨HB, H3⟩
  ihave H4 := unpair $$ H3; icases H4 with ⟨Hv, HG⟩
  ihave H5 := unpair $$ HB; icases H5 with ⟨Hh, Hgiv⟩
  ihave Hu := (show bigSep Finset.univ (at0 (F := F) (BI.own (ER uX))) ⊢ BI.own (ER (launchOf barCells scCells (barToks ∪ scToks))) from
    Entails.of_eq (bigSep_at0 (F := F) (BI.own (ER uX)))) $$ HG
  imod (Rounds.fund_launch ER (sch (inp m)) disjoint_cells (fun g _ h => h) (barToks ∪ scToks)) $$ [Hv Hu] with ⟨%κ, -, #Hinv, #Hr, Hat, Hopen, Htok⟩
  · isplitl [Hv]
    · iapply hv $$ Hv
    · iexact Hu
  imodintro
  ihave Hd := (deal_all (F := F)) $$ [Htok Hopen]
  · isplitl [Htok] <;> iassumption
  iapply pair_up
  isplitl [Hh]; · iexact Hh
  iapply (bigSep_with_persistent (R := known m κ)
    (Φ := fun c => iprop((lin 0 c ∗ lin 1 c ∗ lin 2 c) ∗ atPos ER (barCell c) 0 ∅ 0 ∗ given c)) fun c _ => ride_intro m κ c)
  isplitr
  · unfold known
    isplitr; · iapply (hin κ); iexact Hinv
    iapply hre; iexact Hr
  iapply pair_up
  isplitl [Hd]
  · icases Hd with ⟨L0, L1, L2⟩
    iapply pair_up; isplitl [L0]; · iexact L0
    iapply pair_up; isplitl [L1] <;> iassumption
  iapply pair_up
  isplitl [Hat]; · iapply hat; iexact Hat
  iexact Hgiv

/-! ### @main as host lines, the region, host lines -/

theorem sub_of {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op (List.forall_iff_forall_mem.mp h op hop)

def segA : Pipeline.HostSeg (Ix := Unit) (Name := ℕ) (U := UU) (pcfgs (F := F)) defs₀ 𝒱₀ L lv :=
  Pipeline.HostSeg.ofOps (pcfgs (F := F)) defs₀ 𝒱₀ L lv (Pipeline.ucRefs τ sig) hostOps0 (sub_of hostOps0_sub)
    (List.forall_iff_forall_mem.mp hostOps0_fresh) (Vm m) (ride m)
def segB : Pipeline.HostSeg (Ix := Unit) (Name := ℕ) (U := UU) (pcfgs (F := F)) defs₀ 𝒱₀ L lv :=
  Pipeline.HostSeg.ofOps (pcfgs (F := F)) defs₀ 𝒱₀ L lv (Pipeline.ucRefs τ sig) hostOps0_1 (sub_of hostOps0_1_sub)
    (List.forall_iff_forall_mem.mp hostOps0_1_fresh) (fun c => StableHlo.after hostOps0 (Vm m c)) (ride m)
def segC : Pipeline.HostSeg (Ix := Unit) (Name := ℕ) (U := UU) (pcfgs (F := F)) defs₀ 𝒱₀ L lv :=
  Pipeline.HostSeg.ofOps (pcfgs (F := F)) defs₀ 𝒱₀ L lv (Pipeline.ucRefs τ sig) hostOps0_2 (sub_of hostOps0_2_sub)
    (List.forall_iff_forall_mem.mp hostOps0_2_fresh) (fun c => StableHlo.after hostOps0_1 (StableHlo.after hostOps0 (Vm m c))) (ride m)
def segE : Pipeline.HostSeg (Ix := Unit) (Name := ℕ) (U := UU) (pcfgs (F := F)) defs₀ 𝒱₀ L lv :=
  Pipeline.HostSeg.ofOpsEx (pcfgs (F := F)) defs₀ 𝒱₀ L lv (Pipeline.ucRefs τ sig) hostOps1 (sub_of hostOps1_sub)
    (List.forall_iff_forall_mem.mp hostOps1_fresh) (V1 m) (fun c => iprop(semVal (barCell c) 0 ∗ owesX c 0))

theorem V0_split (c : Dev nD) : V0 m c = StableHlo.after hostOps0_2 (StableHlo.after hostOps0_1 (StableHlo.after hostOps0 (Vm m c))) := by
  show StableHlo.after (List.flatten [hostOps0, hostOps0_1, hostOps0_2]) (Vm m c) = _
  simp only [List.flatten_cons, List.flatten_nil, List.append_nil, StableHlo.after_append]

def segs (hI : Good (inp m)) : List (Pipeline.Seg (pcfgs (F := F)) adm (pdats m) () defs₀ 𝒱₀ L lv) :=
  [.host (segA m), .host (segB m), .host (segC m), .region (reg m hI), .host (segE m)]

/-- The thread state @main ends in. -/
abbrev Tₙ (c : Dev nD) : sProp 𝕄 :=
  iprop((∃ γ : Res m c, StableHlo.held (c.tc : Thread nD τ) (Pipeline.ucRefs τ sig) (StableHlo.after hostOps1 (V1 m c γ))) ∗ semVal (barCell c) 0)

set_option backward.isDefEq.respectTransparency.types false in
/-- The run: every weakly fair execution of @main on the four devices terminates, and in every final state every buffer the host keeps is as
    its lines after the region leave it, over a result of the kernel's that is right wherever it is to be; every semaphore is at zero. -/
theorem run_main (hI : Good (inp m)) : θ_run (defs (F := F)) (onTc (τ := τ) (main (F := F))) ⟨m, fun _ => 0, ρ⟩
    (fun r => (∀ c : Dev nD, ∃ γ : Res m c, ∀ b : Ref sig .tc, b.isScoped = false →
        r.2.mem ((c.tc : Thread nD τ).loc b) = StableHlo.after hostOps1 (V1 m c γ) (Proc.devRef .tc b)) ∧ r.2.sem = fun _ => 0) :=
  Pipeline.θ_run_regions_kit_sems (pcfgs (F := F)) adm (pdats m) () cellOf_inj EP defs₀ 𝒱₀ L lv m ρ main (segs m hI)
    (fun c Q => by rw [main_chain c, Pipeline.Seg.run_eq_chain]; exact .rfl)
    (by simp only [segs, Pipeline.Seg.pipes_host, Pipeline.Seg.pipes_region, Pipeline.Seg.pipes_nil]; decide)
    (O₀ := O₀) (hL := L_of_ne) (G := at0 (BI.own (ER uX))) (u₀ := u₀ (F := F))
    (hu₀ := by
      unfold u₀
      iintro Hu
      ihave H := (own_pair _ _) $$ Hu
      icases H with ⟨HP, HX⟩
      imodintro
      isplitl [HP]; · iexact HP
      rw [bigSep_at0]; iexact HX)
    (T₀ := T₀ m) (Tₙ := Tₙ m)
    (hch := by
      refine ⟨fun c => .rfl, fun c => .rfl, fun c => .rfl, fun c => ?_, fun c => .rfl, fun c => ?_⟩
      · show iprop(StableHlo.held (c.tc : Thread nD τ) (Pipeline.ucRefs τ sig)
            (StableHlo.after hostOps0_2 (StableHlo.after hostOps0_1 (StableHlo.after hostOps0 (Vm m c)))) ∗ ride m c)
          ⊢ iprop(StableHlo.held (c.tc : Thread nD τ) (Pipeline.ucRefs τ sig) (V0 m c) ∗ ride m c)
        rw [V0_split]
      · show iprop((∃ γ : Res m c, StableHlo.held (c.tc : Thread nD τ) (Pipeline.ucRefs τ sig) (StableHlo.after hostOps1 (V1 m c γ)))
            ∗ (semVal (barCell c) 0 ∗ owesX c 0))
          ⊢ iprop(Tₙ m c ∗ ∃ W, owes (c.tc : Thread nD τ) (0 : CellTallies nD τ sig Unit) W)
        unfold owesX
        iintro ⟨Hh, HB, HO⟩
        isplitr [HO]
        · isplitl [Hh] <;> iassumption
        iexact HO)
    (hinit := init m ρ)
    (QY := fun c s => (∃ γ : Res m c, ∀ b ∈ Pipeline.ucRefs τ sig, s.mem ((c.tc : Thread nD τ).1, b) = StableHlo.after hostOps1 (V1 m c γ) b)
      ∧ s.sem (barCell c) = 0)
    (hfin := fun c s' => by
      dsimp only [Tₙ]
      unfold StableHlo.held
      iintro ⟨⟨⟨%γ, Hh⟩, Hb⟩, HSI⟩
      icombine HSI Hb gives %hb
      ihave Hr := (pointsTo_read_all (Pipeline.ucRefs τ sig) (fun b => ((c.tc : Thread nD τ).1, b)) (StableHlo.after hostOps1 (V1 m c γ)) s') $$ [Hh HSI]
      · isplitl [Hh] <;> iassumption
      icases Hr with ⟨%hr, HSI⟩
      imodintro
      isplitr
      · ipureintro; exact ⟨⟨γ, hr⟩, by simpa using hb⟩
      iexact HSI)
    (hQ := fun s h hs => ⟨fun c => by
        obtain ⟨γ, hγ⟩ := (h c).1
        exact ⟨γ, fun b hb => hγ _ (Pipeline.devRef_mem_ucRefs hb)⟩,
      sem_eq_zero hs fun c sm hsm => by
        obtain rfl := unscoped_eq sm hsm
        exact (h c).2⟩)

end Cert.KernelIdeal.Hand

end
-- ==== Proof.Host.lean ====
module

public import proofs.«01_k».proof.Proof.Entry
public import proofs.«01_k».proof.Proof.Count
public import Idealize.ShloMosaic.Lib.StableHlo.RunRead

@[expose] public section

set_option maxRecDepth 16384

noncomputable section

namespace Cert.KernelIdeal.Hand

open Idealize.ShloMosaic Idealize.ShloMosaic.TcCoe
open Idealize.ShloMosaic.ValueIdx Idealize.ShloMosaic.Routing
open Cert.KernelIdeal.Gen Cert.Cnt

variable {F : FTy → Type} [FloatOps F]
variable (m : (ℓ : Loc nD τ sig) → Buf (Elt F) ℓ)

/-! ## What the host hands the kernel -/

/-- Device `c`'s destinations. -/
def dst (c : Dev nD) : IVec S4096 32 := m ((c.tc : Thread nD τ).loc main_arg1)

/-- The one-hot rows, as words. -/
def hotW (d : IVec S4096 32) : IVec S4096x4 32 :=
  extui 32 (hot (N := 4096) d bcast_S4096_S4096x1_0 bcast_S4096x1_S4096x4_0_1 bcast_S4_S1x4_1 bcast_S1x4_S4096x4_0_1) natLt_1_32

/-- The running sums of the one-hot rows. -/
def cumW (d : IVec S4096 32) : IVec S4096x4 32 :=
  Host.reduceWindow IntOp.addi ![4096, 1] ![1, 1] ![4095, 0] ![0, 0] (hotW d) (broadcastInDim S_ ![] bcast_S_S_ (constantI S_ 32 0#32))
    reduceWindows_S4096x4_S4096x4_w4096s1p4095_0_w1s1p0_0 h_S_

theorem V_v17 (c : Dev nD) : V m c main_v17 = addi (muli (dst m c) (broadcastInDim S4096 ![] bcast_S_S4096 (constantI S_ 32 1152#32)))
    (subi (Host.reduce IntOp.addi (muli (cumW (dst m c)) (hotW (dst m c))) (constantI S_ 32 0#32) reducesTo_S4096x4_S4096_d1 h_S_)
      (broadcastInDim S4096 ![] bcast_S_S4096 (constantI S_ 32 1#32))) := by
  unfold V V0 hostOps0 hostOps0_1 hostOps0_2
  simp only [List.flatten_cons, List.flatten_nil, List.cons_append, List.nil_append, List.append_nil]
  after_reads_simp
  simp -implicitDefEqProofs only [StableHlo.TRef.toBuf, StableHlo.TRef.ofBuf, cast_cast, cast_eq]
  unfold dst cumW hotW hot
  rfl

theorem V_v14 (c : Dev nD) : V m c main_v14
    = shapeCast S4 (extractStridedSlice S1x4 ![4095, 0] (cumW (dst m c)) slices_S4096x4_S1x4_4095_0) shapeCasts_S1x4_S4 := by
  unfold V V0 hostOps0 hostOps0_1 hostOps0_2
  simp only [List.flatten_cons, List.flatten_nil, List.cons_append, List.nil_append, List.append_nil]
  after_reads_simp
  simp -implicitDefEqProofs only [StableHlo.TRef.toBuf, StableHlo.TRef.ofBuf, cast_cast, cast_eq]
  unfold dst cumW hotW hot
  rfl

/-- The index words of the counts' place in the padded row: zero and zero. -/
def zz : IVec S2 32 := concatenate S2 0 [⟨S1, broadcastInDim S1 ![] bcast_S_S1 (constantI S_ 32 0#32)⟩, ⟨S1, broadcastInDim S1 ![] bcast_S_S1 (constantI S_ 32 0#32)⟩]
  concatenates_S1_S1_S2_d0

theorem V_v22 (c : Dev nD) : V m c main_v22
    = Host.scatter scatter_S8x128_S2_S4_0_0_01_0 (fun _ b => b) (broadcastInDim S8x128 ![] bcast_S_S8x128 (constantI S_ 32 0#32)) zz
        (shapeCast S4 (extractStridedSlice S1x4 ![4095, 0] (cumW (dst m c)) slices_S4096x4_S1x4_4095_0) shapeCasts_S1x4_S4) := by
  unfold V V0 hostOps0 hostOps0_1 hostOps0_2
  simp only [List.flatten_cons, List.flatten_nil, List.cons_append, List.nil_append, List.append_nil]
  after_reads_simp
  simp -implicitDefEqProofs only [StableHlo.TRef.toBuf, StableHlo.TRef.ofBuf, cast_cast, cast_eq]
  unfold dst cumW hotW hot zz
  rfl

theorem V_v23 (c : Dev nD) : V m c main_v23 = shapeCast S4096x8x128 (m ((c.tc : Thread nD τ).loc main_arg0)) shapeCasts_S4096x1024_S4096x8x128 := by
  unfold V V0 hostOps0 hostOps0_1 hostOps0_2
  simp only [List.flatten_cons, List.flatten_nil, List.cons_append, List.nil_append, List.append_nil]
  after_reads_simp
  rfl

theorem cumW_apply (d : IVec S4096 32) (j : Fin 4096) (k : Fin 4) : cumW d (ix2 j k) = BitVec.ofNat 32 (rk (dn (N := 4096) d) k.val (j.val + 1)) :=
  cumul_apply (N := 4096) (Nm1 := 4095) d bcast_S4096_S4096x1_0 bcast_S4096x1_S4096x4_0_1 bcast_S4_S1x4_1 bcast_S1x4_S4096x4_0_1 natLt_1_32 rfl
    (broadcastInDim S_ ![] bcast_S_S_ (constantI S_ 32 0#32)) rfl reduceWindows_S4096x4_S4096x4_w4096s1p4095_0_w1s1p0_0 h_S_ j k

theorem hotW_val (d : IVec S4096 32) (j : Fin 4096) (k : Fin 4) : hotW d (ix2 j k) = BitVec.ofNat 32 (if dn (N := 4096) d j.val = k.val then 1 else 0) :=
  hotW_apply (N := 4096) d bcast_S4096_S4096x1_0 bcast_S4096x1_S4096x4_0_1 bcast_S4_S1x4_1 bcast_S1x4_S4096x4_0_1 natLt_1_32 j k

/-- The slot the host gives row `j`: 1152 slots a rank, and within the rank's the row's place among the rows going there. -/
theorem pos_val (d : IVec S4096 32) (hf : Fit (dn (N := 4096) d)) (j : Fin 4096) :
    (addi (muli d (broadcastInDim S4096 ![] bcast_S_S4096 (constantI S_ 32 1152#32)))
      (subi (Host.reduce IntOp.addi (muli (cumW d) (hotW d)) (constantI S_ 32 0#32) reducesTo_S4096x4_S4096_d1 h_S_)
        (broadcastInDim S4096 ![] bcast_S_S4096 (constantI S_ 32 1#32))) (ix1 j)).toNat
      = 1152 * dn (N := 4096) d j.val + rk (dn (N := 4096) d) (dn (N := 4096) d j.val) j.val := by
  have hj := hf.1 j.val j.isLt
  have hle : rk (dn (N := 4096) d) (dn (N := 4096) d j.val) j.val ≤ j.val := rk_le _ _ _
  have hjl := j.isLt
  have hr : Host.reduce IntOp.addi (muli (cumW d) (hotW d)) (constantI S_ 32 0#32) reducesTo_S4096x4_S4096_d1 h_S_ (ix1 j)
      = BitVec.ofNat 32 (rk (dn (N := 4096) d) (dn (N := 4096) d j.val) j.val + 1) := by
    rw [reduce_row_single (n := 4096) _ reducesTo_S4096x4_S4096_d1 h_S_ j ⟨_, hj⟩ fun k' hk' => ?_]
    · show cumW d (ix2 j ⟨_, hj⟩) * hotW d (ix2 j ⟨_, hj⟩) = _
      rw [cumW_apply, hotW_val, if_pos rfl, rk_succ_self]
      exact BitVec.mul_one _
    · show cumW d (ix2 j k') * hotW d (ix2 j k') = _
      rw [hotW_val, if_neg fun e => hk' (Fin.ext e.symm)]
      exact BitVec.mul_zero
  have hd : (d (ix1 j)).toNat = dn (N := 4096) d j.val := (dn_fin (N := 4096) d j).symm
  show (d (ix1 j) * 1152#32 + (Host.reduce IntOp.addi (muli (cumW d) (hotW d)) (constantI S_ 32 0#32) reducesTo_S4096x4_S4096_d1 h_S_ (ix1 j) - 1#32)).toNat = _
  rw [hr, BitVec.toNat_add, BitVec.toNat_mul, BitVec.toNat_sub, hd, BitVec.toNat_ofNat]
  simp only [BitVec.toNat_ofNat]
  omega

theorem last_row (x : IVec S4096x4 32) (k : Fin 4) :
    shapeCast S4 (extractStridedSlice S1x4 ![4095, 0] x slices_S4096x4_S1x4_4095_0) shapeCasts_S1x4_S4 (ix1 k) = x (ix2 4095 k) := by
  refine (cast21 (a := 1) (b := 4) (n := 4) _ shapeCasts_S1x4_S4 (0 : Fin 1) k k (by simp)).trans ?_
  refine congrArg x (funext fun a => Fin.ext ?_)
  match a with
  | ⟨0, _⟩ => rfl
  | ⟨1, _⟩ => exact Nat.zero_add _

theorem cnt_val (d : IVec S4096 32) (k : Fin 4) :
    (shapeCast S4 (extractStridedSlice S1x4 ![4095, 0] (cumW d) slices_S4096x4_S1x4_4095_0) shapeCasts_S1x4_S4 (ix1 k)).toNat
      = rk (dn (N := 4096) d) k.val 4096 := by
  rw [last_row, cumW_apply, BitVec.toNat_ofNat]
  have := rk_le (dn (N := 4096) d) k.val 4096
  show rk (dn (N := 4096) d) k.val 4096 % 2 ^ 32 = _
  omega

/-! ## The kernel's operands, read -/

theorem P_val (hf : ∀ c, Fit (dn (N := 4096) (dst m c))) (c : Dev nD) (r : S4096.Idx) :
    ((inp m).P c r).toNat = 1152 * dn (N := 4096) (dst m c) (r 0).val + rk (dn (N := 4096) (dst m c)) (dn (N := 4096) (dst m c) (r 0).val) (r 0).val := by
  show (V m c main_v17 r).toNat = _
  rw [V_v17, show r = ix1 (r 0) from eq_ix1 r]
  exact pos_val (dst m c) (hf c) (r 0)

theorem C2_val (c : Dev nD) (i : S4.Idx) : ((inp m).C2 c i).toNat = rk (dn (N := 4096) (dst m c)) (i 0).val 4096 := by
  show (V m c main_v14 i).toNat = _
  rw [V_v14, show i = ix1 (i 0) from eq_ix1 i]
  exact cnt_val (dst m c) (i 0)

theorem C3_val (c : Dev nD) (i : S4.Idx) (j : S8x128.Idx) (h0 : (j 0).val = 0) (h1 : (j 1).val = (i 0).val) :
    (inp m).C3 c j = (inp m).C2 c i := by
  show V m c main_v22 j = V m c main_v14 i
  rw [V_v14, V_v22, show i = ix1 (i 0) from eq_ix1 i, show j = ix2 (j 0) (j 1) from eq_ix2 j]
  exact scatter_row (R := 8) (C := 128) (U := 4) scatter_S8x128_S2_S4_0_0_01_0 rfl rfl rfl zz rfl rfl _ _ (j 0) h0 (j 1) (i 0) h1

/-- The kernel's operands are as its proof asks, where the destinations fit. -/
theorem good (hf : ∀ c, Fit (dn (N := 4096) (dst m c))) : Good (inp m) where
  lt s r := by
    rw [P_val m hf]
    have h1 := (hf s).1 (r 0).val (r 0).isLt
    have h2 := (hf s).2 _ h1
    have h3 := rk_lt (dn (N := 4096) (dst m s)) (r 0).isLt
    have : rk (dn (N := 4096) (dst m s)) (dn (N := 4096) (dst m s) (r 0).val) (S4096.size 0)
      = rk (dn (N := 4096) (dst m s)) (dn (N := 4096) (dst m s) (r 0).val) 4096 := rfl
    omega
  inj s r r' h := by
    rw [P_val m hf, P_val m hf] at h
    have h1 := (hf s).1 (r 0).val (r 0).isLt
    have h2 := (hf s).2 _ h1
    have h3 : rk (dn (N := 4096) (dst m s)) (dn (N := 4096) (dst m s) (r 0).val) (r 0).val
      < rk (dn (N := 4096) (dst m s)) (dn (N := 4096) (dst m s) (r 0).val) 4096 := rk_lt (dn (N := 4096) (dst m s)) (r 0).isLt
    have h1' := (hf s).1 (r' 0).val (r' 0).isLt
    have h2' := (hf s).2 _ h1'
    have h3' : rk (dn (N := 4096) (dst m s)) (dn (N := 4096) (dst m s) (r' 0).val) (r' 0).val
      < rk (dn (N := 4096) (dst m s)) (dn (N := 4096) (dst m s) (r' 0).val) 4096 := rk_lt (dn (N := 4096) (dst m s)) (r' 0).isLt
    have e : dn (N := 4096) (dst m s) (r 0).val = dn (N := 4096) (dst m s) (r' 0).val := by omega
    refine rk_inj _ e ?_
    rw [← e] at h
    omega
  agree := C3_val m
  cntle s i := by
    rw [C2_val m]
    exact (hf s).2 _ (i 0).isLt
  within s r i x h hx := by
    rw [P_val m hf] at h
    rw [C2_val m]
    have h1 := (hf s).1 (r 0).val (r 0).isLt
    have h2 := (hf s).2 _ h1
    have h3 : rk (dn (N := 4096) (dst m s)) (dn (N := 4096) (dst m s) (r 0).val) (r 0).val
      < rk (dn (N := 4096) (dst m s)) (dn (N := 4096) (dst m s) (r 0).val) 4096 := rk_lt (dn (N := 4096) (dst m s)) (r 0).isLt
    have e : dn (N := 4096) (dst m s) (r 0).val = (i 0).val := by omega
    rw [e] at h h3
    omega

end Cert.KernelIdeal.Hand
-- ==== Proof.Frames.lean ====
module

public import proofs.«01_k».proof.Proof.Launch
public import proofs.«01_k».proof.Proof.Host

@[expose] public section

set_option maxRecDepth 16384

noncomputable section

namespace Cert.KernelIdeal.Hand

open Idealize.ShloMosaic Idealize.ShloMosaic.TcCoe Idealize.SL.Sem
open Cert.KernelIdeal.Gen Cert.Cnt

variable {F : FTy → Type} [FloatOps F]
variable (m : (ℓ : Loc nD τ sig) → Buf (Elt F) ℓ) (ρ : Dev nD → PrngReg)

/-- No operation after the region writes `main_arg0`. -/
theorem tail_arg0 (v : Valuation τ sig (Elt F)) : StableHlo.after hostOps1 v (Proc.devRef .tc main_arg0) = v (Proc.devRef .tc main_arg0) :=
  StableHlo.after_of_forall_not_mem (b := Proc.devRef .tc main_arg0) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- No operation after the region writes `main_arg1`. -/
theorem tail_arg1 (v : Valuation τ sig (Elt F)) : StableHlo.after hostOps1 v (Proc.devRef .tc main_arg1) = v (Proc.devRef .tc main_arg1) :=
  StableHlo.after_of_forall_not_mem (b := Proc.devRef .tc main_arg1) _ _ (List.forall_iff_forall_mem.mp (by
    simp only [hostOps1, List.Forall, StableHlo.unary_writes, StableHlo.reshape_writes, Finset.mem_singleton]
    repeat' apply And.intro
    all_goals exact StableHlo.devRef_ne_of_ne (by decide)))

theorem end_arg0 (c : Dev nD) (γ : Res m c) : StableHlo.after hostOps1 (V1 m c γ) (Proc.devRef .tc main_arg0) = m ((c.tc : Thread nD τ).loc main_arg0) :=
  (tail_arg0 _).trans ((V1_ne m c γ (by decide)).trans (V_main_arg0 m c))

theorem end_arg1 (c : Dev nD) (γ : Res m c) : StableHlo.after hostOps1 (V1 m c γ) (Proc.devRef .tc main_arg1) = m ((c.tc : Thread nD τ).loc main_arg1) :=
  (tail_arg1 _).trans ((V1_ne m c γ (by decide)).trans (V_main_arg1 m c))

/-- The program runs where the destinations fit; its arguments end as they began and every counter ends at zero. -/
theorem frames (hf : ∀ c, Fit (dn (N := 4096) (dst m c))) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun r h => ⟨fun c => by
    obtain ⟨γ, hγ⟩ := h.1 c
    exact ⟨(hγ main_arg0 rfl).trans (end_arg0 m c γ), (hγ main_arg1 rfl).trans (end_arg1 m c γ)⟩, h.2⟩) (run_main m ρ (good m hf))

end Cert.KernelIdeal.Hand
-- ==== Proof.Sort.lean ====
module

public import proofs.«01_k».proof.Proof.Count
public import Idealize.ShloMosaic.Lib.PlanTiles.StableSort

@[expose] public section

noncomputable section

/-! # The place at which a stable sort puts an entry, as a count -/

namespace Cert.Cnt

open Idealize.ShloMosaic Idealize.ShloMosaic.ValueIdx Idealize.ShloMosaic.Routing

/-- How many of the first `n` entries lie below `k`. -/
def below (f : ℕ → ℕ) (k n : ℕ) : ℕ := Nat.count (fun i => f i < k) n

theorem below_succ (f : ℕ → ℕ) (k n : ℕ) : below f (k + 1) n = below f k n + rk f k n := by
  unfold below rk
  induction n with
  | zero => simp
  | succ n ih =>
    simp only [Nat.count_succ, ih]
    split_ifs <;> omega

theorem below_zero (f : ℕ → ℕ) (n : ℕ) : below f 0 n = 0 := by
  unfold below
  induction n with
  | zero => simp
  | succ n ih => rw [Nat.count_succ, ih, if_neg (Nat.not_lt_zero _)]

/-- The entries that come before entry `g`: those below its value, and the equal ones in front of it. -/
theorem count_before (f : ℕ → ℕ) (g n : ℕ) :
    Nat.count (fun i => f i < f g ∨ (f i = f g ∧ i < g)) n = below f (f g) n + rk f (f g) (min n g) := by
  unfold below rk
  induction n with
  | zero => simp
  | succ n ih =>
    rw [Nat.count_succ, ih, Nat.count_succ]
    by_cases h : n < g
    · rw [Nat.min_eq_left h.le, Nat.min_eq_left (show n + 1 ≤ g from h), Nat.count_succ]
      split_ifs <;> omega
    · rw [Nat.min_eq_right (by omega), Nat.min_eq_right (by omega)]
      split_ifs <;> omega

/-- The stable sort's order of two of its places: by value, then by the place they came from. -/
theorem sorted_lt {n M : ℕ} (f : ℕ → ℕ) (hM : ∀ i < n, f i < M) {p q : Fin n} (h : p < q) :
    f (sortedFrom (fun a b : Fin n => decide (f a.val < f b.val)) p).val < f (sortedFrom (fun a b : Fin n => decide (f a.val < f b.val)) q).val
      ∨ (f (sortedFrom (fun a b : Fin n => decide (f a.val < f b.val)) p).val = f (sortedFrom (fun a b : Fin n => decide (f a.val < f b.val)) q).val
        ∧ (sortedFrom (fun a b : Fin n => decide (f a.val < f b.val)) p).val < (sortedFrom (fun a b : Fin n => decide (f a.val < f b.val)) q).val) := by
  have e : (fun a b : Fin n => decide (f a.val < f b.val)) = fun a b => decide (M - f b.val < M - f a.val) := by
    funext a b
    have := hM a.val a.isLt
    have := hM b.val b.isLt
    exact decide_eq_decide.mpr (by omega)
  have hp := PlanTiles.pairwise_stableSort_lex (fun a : Fin n => M - f a.val) (· < ·) (List.finRange n) (List.pairwise_lt_finRange n)
  rw [← e] at hp
  have h2 := List.pairwise_iff_get.mp hp (p.cast (length_sortPositions n _).symm) (q.cast (length_sortPositions n _).symm) h
  have h3 : PlanTiles.Lex (fun a : Fin n => M - f a.val) (· < ·) (sortedFrom (fun a b : Fin n => decide (f a.val < f b.val)) p)
    (sortedFrom (fun a b : Fin n => decide (f a.val < f b.val)) q) := h2
  have hb1 := hM _ (sortedFrom (fun a b : Fin n => decide (f a.val < f b.val)) p).isLt
  have hb2 := hM _ (sortedFrom (fun a b : Fin n => decide (f a.val < f b.val)) q).isLt
  rcases h3 with h | ⟨h, h'⟩
  · left
    dsimp only at h
    omega
  · right
    dsimp only at h
    exact ⟨by omega, h'⟩

/-- The place of an entry in the stable sort is the count of the entries below it and of the equal ones in front of it. -/
theorem sorted_place {n M : ℕ} (f : ℕ → ℕ) (hM : ∀ i < n, f i < M) (p g : Fin n)
    (hg : sortedFrom (fun a b : Fin n => decide (f a.val < f b.val)) p = g) : p.val = below f (f g.val) n + rk f (f g.val) g.val := by
  have hc := count_before f g.val n
  rw [Nat.min_eq_right g.isLt.le] at hc
  rw [← hc, ← card_filter_fin n]
  have hcard : (Finset.univ.filter fun q : Fin n => q < p).card = p.val := by
    rw [show (Finset.univ.filter fun q : Fin n => q < p) = Finset.Iio p from by ext; simp, Fin.card_Iio]
  conv_lhs => rw [← hcard]
  refine Finset.card_bij (fun q _ => sortedFrom (fun a b : Fin n => decide (f a.val < f b.val)) q) (fun q hq => ?_) (fun a _ b _ h => sortedFrom_injective _ h)
    (fun i hi => ?_)
  · have := sorted_lt f hM (Finset.mem_filter.1 hq).2
    rw [hg] at this
    exact Finset.mem_filter.2 ⟨Finset.mem_univ _, this⟩
  · obtain ⟨q, hq⟩ := sortedFrom_surjective (fun a b : Fin n => decide (f a.val < f b.val)) i
    refine ⟨q, Finset.mem_filter.2 ⟨Finset.mem_univ _, ?_⟩, hq⟩
    have hi' := (Finset.mem_filter.1 hi).2
    rcases lt_trichotomy q p with h | h | h
    · exact h
    · subst h
      rw [hg] at hq
      subst hq
      omega
    · have := sorted_lt f hM h
      rw [hg, hq] at this
      omega

/-- The place of a stable argsort's entry, read off its words: it holds the position the sort puts there. -/
theorem argsort_apply {n : ℕ} (d : IVec (shape1 n) 32) (cmp : BitVec 32 × BitVec 32 → BitVec 32 × BitVec 32 → BitVec 1)
    (hcmp : ∀ l r, cmp l r = IntOp.cmpi .slt l.1 r.1) (hd : ∀ i < n, dn d i < 2 ^ 31) (p : Fin n) :
    (Host.sort2 (shape1 n) 0 cmp d (iotaInDim (shape1 n) 32 0)).2 (ix1 p)
      = BitVec.ofNat 32 (sortedFrom (fun a b : Fin n => decide (dn d a.val < dn d b.val)) p).val := by
  have h0 : 0 < (shape1 n).rank := Nat.zero_lt_one
  have e : ∀ (j : (shape1 n).Idx) (c : Fin n), j.along (⟨0, h0⟩ : Fin (shape1 n).rank) c = ix1 c := fun j c =>
    (Shape.Idx.along_rank1 j c).trans (ofFin_eq_ix1 c)
  have hb : (fun a b : Fin n => cmp (d ((ix1 p).along ⟨0, h0⟩ a), iotaInDim (shape1 n) 32 0 ((ix1 p).along ⟨0, h0⟩ a))
      (d ((ix1 p).along ⟨0, h0⟩ b), iotaInDim (shape1 n) 32 0 ((ix1 p).along ⟨0, h0⟩ b)) == 1#1) = fun a b => decide (dn d a.val < dn d b.val) := by
    funext a b
    rw [hcmp, e, e]
    have ha := hd a.val a.isLt
    have hb := hd b.val b.isLt
    rw [dn_fin] at ha hb ⊢
    rw [dn_fin]
    show (IntOp.cmpi .slt (d (ix1 a)) (d (ix1 b)) == 1#1) = _
    rw [WordCmp.cmpi_slt_eq, WordCmp.toInt_eq_toNat_of_lt_half (by omega), WordCmp.toInt_eq_toNat_of_lt_half (by omega)]
    by_cases h : (d (ix1 a)).toNat < (d (ix1 b)).toNat <;> simp [h]
  unfold Host.sort2
  rw [dif_pos h0]
  refine (congrArg (fun c : Fin n => iotaInDim (shape1 n) 32 0 ((ix1 p).along ⟨0, h0⟩ c)) (congrFun (congrArg (sortedFrom (n := n)) hb) p)).trans ?_
  show iotaInDim (shape1 n) 32 0 ((ix1 p).along ⟨0, h0⟩ _) = _
  rw [e]
  rfl

/-- Sequences that agree up to `n` have equal counts up to `n`. -/
theorem rk_congr (f g : ℕ → ℕ) (k n : ℕ) (h : ∀ i < n, f i = g i) : rk f k n = rk g k n := by
  unfold rk
  induction n with
  | zero => simp
  | succ n ih => rw [Nat.count_succ, Nat.count_succ, ih fun i hi => h i (Nat.lt_succ_of_lt hi), h n (Nat.lt_succ_self n)]

/-- The count up to a place past `a` is the count up to `a` and the count from there. -/
theorem rk_add (f : ℕ → ℕ) (k a j : ℕ) : rk f k (a + j) = rk f k a + rk (fun i => f (a + i)) k j := Nat.count_add _ _ _

/-- How many entries equal to `k` the first `s` of four stretches of length `B` hold. -/
def ahead (B : ℕ) (fs : Fin 4 → ℕ → ℕ) (k : ℕ) : ℕ → ℕ
  | 0 => 0
  | 1 => rk (fs 0) k B
  | 2 => rk (fs 0) k B + rk (fs 1) k B
  | _ => rk (fs 0) k B + rk (fs 1) k B + rk (fs 2) k B

theorem rk_stretch (B : ℕ) (f : ℕ → ℕ) (fs : Fin 4 → ℕ → ℕ) (hfs : ∀ (s : Fin 4) (j : ℕ), j < B → f (B * s.val + j) = fs s j) (k : ℕ) (s : Fin 4) (j : ℕ) (hj : j ≤ B) :
    rk f k (B * s.val + j) = rk f k (B * s.val) + rk (fs s) k j := by
  rw [rk_add]
  exact congrArg (_ + ·) (rk_congr _ _ _ _ fun i hi => hfs s i (by omega))

/-- The count up to the start of stretch `s` is the count over the stretches in front of it. -/
theorem rk_ahead (B : ℕ) (f : ℕ → ℕ) (fs : Fin 4 → ℕ → ℕ) (hfs : ∀ (s : Fin 4) (j : ℕ), j < B → f (B * s.val + j) = fs s j) (k : ℕ) (s : Fin 4) :
    rk f k (B * s.val) = ahead B fs k s.val := by
  have h0 : rk f k (B * 0) = 0 := by rw [Nat.mul_zero]; unfold rk; exact Nat.count_zero _
  have h1 : rk f k (B * 1) = rk (fs 0) k B := by
    exact (congrArg (rk f k) (Nat.mul_succ B 0)).trans ((rk_stretch B f fs hfs k 0 B le_rfl).trans ((congrArg (· + _) h0).trans (Nat.zero_add _)))
  have h2 : rk f k (B * 2) = rk (fs 0) k B + rk (fs 1) k B := by
    exact (congrArg (rk f k) (Nat.mul_succ B 1)).trans ((rk_stretch B f fs hfs k 1 B le_rfl).trans (congrArg (· + _) h1))
  have h3 : rk f k (B * 3) = rk (fs 0) k B + rk (fs 1) k B + rk (fs 2) k B := by
    exact (congrArg (rk f k) (Nat.mul_succ B 2)).trans ((rk_stretch B f fs hfs k 2 B le_rfl).trans (congrArg (· + _) h2))
  match s with
  | 0 => exact h0
  | 1 => exact h1
  | 2 => exact h2
  | 3 => exact h3

/-- Where every value below four is held by exactly 4096 entries, the number of entries below `k` is `4096 k`. -/
theorem below_bal (f : ℕ → ℕ) (bal : ∀ k < 4, rk f k 16384 = 4096) (k : ℕ) (hk : k ≤ 4) : below f k 16384 = 4096 * k := by
  induction k with
  | zero => exact below_zero f _
  | succ k ih => rw [below_succ, ih (by omega), bal k (by omega)]; omega

/-- Which entry a balanced stable sort puts at row `q` of stretch `c`: one of value `c`, which that many entries of value `c` precede. -/
theorem row_of (f : ℕ → ℕ) (fs : Fin 4 → ℕ → ℕ) (hfs : ∀ (s : Fin 4) (j : ℕ), j < 4096 → f (4096 * s.val + j) = fs s j) (bal : ∀ k < 4, rk f k 16384 = 4096)
    (h4 : ∀ i < 16384, f i < 4) (c : Fin 4) (q : ℕ) (hq : q < 4096) (s : Fin 4) (j : ℕ) (hj : j < 4096)
    (hp : 4096 * c.val + q = below f (f (4096 * s.val + j)) 16384 + rk f (f (4096 * s.val + j)) (4096 * s.val + j)) :
    fs s j = c.val ∧ q = ahead 4096 fs c.val s.val + rk (fs s) c.val j := by
  have hs := s.isLt
  have hg : 4096 * s.val + j < 16384 := by omega
  have hk := h4 _ hg
  rw [below_bal f bal _ hk.le] at hp
  have hl := rk_lt f hg
  rw [bal _ hk] at hl
  have e : f (4096 * s.val + j) = c.val := by omega
  rw [e, rk_stretch 4096 f fs hfs _ s j hj.le, rk_ahead 4096 f fs hfs] at hp
  rw [hfs s j hj] at e
  exact ⟨e, by omega⟩

end Cert.Cnt
-- ==== Proof.Value.lean ====
module

public import proofs.«01_k».proof.Proof.Frames
public import proofs.«01_k».proof.Proof.Sort

@[expose] public section

set_option maxRecDepth 16384

noncomputable section

namespace Cert.KernelIdeal.Hand

open Idealize.ShloMosaic Idealize.ShloMosaic.TcCoe Idealize.SL.Sem
open Idealize.ShloMosaic.ValueIdx Idealize.ShloMosaic.Routing
open Cert.KernelIdeal.Gen Cert.Cnt

variable {F : FTy → Type} [FloatOps F]
variable (m : (ℓ : Loc nD τ sig) → Buf (Elt F) ℓ) (ρ : Dev nD → PrngReg)

attribute [local irreducible] rk dn

/-- The result's row `q`, column `l`, is the output buffer's at row `q`, sublane `l / 128`, lane `l % 128`. -/
theorem out_val (c : Dev nD) (γ : Res m c) (q : Fin 4096) (l : Fin 1024) (q' : Fin 5248) (a : Fin 8) (b : Fin 128) (hq : q'.val = q.val) (hl : l.val = 128 * a.val + b.val) :
    StableHlo.after hostOps1 (V1 m c γ) (Proc.devRef .tc main_v26) (ix2 q l) = γ.1 (ix3 q' a b) := by
  have e : StableHlo.after hostOps1 (V1 m c γ) (Proc.devRef .tc main_v26)
      = shapeCast S4096x1024 (extractStridedSlice S4096x8x128 ![0, 0, 0] γ.1 slices_S5248x8x128_S4096x8x128_0_0_0) shapeCasts_S4096x8x128_S4096x1024 := by
    unfold hostOps1
    after_reads_simp
    rw [V1_out]
    rfl
  rw [e]
  refine (shapeCast_apply _ _ _ (ix3 q a b) ?_).trans (extractStridedSlice_apply _ _ _ _ _ fun t => ?_)
  · rw [Shape.rowMajor_val_two, Shape.rowMajor_val_three]
    show (q.val * 8 + a.val) * 128 + b.val = q.val * 1024 + l.val
    omega
  · match t with
    | ⟨0, _⟩ => show q'.val = 0 + q.val; omega
    | ⟨1, _⟩ => show a.val = 0 + a.val; omega
    | ⟨2, _⟩ => show b.val = 0 + b.val; omega

/-- What the kernel is handed of the rows: the argument's, its columns split over sublanes and lanes. -/
theorem X_val (c : Dev nD) (j : Fin 4096) (l : Fin 1024) (a : Fin 8) (b : Fin 128) (hl : l.val = 128 * a.val + b.val) :
    (inp m).X c (ix3 j a b) = m ((c.tc : Thread nD τ).loc main_arg0) (ix2 j l) := by
  show V m c main_v23 (ix3 j a b) = _
  rw [V_v23]
  refine shapeCast_apply _ _ _ (ix2 j l) ?_
  rw [Shape.rowMajor_val_two, Shape.rowMajor_val_three]
  show j.val * 1024 + l.val = (j.val * 8 + a.val) * 128 + b.val
  omega

theorem cn_val (c s : Dev nD) : cn (inp m) c s = rk (dn (N := 4096) (dst m s)) c.val 4096 := by
  have h := C2_val m s (ix4 c)
  have e : ((ix4 c) 0).val = c.val := rfl
  rw [e] at h
  exact h

theorem start_zero (I : Inp F) (c : Dev nD) : start I c 0 = 0 := rfl
theorem start_one (I : Inp F) (c : Dev nD) : start I c 1 = cn I c 0 := rfl
theorem start_two (I : Inp F) (c : Dev nD) : start I c 2 = cn I c 0 + cn I c 1 := rfl
theorem start_three (I : Inp F) (c : Dev nD) : start I c 3 = cn I c 0 + cn I c 1 + cn I c 2 := rfl

theorem ahead_zero (B : ℕ) (fs : Fin 4 → ℕ → ℕ) (k : ℕ) : ahead B fs k 0 = 0 := rfl
theorem ahead_one (B : ℕ) (fs : Fin 4 → ℕ → ℕ) (k : ℕ) : ahead B fs k 1 = rk (fs 0) k B := rfl
theorem ahead_two (B : ℕ) (fs : Fin 4 → ℕ → ℕ) (k : ℕ) : ahead B fs k 2 = rk (fs 0) k B + rk (fs 1) k B := rfl
theorem ahead_three (B : ℕ) (fs : Fin 4 → ℕ → ℕ) (k : ℕ) : ahead B fs k 3 = rk (fs 0) k B + rk (fs 1) k B + rk (fs 2) k B := rfl

/-- Where device `s`'s rows start on device `c`: after those that the devices in front of `s` have for it. -/
theorem start_val (c : Dev nD) (s : ℕ) (hs : s < 4) : start (inp m) c s = ahead 4096 (fun s' : Fin 4 => dn (N := 4096) (dst m s')) c.val s := by
  have h : s = 0 ∨ s = 1 ∨ s = 2 ∨ s = 3 := by omega
  rcases h with h | h | h | h <;> subst h
  · rw [start_zero, ahead_zero]
  · rw [start_one, ahead_one, cn_val]
  · rw [start_two, ahead_two, cn_val, cn_val]
  · rw [start_three, ahead_three, cn_val, cn_val, cn_val]

/-- Row `j` of device `s`, addressed to device `c`, ends on `c` after the rows of the devices in front of `s` and the earlier ones of `s`. -/
theorem row_val (hf : ∀ c, Fit (dn (N := 4096) (dst m c))) (c : Dev nD) (γ : Res m c) (s : Dev nD) (j q : Fin 4096) (hj : dn (N := 4096) (dst m s) j.val = c.val)
    (hq : q.val = ahead 4096 (fun s' : Fin 4 => dn (N := 4096) (dst m s')) c.val s.val + rk (dn (N := 4096) (dst m s)) c.val j.val) (l : Fin 1024) :
    StableHlo.after hostOps1 (V1 m c γ) (Proc.devRef .tc main_v26) (ix2 q l) = m ((s.tc : Thread nD τ).loc main_arg0) (ix2 j l) := by
  have ha : l.val / 128 < 8 := by omega
  have hb : l.val % 128 < 128 := by omega
  have hl : l.val = 128 * (⟨l.val / 128, ha⟩ : Fin 8).val + (⟨l.val % 128, hb⟩ : Fin 128).val := (Nat.div_add_mod _ _).symm
  rw [out_val m c γ q l ⟨q.val, by omega⟩ ⟨l.val / 128, ha⟩ ⟨l.val % 128, hb⟩ rfl hl, ← X_val m s j l ⟨l.val / 128, ha⟩ ⟨l.val % 128, hb⟩ hl]
  have hx := rk_lt (dn (N := 4096) (dst m s)) j.isLt
  rw [hj] at hx
  refine γ.2 s (ix1 j) _ (rk (dn (N := 4096) (dst m s)) c.val j.val) _ s.isLt (lt_of_lt_of_le hx ((hf s).2 c.val c.isLt)) rfl ?_ ?_ rfl rfl
  · rw [P_val m hf s]
    show 1152 * dn (N := 4096) (dst m s) j.val + rk (dn (N := 4096) (dst m s)) (dn (N := 4096) (dst m s) j.val) j.val = _
    rw [hj]
  · rw [start_val m c s.val s.isLt]
    exact hq

end Cert.KernelIdeal.Hand
-- ==== Proof.RefVal.lean ====
module

public import proofs.«01_k».proof.Proof.Ref
public import proofs.«01_k».proof.Proof.Sort

@[expose] public section

noncomputable section

namespace Cert.ReferenceIdeal.Hand

open Cert.ReferenceIdeal Cert.ReferenceIdeal.Gen
open Idealize.ShloMosaic Idealize.ShloMosaic.ValueIdx Idealize.ShloMosaic.Routing Cert.Cnt

variable {F : FTy → Type} [FloatOps F]

/-- The reference's row `p` is the row of `x` that the stable sort of the destinations puts at `p`. -/
theorem refOut_apply (x : FVec F S16384x1024 .f32) (d : IVec S16384 32) (hd : ∀ i < 16384, dn (N := 16384) d i < 2 ^ 31) (p : Fin 16384) (l : Fin 1024) :
    refOut x d (ix2 p l) = x (ix2 (sortedFrom (fun a b : Fin 16384 => decide (dn (N := 16384) d a.val < dn (N := 16384) d b.val)) p) l) := by
  unfold refOut
  refine gather_row _ rfl rfl rfl rfl rfl x _ p l _ ?_ (by decide)
  refine (bcCol (n := 16384) bcast_S16384_S16384x1_0 _ p).trans ?_
  have ho : order d (ix1 p) = _ := argsort_apply (n := 16384) d comparator_i32_i32_d0 (fun _ _ => rfl) hd p
  have hlt := (sortedFrom (fun a b : Fin 16384 => decide (dn (N := 16384) d a.val < dn (N := 16384) d b.val)) p).isLt
  refine (wrap_of_lt (order d (ix1 p)) _ ?_).trans ho
  rw [ho, WordCmp.toNat_ofNat_of_lt (by omega)]
  omega

end Cert.ReferenceIdeal.Hand
-- ==== Proof.Agree.lean ====
module

public import proofs.«01_k».proof.Proof.Value
public import proofs.«01_k».proof.Proof.RefVal

@[expose] public section

set_option maxRecDepth 16384

noncomputable section

/-! # The kernel's result is its block of the reference's, where every rank is addressed 4096 times -/

namespace Cert.KernelIdeal.Hand

open Idealize.ShloMosaic Idealize.ShloMosaic.TcCoe Idealize.SL.Sem
open Idealize.ShloMosaic.ValueIdx Idealize.ShloMosaic.Routing
open Cert.KernelIdeal.Gen Cert.Cnt

variable {F : FTy → Type} [FloatOps F]
variable (m : (ℓ : Loc nD τ sig) → Buf (Elt F) ℓ)

attribute [local irreducible] rk dn below

/-- Row `j` of block `s` is row `4096 s + j` of the whole. -/
theorem row_block {α : Type} (x : (shape2 16384 1024).Idx → α) (s : Fin 4) (j : Fin 4096) (l : Fin 1024) (g : Fin 16384) (hg : g.val = 4096 * s.val + j.val) :
    Layout.block ⟨2, ![4096, 1024]⟩ ⟨2, ![16384, 1024]⟩ 0 4 s x (by decide) (ix2 j l) = x (ix2 g l) := by
  refine congrArg x (funext fun a => Fin.ext ?_)
  match a with
  | ⟨0, _⟩ => show s.val * 4096 + j.val = g.val; omega
  | ⟨1, _⟩ => rfl

/-- Entry `j` of block `s` is entry `4096 s + j` of the whole. -/
theorem entry_block {α : Type} (x : (shape1 16384).Idx → α) (s : Fin 4) (j : Fin 4096) (g : Fin 16384) (hg : g.val = 4096 * s.val + j.val) :
    Layout.block ⟨1, ![4096]⟩ ⟨1, ![16384]⟩ 0 4 s x (by decide) (ix1 j) = x (ix1 g) := by
  refine congrArg x (funext fun a => Fin.ext ?_)
  match a with
  | ⟨0, _⟩ => show s.val * 4096 + j.val = g.val; omega

/-- The whole's destinations over stretch `s` are device `s`'s. -/
theorem dn_block (d : IVec (shape1 16384) 32) (hd : ∀ c : Fin 4, dst m c = Layout.block ⟨1, ![4096]⟩ ⟨1, ![16384]⟩ 0 4 c d (by decide))
    (s : Fin 4) (j : ℕ) (hj : j < 4096) : dn d (4096 * s.val + j) = dn (N := 4096) (dst m s) j := by
  have hs := s.isLt
  have hg : 4096 * s.val + j < 16384 := by omega
  have e1 := dn_fin d ⟨4096 * s.val + j, hg⟩
  have e2 := dn_fin (N := 4096) (dst m s) ⟨j, hj⟩
  refine e1.trans (Eq.trans ?_ e2.symm)
  refine congrArg BitVec.toNat (Eq.trans ?_ (congrFun (hd s) (ix1 (⟨j, hj⟩ : Fin 4096))).symm)
  exact (entry_block d s ⟨j, hj⟩ ⟨4096 * s.val + j, hg⟩ rfl).symm

/-- Where the devices' blocks are those of whole arrays that address every rank 4096 times, device `c`'s result is block `c` of the reference's. -/
theorem agree (hf : ∀ c, Fit (dn (N := 4096) (dst m c))) (x : FVec F (shape2 16384 1024) .f32) (d : IVec (shape1 16384) 32)
    (hx : ∀ c : Dev nD, m ((c.tc : Thread nD τ).loc main_arg0) = Layout.block ⟨2, ![4096, 1024]⟩ ⟨2, ![16384, 1024]⟩ 0 4 c x (by decide))
    (hd : ∀ c : Fin 4, dst m c = Layout.block ⟨1, ![4096]⟩ ⟨1, ![16384]⟩ 0 4 c d (by decide))
    (bal : ∀ k < 4, rk (dn d) k 16384 = 4096) (c : Fin 4) (γ : Res m c) (i : (shape2 4096 1024).Idx) :
    StableHlo.after hostOps1 (V1 m c γ) (Proc.devRef .tc main_v26) i
      = Layout.block ⟨2, ![4096, 1024]⟩ ⟨2, ![16384, 1024]⟩ 0 4 c (Cert.ReferenceIdeal.Hand.refOut x d) (by decide) i := by
  obtain ⟨q, l, rfl⟩ : ∃ (q : Fin 4096) (l : Fin 1024), i = ix2 q l := ⟨i 0, i 1, eq_ix2 i⟩
  have hc := c.isLt
  have hp : 4096 * c.val + q.val < 16384 := by omega
  have h4 : ∀ i < 16384, dn d i < 4 := by
    intro i hi
    have hs : i / 4096 < 4 := by omega
    have e := dn_block m d hd ⟨i / 4096, hs⟩ (i % 4096) (by omega)
    rw [show 4096 * (⟨i / 4096, hs⟩ : Fin 4).val + i % 4096 = i from Nat.div_add_mod _ _] at e
    rw [e]
    exact (hf ⟨i / 4096, hs⟩).1 _ (by omega)
  rw [row_block (Cert.ReferenceIdeal.Hand.refOut x d) c q l ⟨4096 * c.val + q.val, hp⟩ rfl]
  refine Eq.trans ?_ (Cert.ReferenceIdeal.Hand.refOut_apply x d (fun i hi => lt_trans (h4 i hi) (by decide)) ⟨4096 * c.val + q.val, hp⟩ l).symm
  obtain ⟨g, hg⟩ : ∃ g, sortedFrom (fun a b : Fin 16384 => decide (dn d a.val < dn d b.val)) ⟨4096 * c.val + q.val, hp⟩ = g := ⟨_, rfl⟩
  have hplace := sorted_place (dn d) h4 _ g hg
  have hs : g.val / 4096 < 4 := by omega
  have hj : g.val % 4096 < 4096 := by omega
  have hgs : g.val = 4096 * (⟨g.val / 4096, hs⟩ : Fin 4).val + (⟨g.val % 4096, hj⟩ : Fin 4096).val := (Nat.div_add_mod _ _).symm
  have hplace' : 4096 * c.val + q.val = below (dn d) (dn d (4096 * (⟨g.val / 4096, hs⟩ : Fin 4).val + (⟨g.val % 4096, hj⟩ : Fin 4096).val)) 16384
      + rk (dn d) (dn d (4096 * (⟨g.val / 4096, hs⟩ : Fin 4).val + (⟨g.val % 4096, hj⟩ : Fin 4096).val)) (4096 * (⟨g.val / 4096, hs⟩ : Fin 4).val + (⟨g.val % 4096, hj⟩ : Fin 4096).val) := by
    rw [← hgs]
    exact hplace
  obtain ⟨hk, hq⟩ := row_of (dn d) (fun s' : Fin 4 => dn (N := 4096) (dst m s')) (dn_block m d hd) bal h4 c q.val q.isLt ⟨g.val / 4096, hs⟩ (g.val % 4096) hj hplace'
  refine (row_val m hf c γ ⟨g.val / 4096, hs⟩ ⟨g.val % 4096, hj⟩ q hk hq l).trans ?_
  refine (congrFun (hx ⟨g.val / 4096, hs⟩) (ix2 (⟨g.val % 4096, hj⟩ : Fin 4096) l)).trans ?_
  refine (row_block x ⟨g.val / 4096, hs⟩ ⟨g.val % 4096, hj⟩ l g hgs).trans ?_
  exact congrArg (fun t => x (ix2 t l)) hg.symm

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_slots_suffice_Kernel
public import proofs.«01_k».proof.Proof.Gen.Pre_slots_suffice_ReferenceIdeal
public import proofs.«01_k».proof.Proof.Gen.On_balanced
public import proofs.«01_k».proof.Proof.Pre
public import proofs.«01_k».proof.Proof.Ref
public import proofs.«01_k».proof.Proof.Agree
public import proofs.«01_k».proof.Proof.K.Frames
public import Idealize.ShloMosaic.Adequacy
public import Idealize.ShloMosaic.Init

@[expose] public section

noncomputable section

namespace Cert.Proof

open Idealize.ShloMosaic Idealize.SL.Sem Cert.Kernel

/-- The kernel runs, its arguments unchanged and every counter at zero, where the precondition holds of every device's blocks. -/
theorem frame_kernel : Cert.quiescent_Kernel (hKernel := Cert.Kernel.Gen.facts) (hPre_slots_suffice_Kernel := Cert.Pre_slots_suffice_Kernel.Gen.facts) :=
  fun m g hp => Cert.Kernel.Hand.frames m g fun c => Cert.Cnt.fit_of_pre _ _ (hp c)

/-- The same of the kernel over the extended reals. -/
theorem frame_kernelIdeal : Cert.quiescent_KernelIdeal (hKernelIdeal := Cert.KernelIdeal.Gen.facts) (hPre_slots_suffice_Kernel := Cert.Pre_slots_suffice_Kernel.Gen.facts) :=
  fun m g hp => Cert.KernelIdeal.Hand.frames m g fun c => Cert.Cnt.fit_of_pre _ _ (hp c)

/-- The reference runs, its arguments unchanged and every counter at zero. -/
theorem frame_referenceIdeal : Cert.quiescent_ReferenceIdeal (hReferenceIdeal := Cert.ReferenceIdeal.Gen.facts) :=
  fun m g _ => (θ_run (Cert.ReferenceIdeal.defs (F := Ideal)) _ _).mono (fun _ h => ⟨fun c => (h.1 c).2, h.2⟩) (Cert.ReferenceIdeal.Hand.run_ref m g)

theorem frame_referenceIdeal_pre : Cert.quiescent_ReferenceIdeal_pre_slots_suffice_ReferenceIdeal (hReferenceIdeal := Cert.ReferenceIdeal.Gen.facts)
    (hPre_slots_suffice_ReferenceIdeal := Cert.Pre_slots_suffice_ReferenceIdeal.Gen.facts) :=
  fun m g _ => (θ_run (Cert.ReferenceIdeal.defs (F := Ideal)) _ _).mono (fun _ h => ⟨fun c => (h.1 c).2, h.2⟩) (Cert.ReferenceIdeal.Hand.run_ref m g)

/-- Each device's result is its block of the reference's, where every rank is addressed 4096 times. -/
theorem value : Cert.algebraic_KernelIdeal_ReferenceIdeal_on_balanced (hKernelIdeal := Cert.KernelIdeal.Gen.facts) (hReferenceIdeal := Cert.ReferenceIdeal.Gen.facts)
    (hPre_slots_suffice_Kernel := Cert.Pre_slots_suffice_Kernel.Gen.facts) (hOn_balanced := Cert.On_balanced.Gen.facts) := by
  intro m g m' g' hp hb
  have hf : ∀ c, Cert.Cnt.Fit (Cert.Cnt.dn (N := 4096) (Cert.KernelIdeal.Hand.dst m c)) := fun c => Cert.Cnt.fit_of_pre _ _ (hp c)
  refine ⟨Cert.ReferenceIdeal.Hand.refOut (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ?_) (Cert.KernelIdeal.Hand.run_main m g (Cert.KernelIdeal.Hand.good m hf))
    obtain ⟨γ, hγ⟩ := h.1 c
    refine ⟨fun i hi => ?_, (hγ Cert.KernelIdeal.main_arg0 rfl).trans (Cert.KernelIdeal.Hand.end_arg0 m c γ), (hγ Cert.KernelIdeal.main_arg1 rfl).trans (Cert.KernelIdeal.Hand.end_arg1 m c γ)⟩
    rw [hγ Cert.KernelIdeal.main_v26 rfl]
    exact Cert.KernelIdeal.Hand.agree m hf _ _ (fun c => (hb c).1) (fun c => (hb c).2) (Cert.Cnt.bal_of_mask _ _ _ hi) c γ i
  · exact (θ_run (Cert.ReferenceIdeal.defs (F := Ideal)) _ _).mono (fun r h => ⟨fun i _ => congrFun (h.1 0).1 i, (h.1 0).2⟩) (Cert.ReferenceIdeal.Hand.run_ref m' g')

theorem claim : Cert.Claim := ⟨Cert.Kernel.Gen.facts, Cert.KernelIdeal.Gen.facts, Cert.ReferenceIdeal.Gen.facts, Cert.Pre_slots_suffice_Kernel.Gen.facts, Cert.Pre_slots_suffice_ReferenceIdeal.Gen.facts, Cert.On_balanced.Gen.facts,
  frame_kernel, frame_kernelIdeal, frame_referenceIdeal, frame_referenceIdeal_pre, trivial, value⟩

end Cert.Proof

end
